-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_finite : Cert.Pre_finite.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ algebraic_KernelIdeal_ReferenceIdeal_pre_finite (hKernelIdeal := hKernelIdeal) (hReferenceIdeal := hReferenceIdeal) (hPre_finite := hPre_finite)
-- ==== Pre_finite.lean ====
abbrev S8x96x128x128 : Shape := ⟨4, ![8, 96, 128, 128]⟩
abbrev S_ : Shape := ⟨0, ![]⟩

class Facts : Prop where
  bcast_S_S8x96x128x128 : S_.BroadcastsInDim S8x96x128x128 (![] : Fin 0 → Fin S8x96x128x128.rank)
  reducesTo_S8x96x128x128_S_d0_1_2_3 : S8x96x128x128.ReducesTo [0, 1, 2, 3] S_
  h_S_ : 0 < S_.numel

variable [Facts]

def fn {F : FTy → Type} [FloatOps F] (main_arg0 : FVec F S8x96x128x128 .f32) (main_arg1 : IVec S_ 1) : IVec S_ 1 :=
  let main_cst : FVec F S_ .f32 := constant S_ .f32 0xFF800000#32
  let main_v0 : FVec F S8x96x128x128 .f32 := broadcastInDim S8x96x128x128 ![] bcast_S_S8x96x128x128 main_cst
  let main_v1 : IVec S8x96x128x128 1 := cmpf .ogt main_arg0 main_v0
  let main_cst_0 : FVec F S_ .f32 := constant S_ .f32 0x7F800000#32
  let main_v2 : FVec F S8x96x128x128 .f32 := broadcastInDim S8x96x128x128 ![] bcast_S_S8x96x128x128 main_cst_0
  let main_v3 : IVec S8x96x128x128 1 := cmpf .olt main_arg0 main_v2
  let main_v4 : IVec S8x96x128x128 1 := andi main_v1 main_v3
  let main_c : IVec S_ 1 := constantI S_ 1 1#1
  let main_v5 : IVec S_ 1 := (fun x v => Host.reduce IntOp.andi x v reducesTo_S8x96x128x128_S_d0_1_2_3 h_S_) main_v4 main_c
  main_v5
-- ==== KernelIdeal.lean ====
abbrev S8x96x128x128 : Shape := ⟨4, ![8, 96, 128, 128]⟩
abbrev S_ : Shape := ⟨0, ![]⟩
abbrev S8x8x96 : Shape := ⟨3, ![8, 8, 96]⟩
abbrev S8x8x128x128 : Shape := ⟨4, ![8, 8, 128, 128]⟩
abbrev S8x1x128x128 : Shape := ⟨4, ![8, 1, 128, 128]⟩
abbrev S1x96x128x128 : Shape := ⟨4, ![1, 96, 128, 128]⟩
abbrev S1x8x96 : Shape := ⟨3, ![1, 8, 96]⟩
abbrev S1x8x128x128 : Shape := ⟨4, ![1, 8, 128, 128]⟩
abbrev S1x1x128x128 : Shape := ⟨4, ![1, 1, 128, 128]⟩
abbrev S96x128x128 : Shape := ⟨3, ![96, 128, 128]⟩
abbrev S128x128 : Shape := ⟨2, ![128, 128]⟩
abbrev S1x1x128 : Shape := ⟨3, ![1, 1, 128]⟩
abbrev S1x96x1x128 : Shape := ⟨4, ![1, 96, 1, 128]⟩
abbrev S96x1x128 : Shape := ⟨3, ![96, 1, 128]⟩
abbrev S96x1x1 : Shape := ⟨3, ![96, 1, 1]⟩
abbrev S1x1x1x128 : Shape := ⟨4, ![1, 1, 1, 128]⟩
abbrev S1x128 : Shape := ⟨2, ![1, 128]⟩
abbrev S1x96x1x1 : Shape := ⟨4, ![1, 96, 1, 1]⟩
abbrev S1 : Shape := ⟨1, ![1]⟩
abbrev S1x1x1x1 : Shape := ⟨4, ![1, 1, 1, 1]⟩
abbrev S1x128x128 : Shape := ⟨3, ![1, 128, 128]⟩
abbrev S1x1x1 : Shape := ⟨3, ![1, 1, 1]⟩
abbrev S96 : Shape := ⟨1, ![96]⟩
abbrev S1x1x96 : Shape := ⟨3, ![1, 1, 96]⟩

abbrev nBuf : Space → Nat
  | .hbm => 5
  | .vmem => 8
  | .smem => 0
  | _ => 0

abbrev bufTy : (tb : Table) → Fin (tcTables nBuf tb) → BufTy
  | .hbm, ⟨0, _⟩ => ⟨S8x96x128x128, .f32⟩
  | .hbm, ⟨1, _⟩ => ⟨S_, .i1⟩
  | .hbm, ⟨2, _⟩ => ⟨S8x8x96, .f32⟩
  | .hbm, ⟨3, _⟩ => ⟨S8x8x128x128, .f32⟩
  | .hbm, ⟨4, _⟩ => ⟨S8x1x128x128, .f32⟩
  | .local _ .vmem, ⟨0, _⟩ => ⟨S1x96x128x128, .f32⟩
  | .local _ .vmem, ⟨1, _⟩ => ⟨S1x96x128x128, .f32⟩
  | .local _ .vmem, ⟨2, _⟩ => ⟨S1x8x96, .f32⟩
  | .local _ .vmem, ⟨3, _⟩ => ⟨S1x8x96, .f32⟩
  | .local _ .vmem, ⟨4, _⟩ => ⟨S1x8x128x128, .f32⟩
  | .local _ .vmem, ⟨5, _⟩ => ⟨S1x8x128x128, .f32⟩
  | .local _ .vmem, ⟨6, _⟩ => ⟨S1x1x128x128, .f32⟩
  | .local _ .vmem, ⟨7, _⟩ => ⟨S1x1x128x128, .f32⟩
  | _, _ => ⟨S8x96x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F] [Named F]

def κ : String → Option EReal := fun
  | "twentieth" => some ((-1 / 20 : ℝ) : EReal)
  | _ => none

abbrev grid0 : Pipeline.Grid := ⟨1, ![8], ![false]⟩

def k0_off1 : Fin 4 → Nat :=
  let c0_20 : Index := 0#32
  let c0_21 : Index := 0#32
  let c8192_i32 : BitVec 32 := 8192#32
  let c0_i32 : BitVec 32 := 0#32
  let v15 : BitVec 1 := Scalar.cmpi .sgt c8192_i32 c0_i32
  let v16 : BitVec 32 := Scalar.extui v15
  let c0_i32_9 : BitVec 32 := 0#32
  let v17 : BitVec 1 := Scalar.cmpi .slt c8192_i32 c0_i32_9
  let v18 : BitVec 32 := Scalar.extui v17
  let v19 : BitVec 32 := Scalar.subi v16 v18
  let c128_i32_8 : BitVec 32 := 128#32
  let c0_i32_10 : BitVec 32 := 0#32
  let v20 : BitVec 1 := Scalar.cmpi .sgt c128_i32_8 c0_i32_10
  let v21 : BitVec 32 := Scalar.extui v20
  let c0_i32_11 : BitVec 32 := 0#32
  let v22 : BitVec 1 := Scalar.cmpi .slt c128_i32_8 c0_i32_11
  let v23 : BitVec 32 := Scalar.extui v22
  let v24 : BitVec 32 := Scalar.subi v21 v23
  let v25 : BitVec 1 := Scalar.cmpi .ne v19 v24
  let v26 : BitVec 32 := Scalar.remsi c8192_i32 c128_i32_8
  let c0_i32_12 : BitVec 32 := 0#32
  let v27 : BitVec 1 := Scalar.cmpi .ne v26 c0_i32_12
  let v28 : BitVec 1 := Scalar.andi v25 v27
  let v14 : BitVec 32 := Scalar.divsi c8192_i32 c128_i32_8
  let c1_i32 : BitVec 32 := 1#32
  let v29 : BitVec 32 := Scalar.subi v14 c1_i32
  let v30 : BitVec 32 := Scalar.select v28 v29 v14
  let v41 : Index := Scalar.indexCast v30
  let c0_22 : Index := 0#32
  ![0, 0, v41.toNat, 0]
def k0_off2 : Fin 4 → Nat :=
  let c0_39 : Index := 0#32
  let c0_40 : Index := 0#32
  let c8192_i32_24 : BitVec 32 := 8192#32
  let c0_i32_26 : BitVec 32 := 0#32
  let v48 : BitVec 1 := Scalar.cmpi .sgt c8192_i32_24 c0_i32_26
  let v49 : BitVec 32 := Scalar.extui v48
  let c0_i32_27 : BitVec 32 := 0#32
  let v50 : BitVec 1 := Scalar.cmpi .slt c8192_i32_24 c0_i32_27
  let v51 : BitVec 32 := Scalar.extui v50
  let v52 : BitVec 32 := Scalar.subi v49 v51
  let c128_i32_25 : BitVec 32 := 128#32
  let c0_i32_28 : BitVec 32 := 0#32
  let v53 : BitVec 1 := Scalar.cmpi .sgt c128_i32_25 c0_i32_28
  let v54 : BitVec 32 := Scalar.extui v53
  let c0_i32_29 : BitVec 32 := 0#32
  let v55 : BitVec 1 := Scalar.cmpi .slt c128_i32_25 c0_i32_29
  let v56 : BitVec 32 := Scalar.extui v55
  let v57 : BitVec 32 := Scalar.subi v54 v56
  let v58 : BitVec 1 := Scalar.cmpi .ne v52 v57
  let v59 : BitVec 32 := Scalar.remsi c8192_i32_24 c128_i32_25
  let c0_i32_30 : BitVec 32 := 0#32
  let v60 : BitVec 1 := Scalar.cmpi .ne v59 c0_i32_30
  let v61 : BitVec 1 := Scalar.andi v58 v60
  let v47 : BitVec 32 := Scalar.divsi c8192_i32_24 c128_i32_25
  let c1_i32_31 : BitVec 32 := 1#32
  let v62 : BitVec 32 := Scalar.subi v47 c1_i32_31
  let v63 : BitVec 32 := Scalar.select v61 v62 v47
  let v74 : Index := Scalar.indexCast v63
  let c0_41 : Index := 0#32
  ![0, 0, v74.toNat, 0]
def k0_off3 (v126 : BitVec 32) : Fin 4 → Nat :=
  let c0_72 : Index := 0#32
  let c0_73 : Index := 0#32
  let c0_i32_60 : BitVec 32 := 0#32
  let v128 : BitVec 1 := Scalar.cmpi .sgt v126 c0_i32_60
  let v129 : BitVec 32 := Scalar.extui v128
  let c0_i32_61 : BitVec 32 := 0#32
  let v130 : BitVec 1 := Scalar.cmpi .slt v126 c0_i32_61
  let v131 : BitVec 32 := Scalar.extui v130
  let v132 : BitVec 32 := Scalar.subi v129 v131
  let c128_i32_59 : BitVec 32 := 128#32
  let c0_i32_62 : BitVec 32 := 0#32
  let v133 : BitVec 1 := Scalar.cmpi .sgt c128_i32_59 c0_i32_62
  let v134 : BitVec 32 := Scalar.extui v133
  let c0_i32_63 : BitVec 32 := 0#32
  let v135 : BitVec 1 := Scalar.cmpi .slt c128_i32_59 c0_i32_63
  let v136 : BitVec 32 := Scalar.extui v135
  let v137 : BitVec 32 := Scalar.subi v134 v136
  let v138 : BitVec 1 := Scalar.cmpi .ne v132 v137
  let v139 : BitVec 32 := Scalar.remsi v126 c128_i32_59
  let c0_i32_64 : BitVec 32 := 0#32
  let v140 : BitVec 1 := Scalar.cmpi .ne v139 c0_i32_64
  let v141 : BitVec 1 := Scalar.andi v138 v140
  let v127 : BitVec 32 := Scalar.divsi v126 c128_i32_59
  let c1_i32_65 : BitVec 32 := 1#32
  let v142 : BitVec 32 := Scalar.subi v127 c1_i32_65
  let v143 : BitVec 32 := Scalar.select v141 v142 v127
  let v154 : Index := Scalar.indexCast v143
  let c0_74 : Index := 0#32
  ![0, 0, v154.toNat, 0]

def k0_off4 (v126 : BitVec 32) : Fin 4 → Nat :=
  let c0_95 : Index := 0#32
  let c0_96 : Index := 0#32
  let c0_i32_83 : BitVec 32 := 0#32
  let v175 : BitVec 1 := Scalar.cmpi .sgt v126 c0_i32_83
  let v176 : BitVec 32 := Scalar.extui v175
  let c0_i32_84 : BitVec 32 := 0#32
  let v177 : BitVec 1 := Scalar.cmpi .slt v126 c0_i32_84
  let v178 : BitVec 32 := Scalar.extui v177
  let v179 : BitVec 32 := Scalar.subi v176 v178
  let c128_i32_82 : BitVec 32 := 128#32
  let c0_i32_85 : BitVec 32 := 0#32
  let v180 : BitVec 1 := Scalar.cmpi .sgt c128_i32_82 c0_i32_85
  let v181 : BitVec 32 := Scalar.extui v180
  let c0_i32_86 : BitVec 32 := 0#32
  let v182 : BitVec 1 := Scalar.cmpi .slt c128_i32_82 c0_i32_86
  let v183 : BitVec 32 := Scalar.extui v182
  let v184 : BitVec 32 := Scalar.subi v181 v183
  let v185 : BitVec 1 := Scalar.cmpi .ne v179 v184
  let v186 : BitVec 32 := Scalar.remsi v126 c128_i32_82
  let c0_i32_87 : BitVec 32 := 0#32
  let v187 : BitVec 1 := Scalar.cmpi .ne v186 c0_i32_87
  let v188 : BitVec 1 := Scalar.andi v185 v187
  let v174 : BitVec 32 := Scalar.divsi v126 c128_i32_82
  let c1_i32_88 : BitVec 32 := 1#32
  let v189 : BitVec 32 := Scalar.subi v174 c1_i32_88
  let v190 : BitVec 32 := Scalar.select v188 v189 v174
  let v201 : Index := Scalar.indexCast v190
  let c0_97 : Index := 0#32
  ![0, 0, v201.toNat, 0]

def k0_chk1 (v126 : BitVec 32) : Prop :=
  (∀ a, (k0_off3 v126) a + S1x96x1x128.size a ≤ S1x96x128x128.size a) ∧
  (∀ a, (k0_off4 v126) a + S1x1x1x128.size a ≤ S1x1x128x128.size a)
theorem k0_off3_inb : ∀ (v126 : BitVec 32) (k0_hw1 : k0_chk1 v126), ∀ a, (k0_off3 v126) a + S1x96x1x128.size a ≤ S1x96x128x128.size a := fun v126 k0_hw1 => k0_hw1.1
theorem k0_off4_inb : ∀ (v126 : BitVec 32) (k0_hw1 : k0_chk1 v126), ∀ a, (k0_off4 v126) a + S1x1x1x128.size a ≤ S1x1x128x128.size a := fun v126 k0_hw1 => k0_hw1.2

def k0_off5 (v254 : BitVec 32) : Fin 4 → Nat :=
  let c0_127 : Index := 0#32
  let c0_128 : Index := 0#32
  let c0_i32_115 : BitVec 32 := 0#32
  let v256 : BitVec 1 := Scalar.cmpi .sgt v254 c0_i32_115
  let v257 : BitVec 32 := Scalar.extui v256
  let c0_i32_116 : BitVec 32 := 0#32
  let v258 : BitVec 1 := Scalar.cmpi .slt v254 c0_i32_116
  let v259 : BitVec 32 := Scalar.extui v258
  let v260 : BitVec 32 := Scalar.subi v257 v259
  let c128_i32_114 : BitVec 32 := 128#32
  let c0_i32_117 : BitVec 32 := 0#32
  let v261 : BitVec 1 := Scalar.cmpi .sgt c128_i32_114 c0_i32_117
  let v262 : BitVec 32 := Scalar.extui v261
  let c0_i32_118 : BitVec 32 := 0#32
  let v263 : BitVec 1 := Scalar.cmpi .slt c128_i32_114 c0_i32_118
  let v264 : BitVec 32 := Scalar.extui v263
  let v265 : BitVec 32 := Scalar.subi v262 v264
  let v266 : BitVec 1 := Scalar.cmpi .ne v260 v265
  let v267 : BitVec 32 := Scalar.remsi v254 c128_i32_114
  let c0_i32_119 : BitVec 32 := 0#32
  let v268 : BitVec 1 := Scalar.cmpi .ne v267 c0_i32_119
  let v269 : BitVec 1 := Scalar.andi v266 v268
  let v255 : BitVec 32 := Scalar.divsi v254 c128_i32_114
  let c1_i32_120 : BitVec 32 := 1#32
  let v270 : BitVec 32 := Scalar.subi v255 c1_i32_120
  let v271 : BitVec 32 := Scalar.select v269 v270 v255
  let v282 : Index := Scalar.indexCast v271
  let c0_129 : Index := 0#32
  ![0, 0, v282.toNat, 0]

def k0_off6 (v254 : BitVec 32) : Fin 4 → Nat :=
  let c0_150 : Index := 0#32
  let c0_151 : Index := 0#32
  let c0_i32_138 : BitVec 32 := 0#32
  let v303 : BitVec 1 := Scalar.cmpi .sgt v254 c0_i32_138
  let v304 : BitVec 32 := Scalar.extui v303
  let c0_i32_139 : BitVec 32 := 0#32
  let v305 : BitVec 1 := Scalar.cmpi .slt v254 c0_i32_139
  let v306 : BitVec 32 := Scalar.extui v305
  let v307 : BitVec 32 := Scalar.subi v304 v306
  let c128_i32_137 : BitVec 32 := 128#32
  let c0_i32_140 : BitVec 32 := 0#32
  let v308 : BitVec 1 := Scalar.cmpi .sgt c128_i32_137 c0_i32_140
  let v309 : BitVec 32 := Scalar.extui v308
  let c0_i32_141 : BitVec 32 := 0#32
  let v310 : BitVec 1 := Scalar.cmpi .slt c128_i32_137 c0_i32_141
  let v311 : BitVec 32 := Scalar.extui v310
  let v312 : BitVec 32 := Scalar.subi v309 v311
  let v313 : BitVec 1 := Scalar.cmpi .ne v307 v312
  let v314 : BitVec 32 := Scalar.remsi v254 c128_i32_137
  let c0_i32_142 : BitVec 32 := 0#32
  let v315 : BitVec 1 := Scalar.cmpi .ne v314 c0_i32_142
  let v316 : BitVec 1 := Scalar.andi v313 v315
  let v302 : BitVec 32 := Scalar.divsi v254 c128_i32_137
  let c1_i32_143 : BitVec 32 := 1#32
  let v317 : BitVec 32 := Scalar.subi v302 c1_i32_143
  let v318 : BitVec 32 := Scalar.select v316 v317 v302
  let v329 : Index := Scalar.indexCast v318
  let c0_152 : Index := 0#32
  ![0, 0, v329.toNat, 0]

def k0_chk2 (v254 : BitVec 32) : Prop :=
  (∀ a, (k0_off5 v254) a + S1x96x1x128.size a ≤ S1x96x128x128.size a) ∧
  (∀ a, (k0_off6 v254) a + S1x1x1x128.size a ≤ S1x1x128x128.size a)
theorem k0_off5_inb : ∀ (v254 : BitVec 32) (k0_hw2 : k0_chk2 v254), ∀ a, (k0_off5 v254) a + S1x96x1x128.size a ≤ S1x96x128x128.size a := fun v254 k0_hw2 => k0_hw2.1
theorem k0_off6_inb : ∀ (v254 : BitVec 32) (k0_hw2 : k0_chk2 v254), ∀ a, (k0_off6 v254) a + S1x1x1x128.size a ≤ S1x1x128x128.size a := fun v254 k0_hw2 => k0_hw2.2

def k0_off7 (v382 : BitVec 32) : Fin 4 → Nat :=
  let c0_182 : Index := 0#32
  let c0_183 : Index := 0#32
  let c0_i32_170 : BitVec 32 := 0#32
  let v384 : BitVec 1 := Scalar.cmpi .sgt v382 c0_i32_170
  let v385 : BitVec 32 := Scalar.extui v384
  let c0_i32_171 : BitVec 32 := 0#32
  let v386 : BitVec 1 := Scalar.cmpi .slt v382 c0_i32_171
  let v387 : BitVec 32 := Scalar.extui v386
  let v388 : BitVec 32 := Scalar.subi v385 v387
  let c128_i32_169 : BitVec 32 := 128#32
  let c0_i32_172 : BitVec 32 := 0#32
  let v389 : BitVec 1 := Scalar.cmpi .sgt c128_i32_169 c0_i32_172
  let v390 : BitVec 32 := Scalar.extui v389
  let c0_i32_173 : BitVec 32 := 0#32
  let v391 : BitVec 1 := Scalar.cmpi .slt c128_i32_169 c0_i32_173
  let v392 : BitVec 32 := Scalar.extui v391
  let v393 : BitVec 32 := Scalar.subi v390 v392
  let v394 : BitVec 1 := Scalar.cmpi .ne v388 v393
  let v395 : BitVec 32 := Scalar.remsi v382 c128_i32_169
  let c0_i32_174 : BitVec 32 := 0#32
  let v396 : BitVec 1 := Scalar.cmpi .ne v395 c0_i32_174
  let v397 : BitVec 1 := Scalar.andi v394 v396
  let v383 : BitVec 32 := Scalar.divsi v382 c128_i32_169
  let c1_i32_175 : BitVec 32 := 1#32
  let v398 : BitVec 32 := Scalar.subi v383 c1_i32_175
  let v399 : BitVec 32 := Scalar.select v397 v398 v383
  let v410 : Index := Scalar.indexCast v399
  let c0_184 : Index := 0#32
  ![0, 0, v410.toNat, 0]

def k0_off8 (v382 : BitVec 32) : Fin 4 → Nat :=
  let c0_205 : Index := 0#32
  let c0_206 : Index := 0#32
  let c0_i32_193 : BitVec 32 := 0#32
  let v431 : BitVec 1 := Scalar.cmpi .sgt v382 c0_i32_193
  let v432 : BitVec 32 := Scalar.extui v431
  let c0_i32_194 : BitVec 32 := 0#32
  let v433 : BitVec 1 := Scalar.cmpi .slt v382 c0_i32_194
  let v434 : BitVec 32 := Scalar.extui v433
  let v435 : BitVec 32 := Scalar.subi v432 v434
  let c128_i32_192 : BitVec 32 := 128#32
  let c0_i32_195 : BitVec 32 := 0#32
  let v436 : BitVec 1 := Scalar.cmpi .sgt c128_i32_192 c0_i32_195
  let v437 : BitVec 32 := Scalar.extui v436
  let c0_i32_196 : BitVec 32 := 0#32
  let v438 : BitVec 1 := Scalar.cmpi .slt c128_i32_192 c0_i32_196
  let v439 : BitVec 32 := Scalar.extui v438
  let v440 : BitVec 32 := Scalar.subi v437 v439
  let v441 : BitVec 1 := Scalar.cmpi .ne v435 v440
  let v442 : BitVec 32 := Scalar.remsi v382 c128_i32_192
  let c0_i32_197 : BitVec 32 := 0#32
  let v443 : BitVec 1 := Scalar.cmpi .ne v442 c0_i32_197
  let v444 : BitVec 1 := Scalar.andi v441 v443
  let v430 : BitVec 32 := Scalar.divsi v382 c128_i32_192
  let c1_i32_198 : BitVec 32 := 1#32
  let v445 : BitVec 32 := Scalar.subi v430 c1_i32_198
  let v446 : BitVec 32 := Scalar.select v444 v445 v430
  let v457 : Index := Scalar.indexCast v446
  let c0_207 : Index := 0#32
  ![0, 0, v457.toNat, 0]

def k0_chk3 (v382 : BitVec 32) : Prop :=
  (∀ a, (k0_off7 v382) a + S1x96x1x128.size a ≤ S1x96x128x128.size a) ∧
  (∀ a, (k0_off8 v382) a + S1x1x1x128.size a ≤ S1x1x128x128.size a)
theorem k0_off7_inb : ∀ (v382 : BitVec 32) (k0_hw3 : k0_chk3 v382), ∀ a, (k0_off7 v382) a + S1x96x1x128.size a ≤ S1x96x128x128.size a := fun v382 k0_hw3 => k0_hw3.1
theorem k0_off8_inb : ∀ (v382 : BitVec 32) (k0_hw3 : k0_chk3 v382), ∀ a, (k0_off8 v382) a + S1x1x1x128.size a ≤ S1x1x128x128.size a := fun v382 k0_hw3 => k0_hw3.2

def k0_off9 (v510 : BitVec 32) : Fin 4 → Nat :=
  let c0_237 : Index := 0#32
  let c0_238 : Index := 0#32
  let c0_i32_225 : BitVec 32 := 0#32
  let v512 : BitVec 1 := Scalar.cmpi .sgt v510 c0_i32_225
  let v513 : BitVec 32 := Scalar.extui v512
  let c0_i32_226 : BitVec 32 := 0#32
  let v514 : BitVec 1 := Scalar.cmpi .slt v510 c0_i32_226
  let v515 : BitVec 32 := Scalar.extui v514
  let v516 : BitVec 32 := Scalar.subi v513 v515
  let c128_i32_224 : BitVec 32 := 128#32
  let c0_i32_227 : BitVec 32 := 0#32
  let v517 : BitVec 1 := Scalar.cmpi .sgt c128_i32_224 c0_i32_227
  let v518 : BitVec 32 := Scalar.extui v517
  let c0_i32_228 : BitVec 32 := 0#32
  let v519 : BitVec 1 := Scalar.cmpi .slt c128_i32_224 c0_i32_228
  let v520 : BitVec 32 := Scalar.extui v519
  let v521 : BitVec 32 := Scalar.subi v518 v520
  let v522 : BitVec 1 := Scalar.cmpi .ne v516 v521
  let v523 : BitVec 32 := Scalar.remsi v510 c128_i32_224
  let c0_i32_229 : BitVec 32 := 0#32
  let v524 : BitVec 1 := Scalar.cmpi .ne v523 c0_i32_229
  let v525 : BitVec 1 := Scalar.andi v522 v524
  let v511 : BitVec 32 := Scalar.divsi v510 c128_i32_224
  let c1_i32_230 : BitVec 32 := 1#32
  let v526 : BitVec 32 := Scalar.subi v511 c1_i32_230
  let v527 : BitVec 32 := Scalar.select v525 v526 v511
  let v538 : Index := Scalar.indexCast v527
  let c0_239 : Index := 0#32
  ![0, 0, v538.toNat, 0]

def k0_off10 (v510 : BitVec 32) : Fin 4 → Nat :=
  let c0_260 : Index := 0#32
  let c0_261 : Index := 0#32
  let c0_i32_248 : BitVec 32 := 0#32
  let v559 : BitVec 1 := Scalar.cmpi .sgt v510 c0_i32_248
  let v560 : BitVec 32 := Scalar.extui v559
  let c0_i32_249 : BitVec 32 := 0#32
  let v561 : BitVec 1 := Scalar.cmpi .slt v510 c0_i32_249
  let v562 : BitVec 32 := Scalar.extui v561
  let v563 : BitVec 32 := Scalar.subi v560 v562
  let c128_i32_247 : BitVec 32 := 128#32
  let c0_i32_250 : BitVec 32 := 0#32
  let v564 : BitVec 1 := Scalar.cmpi .sgt c128_i32_247 c0_i32_250
  let v565 : BitVec 32 := Scalar.extui v564
  let c0_i32_251 : BitVec 32 := 0#32
  let v566 : BitVec 1 := Scalar.cmpi .slt c128_i32_247 c0_i32_251
  let v567 : BitVec 32 := Scalar.extui v566
  let v568 : BitVec 32 := Scalar.subi v565 v567
  let v569 : BitVec 1 := Scalar.cmpi .ne v563 v568
  let v570 : BitVec 32 := Scalar.remsi v510 c128_i32_247
  let c0_i32_252 : BitVec 32 := 0#32
  let v571 : BitVec 1 := Scalar.cmpi .ne v570 c0_i32_252
  let v572 : BitVec 1 := Scalar.andi v569 v571
  let v558 : BitVec 32 := Scalar.divsi v510 c128_i32_247
  let c1_i32_253 : BitVec 32 := 1#32
  let v573 : BitVec 32 := Scalar.subi v558 c1_i32_253
  let v574 : BitVec 32 := Scalar.select v572 v573 v558
  let v585 : Index := Scalar.indexCast v574
  let c0_262 : Index := 0#32
  ![0, 0, v585.toNat, 0]

def k0_chk4 (v510 : BitVec 32) : Prop :=
  (∀ a, (k0_off9 v510) a + S1x96x1x128.size a ≤ S1x96x128x128.size a) ∧
  (∀ a, (k0_off10 v510) a + S1x1x1x128.size a ≤ S1x1x128x128.size a)
theorem k0_off9_inb : ∀ (v510 : BitVec 32) (k0_hw4 : k0_chk4 v510), ∀ a, (k0_off9 v510) a + S1x96x1x128.size a ≤ S1x96x128x128.size a := fun v510 k0_hw4 => k0_hw4.1
theorem k0_off10_inb : ∀ (v510 : BitVec 32) (k0_hw4 : k0_chk4 v510), ∀ a, (k0_off10 v510) a + S1x1x1x128.size a ≤ S1x1x128x128.size a := fun v510 k0_hw4 => k0_hw4.2

def k0_off11 (v638 : BitVec 32) : Fin 4 → Nat :=
  let c0_292 : Index := 0#32
  let c0_293 : Index := 0#32
  let c0_i32_280 : BitVec 32 := 0#32
  let v640 : BitVec 1 := Scalar.cmpi .sgt v638 c0_i32_280
  let v641 : BitVec 32 := Scalar.extui v640
  let c0_i32_281 : BitVec 32 := 0#32
  let v642 : BitVec 1 := Scalar.cmpi .slt v638 c0_i32_281
  let v643 : BitVec 32 := Scalar.extui v642
  let v644 : BitVec 32 := Scalar.subi v641 v643
  let c128_i32_279 : BitVec 32 := 128#32
  let c0_i32_282 : BitVec 32 := 0#32
  let v645 : BitVec 1 := Scalar.cmpi .sgt c128_i32_279 c0_i32_282
  let v646 : BitVec 32 := Scalar.extui v645
  let c0_i32_283 : BitVec 32 := 0#32
  let v647 : BitVec 1 := Scalar.cmpi .slt c128_i32_279 c0_i32_283
  let v648 : BitVec 32 := Scalar.extui v647
  let v649 : BitVec 32 := Scalar.subi v646 v648
  let v650 : BitVec 1 := Scalar.cmpi .ne v644 v649
  let v651 : BitVec 32 := Scalar.remsi v638 c128_i32_279
  let c0_i32_284 : BitVec 32 := 0#32
  let v652 : BitVec 1 := Scalar.cmpi .ne v651 c0_i32_284
  let v653 : BitVec 1 := Scalar.andi v650 v652
  let v639 : BitVec 32 := Scalar.divsi v638 c128_i32_279
  let c1_i32_285 : BitVec 32 := 1#32
  let v654 : BitVec 32 := Scalar.subi v639 c1_i32_285
  let v655 : BitVec 32 := Scalar.select v653 v654 v639
  let v666 : Index := Scalar.indexCast v655
  let c0_294 : Index := 0#32
  ![0, 0, v666.toNat, 0]

def k0_off12 (v638 : BitVec 32) : Fin 4 → Nat :=
  let c0_315 : Index := 0#32
  let c0_316 : Index := 0#32
  let c0_i32_303 : BitVec 32 := 0#32
  let v687 : BitVec 1 := Scalar.cmpi .sgt v638 c0_i32_303
  let v688 : BitVec 32 := Scalar.extui v687
  let c0_i32_304 : BitVec 32 := 0#32
  let v689 : BitVec 1 := Scalar.cmpi .slt v638 c0_i32_304
  let v690 : BitVec 32 := Scalar.extui v689
  let v691 : BitVec 32 := Scalar.subi v688 v690
  let c128_i32_302 : BitVec 32 := 128#32
  let c0_i32_305 : BitVec 32 := 0#32
  let v692 : BitVec 1 := Scalar.cmpi .sgt c128_i32_302 c0_i32_305
  let v693 : BitVec 32 := Scalar.extui v692
  let c0_i32_306 : BitVec 32 := 0#32
  let v694 : BitVec 1 := Scalar.cmpi .slt c128_i32_302 c0_i32_306
  let v695 : BitVec 32 := Scalar.extui v694
  let v696 : BitVec 32 := Scalar.subi v693 v695
  let v697 : BitVec 1 := Scalar.cmpi .ne v691 v696
  let v698 : BitVec 32 := Scalar.remsi v638 c128_i32_302
  let c0_i32_307 : BitVec 32 := 0#32
  let v699 : BitVec 1 := Scalar.cmpi .ne v698 c0_i32_307
  let v700 : BitVec 1 := Scalar.andi v697 v699
  let v686 : BitVec 32 := Scalar.divsi v638 c128_i32_302
  let c1_i32_308 : BitVec 32 := 1#32
  let v701 : BitVec 32 := Scalar.subi v686 c1_i32_308
  let v702 : BitVec 32 := Scalar.select v700 v701 v686
  let v713 : Index := Scalar.indexCast v702
  let c0_317 : Index := 0#32
  ![0, 0, v713.toNat, 0]

def k0_chk5 (v638 : BitVec 32) : Prop :=
  (∀ a, (k0_off11 v638) a + S1x96x1x128.size a ≤ S1x96x128x128.size a) ∧
  (∀ a, (k0_off12 v638) a + S1x1x1x128.size a ≤ S1x1x128x128.size a)
theorem k0_off11_inb : ∀ (v638 : BitVec 32) (k0_hw5 : k0_chk5 v638), ∀ a, (k0_off11 v638) a + S1x96x1x128.size a ≤ S1x96x128x128.size a := fun v638 k0_hw5 => k0_hw5.1
theorem k0_off12_inb : ∀ (v638 : BitVec 32) (k0_hw5 : k0_chk5 v638), ∀ a, (k0_off12 v638) a + S1x1x1x128.size a ≤ S1x1x128x128.size a := fun v638 k0_hw5 => k0_hw5.2

def k0_off13 (v766 : BitVec 32) : Fin 4 → Nat :=
  let c0_347 : Index := 0#32
  let c0_348 : Index := 0#32
  let c0_i32_335 : BitVec 32 := 0#32
  let v768 : BitVec 1 := Scalar.cmpi .sgt v766 c0_i32_335
  let v769 : BitVec 32 := Scalar.extui v768
  let c0_i32_336 : BitVec 32 := 0#32
  let v770 : BitVec 1 := Scalar.cmpi .slt v766 c0_i32_336
  let v771 : BitVec 32 := Scalar.extui v770
  let v772 : BitVec 32 := Scalar.subi v769 v771
  let c128_i32_334 : BitVec 32 := 128#32
  let c0_i32_337 : BitVec 32 := 0#32
  let v773 : BitVec 1 := Scalar.cmpi .sgt c128_i32_334 c0_i32_337
  let v774 : BitVec 32 := Scalar.extui v773
  let c0_i32_338 : BitVec 32 := 0#32
  let v775 : BitVec 1 := Scalar.cmpi .slt c128_i32_334 c0_i32_338
  let v776 : BitVec 32 := Scalar.extui v775
  let v777 : BitVec 32 := Scalar.subi v774 v776
  let v778 : BitVec 1 := Scalar.cmpi .ne v772 v777
  let v779 : BitVec 32 := Scalar.remsi v766 c128_i32_334
  let c0_i32_339 : BitVec 32 := 0#32
  let v780 : BitVec 1 := Scalar.cmpi .ne v779 c0_i32_339
  let v781 : BitVec 1 := Scalar.andi v778 v780
  let v767 : BitVec 32 := Scalar.divsi v766 c128_i32_334
  let c1_i32_340 : BitVec 32 := 1#32
  let v782 : BitVec 32 := Scalar.subi v767 c1_i32_340
  let v783 : BitVec 32 := Scalar.select v781 v782 v767
  let v794 : Index := Scalar.indexCast v783
  let c0_349 : Index := 0#32
  ![0, 0, v794.toNat, 0]

def k0_off14 (v766 : BitVec 32) : Fin 4 → Nat :=
  let c0_370 : Index := 0#32
  let c0_371 : Index := 0#32
  let c0_i32_358 : BitVec 32 := 0#32
  let v815 : BitVec 1 := Scalar.cmpi .sgt v766 c0_i32_358
  let v816 : BitVec 32 := Scalar.extui v815
  let c0_i32_359 : BitVec 32 := 0#32
  let v817 : BitVec 1 := Scalar.cmpi .slt v766 c0_i32_359
  let v818 : BitVec 32 := Scalar.extui v817
  let v819 : BitVec 32 := Scalar.subi v816 v818
  let c128_i32_357 : BitVec 32 := 128#32
  let c0_i32_360 : BitVec 32 := 0#32
  let v820 : BitVec 1 := Scalar.cmpi .sgt c128_i32_357 c0_i32_360
  let v821 : BitVec 32 := Scalar.extui v820
  let c0_i32_361 : BitVec 32 := 0#32
  let v822 : BitVec 1 := Scalar.cmpi .slt c128_i32_357 c0_i32_361
  let v823 : BitVec 32 := Scalar.extui v822
  let v824 : BitVec 32 := Scalar.subi v821 v823
  let v825 : BitVec 1 := Scalar.cmpi .ne v819 v824
  let v826 : BitVec 32 := Scalar.remsi v766 c128_i32_357
  let c0_i32_362 : BitVec 32 := 0#32
  let v827 : BitVec 1 := Scalar.cmpi .ne v826 c0_i32_362
  let v828 : BitVec 1 := Scalar.andi v825 v827
  let v814 : BitVec 32 := Scalar.divsi v766 c128_i32_357
  let c1_i32_363 : BitVec 32 := 1#32
  let v829 : BitVec 32 := Scalar.subi v814 c1_i32_363
  let v830 : BitVec 32 := Scalar.select v828 v829 v814
  let v841 : Index := Scalar.indexCast v830
  let c0_372 : Index := 0#32
  ![0, 0, v841.toNat, 0]

def k0_chk6 (v766 : BitVec 32) : Prop :=
  (∀ a, (k0_off13 v766) a + S1x96x1x128.size a ≤ S1x96x128x128.size a) ∧
  (∀ a, (k0_off14 v766) a + S1x1x1x128.size a ≤ S1x1x128x128.size a)
theorem k0_off13_inb : ∀ (v766 : BitVec 32) (k0_hw6 : k0_chk6 v766), ∀ a, (k0_off13 v766) a + S1x96x1x128.size a ≤ S1x96x128x128.size a := fun v766 k0_hw6 => k0_hw6.1
theorem k0_off14_inb : ∀ (v766 : BitVec 32) (k0_hw6 : k0_chk6 v766), ∀ a, (k0_off14 v766) a + S1x1x1x128.size a ≤ S1x1x128x128.size a := fun v766 k0_hw6 => k0_hw6.2

def k0_off15 (v894 : BitVec 32) : Fin 4 → Nat :=
  let c0_402 : Index := 0#32
  let c0_403 : Index := 0#32
  let c0_i32_390 : BitVec 32 := 0#32
  let v896 : BitVec 1 := Scalar.cmpi .sgt v894 c0_i32_390
  let v897 : BitVec 32 := Scalar.extui v896
  let c0_i32_391 : BitVec 32 := 0#32
  let v898 : BitVec 1 := Scalar.cmpi .slt v894 c0_i32_391
  let v899 : BitVec 32 := Scalar.extui v898
  let v900 : BitVec 32 := Scalar.subi v897 v899
  let c128_i32_389 : BitVec 32 := 128#32
  let c0_i32_392 : BitVec 32 := 0#32
  let v901 : BitVec 1 := Scalar.cmpi .sgt c128_i32_389 c0_i32_392
  let v902 : BitVec 32 := Scalar.extui v901
  let c0_i32_393 : BitVec 32 := 0#32
  let v903 : BitVec 1 := Scalar.cmpi .slt c128_i32_389 c0_i32_393
  let v904 : BitVec 32 := Scalar.extui v903
  let v905 : BitVec 32 := Scalar.subi v902 v904
  let v906 : BitVec 1 := Scalar.cmpi .ne v900 v905
  let v907 : BitVec 32 := Scalar.remsi v894 c128_i32_389
  let c0_i32_394 : BitVec 32 := 0#32
  let v908 : BitVec 1 := Scalar.cmpi .ne v907 c0_i32_394
  let v909 : BitVec 1 := Scalar.andi v906 v908
  let v895 : BitVec 32 := Scalar.divsi v894 c128_i32_389
  let c1_i32_395 : BitVec 32 := 1#32
  let v910 : BitVec 32 := Scalar.subi v895 c1_i32_395
  let v911 : BitVec 32 := Scalar.select v909 v910 v895
  let v922 : Index := Scalar.indexCast v911
  let c0_404 : Index := 0#32
  ![0, 0, v922.toNat, 0]

def k0_off16 (v894 : BitVec 32) : Fin 4 → Nat :=
  let c0_425 : Index := 0#32
  let c0_426 : Index := 0#32
  let c0_i32_413 : BitVec 32 := 0#32
  let v943 : BitVec 1 := Scalar.cmpi .sgt v894 c0_i32_413
  let v944 : BitVec 32 := Scalar.extui v943
  let c0_i32_414 : BitVec 32 := 0#32
  let v945 : BitVec 1 := Scalar.cmpi .slt v894 c0_i32_414
  let v946 : BitVec 32 := Scalar.extui v945
  let v947 : BitVec 32 := Scalar.subi v944 v946
  let c128_i32_412 : BitVec 32 := 128#32
  let c0_i32_415 : BitVec 32 := 0#32
  let v948 : BitVec 1 := Scalar.cmpi .sgt c128_i32_412 c0_i32_415
  let v949 : BitVec 32 := Scalar.extui v948
  let c0_i32_416 : BitVec 32 := 0#32
  let v950 : BitVec 1 := Scalar.cmpi .slt c128_i32_412 c0_i32_416
  let v951 : BitVec 32 := Scalar.extui v950
  let v952 : BitVec 32 := Scalar.subi v949 v951
  let v953 : BitVec 1 := Scalar.cmpi .ne v947 v952
  let v954 : BitVec 32 := Scalar.remsi v894 c128_i32_412
  let c0_i32_417 : BitVec 32 := 0#32
  let v955 : BitVec 1 := Scalar.cmpi .ne v954 c0_i32_417
  let v956 : BitVec 1 := Scalar.andi v953 v955
  let v942 : BitVec 32 := Scalar.divsi v894 c128_i32_412
  let c1_i32_418 : BitVec 32 := 1#32
  let v957 : BitVec 32 := Scalar.subi v942 c1_i32_418
  let v958 : BitVec 32 := Scalar.select v956 v957 v942
  let v969 : Index := Scalar.indexCast v958
  let c0_427 : Index := 0#32
  ![0, 0, v969.toNat, 0]

def k0_chk7 (v894 : BitVec 32) : Prop :=
  (∀ a, (k0_off15 v894) a + S1x96x1x128.size a ≤ S1x96x128x128.size a) ∧
  (∀ a, (k0_off16 v894) a + S1x1x1x128.size a ≤ S1x1x128x128.size a)
theorem k0_off15_inb : ∀ (v894 : BitVec 32) (k0_hw7 : k0_chk7 v894), ∀ a, (k0_off15 v894) a + S1x96x1x128.size a ≤ S1x96x128x128.size a := fun v894 k0_hw7 => k0_hw7.1
theorem k0_off16_inb : ∀ (v894 : BitVec 32) (k0_hw7 : k0_chk7 v894), ∀ a, (k0_off16 v894) a + S1x1x1x128.size a ≤ S1x1x128x128.size a := fun v894 k0_hw7 => k0_hw7.2

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x96x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x96x128x128 : Shape := ⟨4, ![8, 96, 128, 128]⟩
abbrev S_ : Shape := ⟨0, ![]⟩
abbrev S8x128x128x96 : Shape := ⟨4, ![8, 128, 128, 96]⟩
abbrev S8x16384x96 : Shape := ⟨3, ![8, 16384, 96]⟩
abbrev S8 : Shape := ⟨1, ![8]⟩
abbrev S8x1 : Shape := ⟨2, ![8, 1]⟩
abbrev S8x16384 : Shape := ⟨2, ![8, 16384]⟩
abbrev S8x8x96 : Shape := ⟨3, ![8, 8, 96]⟩
abbrev S8x8x16384 : Shape := ⟨3, ![8, 8, 16384]⟩
abbrev S8x1x1 : Shape := ⟨3, ![8, 1, 1]⟩
abbrev S8x1x2 : Shape := ⟨3, ![8, 1, 2]⟩
abbrev S8x1x96 : Shape := ⟨3, ![8, 1, 96]⟩
abbrev S8x16384x1 : Shape := ⟨3, ![8, 16384, 1]⟩
abbrev S8x96 : Shape := ⟨2, ![8, 96]⟩
abbrev S1x8x96 : Shape := ⟨3, ![1, 8, 96]⟩
abbrev S1x8x16384 : Shape := ⟨3, ![1, 8, 16384]⟩
abbrev S8x8x128x128 : Shape := ⟨4, ![8, 8, 128, 128]⟩
abbrev S8x1x128x128 : Shape := ⟨4, ![8, 1, 128, 128]⟩

abbrev nBuf : Space → Nat
  | .hbm => 110
  | .vmem => 0
  | .smem => 0
  | _ => 0

abbrev bufTy : (tb : Table) → Fin (tcTables nBuf tb) → BufTy
  | .hbm, ⟨0, _⟩ => ⟨S8x96x128x128, .f32⟩
  | .hbm, ⟨1, _⟩ => ⟨S_, .i1⟩
  | .hbm, ⟨2, _⟩ => ⟨S8x128x128x96, .f32⟩
  | .hbm, ⟨3, _⟩ => ⟨S8x16384x96, .f32⟩
  | .hbm, ⟨4, _⟩ => ⟨S8, .i32⟩
  | .hbm, ⟨5, _⟩ => ⟨S8x1, .i32⟩
  | .hbm, ⟨6, _⟩ => ⟨S_, .i32⟩
  | .hbm, ⟨7, _⟩ => ⟨S8x1, .i32⟩
  | .hbm, ⟨8, _⟩ => ⟨S_, .f32⟩
  | .hbm, ⟨9, _⟩ => ⟨S8x16384, .f32⟩
  | .hbm, ⟨10, _⟩ => ⟨S_, .f32⟩
  | .hbm, ⟨11, _⟩ => ⟨S8x16384, .f32⟩
  | .hbm, ⟨12, _⟩ => ⟨S_, .f32⟩
  | .hbm, ⟨13, _⟩ => ⟨S8x8x96, .f32⟩
  | .hbm, ⟨14, _⟩ => ⟨S_, .f32⟩
  | .hbm, ⟨15, _⟩ => ⟨S8x8x16384, .f32⟩
  | .hbm, ⟨16, _⟩ => ⟨S_, .i32⟩
  | .hbm, ⟨17, _⟩ => ⟨S8x1, .i32⟩
  | .hbm, ⟨18, _⟩ => ⟨S8x16384x96, .f32⟩
  | .hbm, ⟨19, _⟩ => ⟨S_, .i32⟩
  | .hbm, ⟨20, _⟩ => ⟨S8x1, .i32⟩
  | .hbm, ⟨21, _⟩ => ⟨S8x16384, .f32⟩
  | .hbm, ⟨22, _⟩ => ⟨S8x16384, .f32⟩
  | .hbm, ⟨23, _⟩ => ⟨S8x8x96, .f32⟩
  | .hbm, ⟨24, _⟩ => ⟨S8x8x16384, .f32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S8x1, .i32⟩
  | .hbm, ⟨29, _⟩ => ⟨S8x1, .i1⟩
  | .hbm, ⟨30, _⟩ => ⟨S_, .i32⟩
  | .hbm, ⟨31, _⟩ => ⟨S8x1, .i32⟩
  | .hbm, ⟨32, _⟩ => ⟨S8x1, .i32⟩
  | .hbm, ⟨33, _⟩ => ⟨S8x1, .i32⟩
  | .hbm, ⟨34, _⟩ => ⟨S_, .i32⟩
  | .hbm, ⟨35, _⟩ => ⟨S8x1, .i32⟩
  | .hbm, ⟨36, _⟩ => ⟨S8x1, .i1⟩
  | .hbm, ⟨37, _⟩ => ⟨S_, .i32⟩
  | .hbm, ⟨38, _⟩ => ⟨S8x1, .i32⟩
  | .hbm, ⟨39, _⟩ => ⟨S8x1, .i32⟩
  | .hbm, ⟨40, _⟩ => ⟨S8x1, .i32⟩
  | .hbm, ⟨41, _⟩ => ⟨S8x1x1, .i32⟩
  | .hbm, ⟨42, _⟩ => ⟨S8x1x1, .i32⟩
  | .hbm, ⟨43, _⟩ => ⟨S8x1x2, .i32⟩
  | .hbm, ⟨44, _⟩ => ⟨S8x1x96, .f32⟩
  | .hbm, ⟨45, _⟩ => ⟨S_, .i32⟩
  | .hbm, ⟨46, _⟩ => ⟨S8x1, .i32⟩
  | .hbm, ⟨47, _⟩ => ⟨S8x1, .i1⟩
  | .hbm, ⟨48, _⟩ => ⟨S_, .i32⟩
  | .hbm, ⟨49, _⟩ => ⟨S8x1, .i32⟩
  | .hbm, ⟨50, _⟩ => ⟨S8x1, .i32⟩
  | .hbm, ⟨51, _⟩ => ⟨S8x1, .i32⟩
  | .hbm, ⟨52, _⟩ => ⟨S_, .i32⟩
  | .hbm, ⟨53, _⟩ => ⟨S8x1, .i32⟩
  | .hbm, ⟨54, _⟩ => ⟨S8x1, .i1⟩
  | .hbm, ⟨55, _⟩ => ⟨S_, .i32⟩
  | .hbm, ⟨56, _⟩ => ⟨S8x1, .i32⟩
  | .hbm, ⟨57, _⟩ => ⟨S8x1, .i32⟩
  | .hbm, ⟨58, _⟩ => ⟨S8x1, .i32⟩
  | .hbm, ⟨59, _⟩ => ⟨S8x1x1, .i32⟩
  | .hbm, ⟨60, _⟩ => ⟨S8x1x1, .i32⟩
  | .hbm, ⟨61, _⟩ => ⟨S8x1x2, .i32⟩
  | .hbm, ⟨62, _⟩ => ⟨S_, .f32⟩
  | .hbm, ⟨63, _⟩ => ⟨S8x1, .f32⟩
  | .hbm, ⟨64, _⟩ => ⟨S8x16384, .f32⟩
  | .hbm, ⟨65, _⟩ => ⟨S8x16384x96, .f32⟩
  | .hbm, ⟨66, _⟩ => ⟨S8x16384x96, .f32⟩
  | .hbm, ⟨67, _⟩ => ⟨S8x16384x96, .f32⟩
  | .hbm, ⟨68, _⟩ => ⟨S_, .f32⟩
  | .hbm, ⟨69, _⟩ => ⟨S8x16384, .f32⟩
  | .hbm, ⟨70, _⟩ => ⟨S8x16384, .f32⟩
  | .hbm, ⟨71, _⟩ => ⟨S8x16384, .f32⟩
  | .hbm, ⟨72, _⟩ => ⟨S_, .f32⟩
  | .hbm, ⟨73, _⟩ => ⟨S8x16384, .f32⟩
  | .hbm, ⟨74, _⟩ => ⟨S8x16384, .f32⟩
  | .hbm, ⟨75, _⟩ => ⟨S8x16384, .f32⟩
  | .hbm, ⟨76, _⟩ => ⟨S_, .f32⟩
  | .hbm, ⟨77, _⟩ => ⟨S8, .f32⟩
  | .hbm, ⟨78, _⟩ => ⟨S8x1, .f32⟩
  | .hbm, ⟨79, _⟩ => ⟨S8x16384, .f32⟩
  | .hbm, ⟨80, _⟩ => ⟨S8x16384, .f32⟩
  | .hbm, ⟨81, _⟩ => ⟨S8x16384x1, .f32⟩
  | .hbm, ⟨82, _⟩ => ⟨S8x16384x96, .f32⟩
  | .hbm, ⟨83, _⟩ => ⟨S8x16384x96, .f32⟩
  | .hbm, ⟨84, _⟩ => ⟨S_, .f32⟩
  | .hbm, ⟨85, _⟩ => ⟨S8x96, .f32⟩
  | .hbm, ⟨86, _⟩ => ⟨S_, .f32⟩
  | .hbm, ⟨87, _⟩ => ⟨S8x16384, .f32⟩
  | .hbm, ⟨88, _⟩ => ⟨S8x16384, .f32⟩
  | .hbm, ⟨89, _⟩ => ⟨S8x16384, .f32⟩
  | .hbm, ⟨90, _⟩ => ⟨S8x16384, .i32⟩
  | .hbm, ⟨91, _⟩ => ⟨S_, .f32⟩
  | .hbm, ⟨92, _⟩ => ⟨S_, .i32⟩
  | .hbm, ⟨93, _⟩ => ⟨S8, .f32⟩
  | .hbm, ⟨94, _⟩ => ⟨S8, .i32⟩
  | .hbm, ⟨95, _⟩ => ⟨S8x1, .i32⟩
  | .hbm, ⟨96, _⟩ => ⟨S1x8x96, .f32⟩
  | .hbm, ⟨97, _⟩ => ⟨S_, .i32⟩
  | .hbm, ⟨98, _⟩ => ⟨S_, .i32⟩
  | .hbm, ⟨99, _⟩ => ⟨S8x8x96, .f32⟩
  | .hbm, ⟨100, _⟩ => ⟨S1x8x16384, .f32⟩
  | .hbm, ⟨101, _⟩ => ⟨S_, .i32⟩
  | .hbm, ⟨102, _⟩ => ⟨S_, .i32⟩
  | .hbm, ⟨103, _⟩ => ⟨S8x8x16384, .f32⟩
  | .hbm, ⟨104, _⟩ => ⟨S_, .i32⟩
  | .hbm, ⟨105, _⟩ => ⟨S_, .i32⟩
  | .hbm, ⟨106, _⟩ => ⟨S8x8x96, .f32⟩
  | .hbm, ⟨107, _⟩ => ⟨S8x8x16384, .f32⟩
  | .hbm, ⟨108, _⟩ => ⟨S8x8x128x128, .f32⟩
  | .hbm, ⟨109, _⟩ => ⟨S8x1x128x128, .f32⟩
  | _, _ => ⟨S8x96x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_c_3 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev main_v9_6 : Ref sig .tc := ⟨.hbm, 23, rfl⟩
abbrev main_v9_7 : Ref sig .tc := ⟨.hbm, 24, rfl⟩
abbrev main_while0c_c_11 : Ref sig .tc := ⟨.hbm, 25, rfl⟩
abbrev main_while0c_v14 : Ref sig .tc := ⟨.hbm, 26, rfl⟩
abbrev main_while0b_c_11 : Ref sig .tc := ⟨.hbm, 27, rfl⟩
abbrev main_while0b_v14 : Ref sig .tc := ⟨.hbm, 28, rfl⟩
abbrev main_while0b_v15 : Ref sig .tc := ⟨.hbm, 29, rfl⟩
abbrev main_while0b_c_12 : Ref sig .tc := ⟨.hbm, 30, rfl⟩
abbrev main_while0b_v16 : Ref sig .tc := ⟨.hbm, 31, rfl⟩
abbrev main_while0b_v17 : Ref sig .tc := ⟨.hbm, 32, rfl⟩
abbrev main_while0b_v18 : Ref sig .tc := ⟨.hbm, 33, rfl⟩
abbrev main_while0b_c_13 : Ref sig .tc := ⟨.hbm, 34, rfl⟩
abbrev main_while0b_v19 : Ref sig .tc := ⟨.hbm, 35, rfl⟩
abbrev main_while0b_v20 : Ref sig .tc := ⟨.hbm, 36, rfl⟩
abbrev main_while0b_c_14 : Ref sig .tc := ⟨.hbm, 37, rfl⟩
abbrev main_while0b_v21 : Ref sig .tc := ⟨.hbm, 38, rfl⟩
abbrev main_while0b_v22 : Ref sig .tc := ⟨.hbm, 39, rfl⟩
abbrev main_while0b_v23 : Ref sig .tc := ⟨.hbm, 40, rfl⟩
abbrev main_while0b_v24 : Ref sig .tc := ⟨.hbm, 41, rfl⟩
abbrev main_while0b_v25 : Ref sig .tc := ⟨.hbm, 42, rfl⟩
abbrev main_while0b_v26 : Ref sig .tc := ⟨.hbm, 43, rfl⟩
abbrev main_while0b_v27 : Ref sig .tc := ⟨.hbm, 44, rfl⟩
abbrev main_while0b_c_15 : Ref sig .tc := ⟨.hbm, 45, rfl⟩
abbrev main_while0b_v28 : Ref sig .tc := ⟨.hbm, 46, rfl⟩
abbrev main_while0b_v29 : Ref sig .tc := ⟨.hbm, 47, rfl⟩
abbrev main_while0b_c_16 : Ref sig .tc := ⟨.hbm, 48, rfl⟩
abbrev main_while0b_v30 : Ref sig .tc := ⟨.hbm, 49, rfl⟩
abbrev main_while0b_v31 : Ref sig .tc := ⟨.hbm, 50, rfl⟩
abbrev main_while0b_v32 : Ref sig .tc := ⟨.hbm, 51, rfl⟩
abbrev main_while0b_c_17 : Ref sig .tc := ⟨.hbm, 52, rfl⟩
abbrev main_while0b_v33 : Ref sig .tc := ⟨.hbm, 53, rfl⟩
abbrev main_while0b_v34 : Ref sig .tc := ⟨.hbm, 54, rfl⟩
abbrev main_while0b_c_18 : Ref sig .tc := ⟨.hbm, 55, rfl⟩
abbrev main_while0b_v35 : Ref sig .tc := ⟨.hbm, 56, rfl⟩
abbrev main_while0b_v36 : Ref sig .tc := ⟨.hbm, 57, rfl⟩
abbrev main_while0b_v37 : Ref sig .tc := ⟨.hbm, 58, rfl⟩
abbrev main_while0b_v38 : Ref sig .tc := ⟨.hbm, 59, rfl⟩
abbrev main_while0b_v39 : Ref sig .tc := ⟨.hbm, 60, rfl⟩
abbrev main_while0b_v40 : Ref sig .tc := ⟨.hbm, 61, rfl⟩
abbrev main_while0b_cst_19 : Ref sig .tc := ⟨.hbm, 62, rfl⟩
abbrev main_while0b_v41 : Ref sig .tc := ⟨.hbm, 63, rfl⟩
abbrev main_while0b_v42 : Ref sig .tc := ⟨.hbm, 64, rfl⟩
abbrev main_while0b_v43 : Ref sig .tc := ⟨.hbm, 65, rfl⟩
abbrev main_while0b_v44 : Ref sig .tc := ⟨.hbm, 66, rfl⟩
abbrev main_while0b_v45 : Ref sig .tc := ⟨.hbm, 67, rfl⟩
abbrev main_while0b_cst_20 : Ref sig .tc := ⟨.hbm, 68, rfl⟩
abbrev main_while0b_v46 : Ref sig .tc := ⟨.hbm, 69, rfl⟩
abbrev main_while0b_v47 : Ref sig .tc := ⟨.hbm, 70, rfl⟩
abbrev main_while0b_v48 : Ref sig .tc := ⟨.hbm, 71, rfl⟩
abbrev main_while0b_cst_21 : Ref sig .tc := ⟨.hbm, 72, rfl⟩
abbrev main_while0b_v49 : Ref sig .tc := ⟨.hbm, 73, rfl⟩
abbrev main_while0b_v50 : Ref sig .tc := ⟨.hbm, 74, rfl⟩
abbrev main_while0b_v51 : Ref sig .tc := ⟨.hbm, 75, rfl⟩
abbrev main_while0b_cst_22 : Ref sig .tc := ⟨.hbm, 76, rfl⟩
abbrev main_while0b_v52 : Ref sig .tc := ⟨.hbm, 77, rfl⟩
abbrev main_while0b_v53 : Ref sig .tc := ⟨.hbm, 78, rfl⟩
abbrev main_while0b_v54 : Ref sig .tc := ⟨.hbm, 79, rfl⟩
abbrev main_while0b_v55 : Ref sig .tc := ⟨.hbm, 80, rfl⟩
abbrev main_while0b_v56 : Ref sig .tc := ⟨.hbm, 81, rfl⟩
abbrev main_while0b_v57 : Ref sig .tc := ⟨.hbm, 82, rfl⟩
abbrev main_while0b_v58 : Ref sig .tc := ⟨.hbm, 83, rfl⟩
abbrev main_while0b_cst_23 : Ref sig .tc := ⟨.hbm, 84, rfl⟩
abbrev main_while0b_v59 : Ref sig .tc := ⟨.hbm, 85, rfl⟩
abbrev main_while0b_cst_24 : Ref sig .tc := ⟨.hbm, 86, rfl⟩
abbrev main_while0b_v60 : Ref sig .tc := ⟨.hbm, 87, rfl⟩
abbrev main_while0b_v61 : Ref sig .tc := ⟨.hbm, 88, rfl⟩
abbrev main_while0b_v62 : Ref sig .tc := ⟨.hbm, 89, rfl⟩
abbrev main_while0b_call0_v0 : Ref sig .tc := ⟨.hbm, 90, rfl⟩
abbrev main_while0b_call0_cst : Ref sig .tc := ⟨.hbm, 91, rfl⟩
abbrev main_while0b_call0_c : Ref sig .tc := ⟨.hbm, 92, rfl⟩
abbrev main_while0b_call0_v1_0 : Ref sig .tc := ⟨.hbm, 93, rfl⟩
abbrev main_while0b_v63 : Ref sig .tc := ⟨.hbm, 94, rfl⟩
abbrev main_while0b_v64 : Ref sig .tc := ⟨.hbm, 95, rfl⟩
abbrev main_while0b_call1_v0 : Ref sig .tc := ⟨.hbm, 96, rfl⟩
abbrev main_while0b_call1_c : Ref sig .tc := ⟨.hbm, 97, rfl⟩
abbrev main_while0b_call1_c_0 : Ref sig .tc := ⟨.hbm, 98, rfl⟩
abbrev main_while0b_v65 : Ref sig .tc := ⟨.hbm, 99, rfl⟩
abbrev main_while0b_call2_v0 : Ref sig .tc := ⟨.hbm, 100, rfl⟩
abbrev main_while0b_call2_c : Ref sig .tc := ⟨.hbm, 101, rfl⟩
abbrev main_while0b_call2_c_0 : Ref sig .tc := ⟨.hbm, 102, rfl⟩
abbrev main_while0b_v66 : Ref sig .tc := ⟨.hbm, 103, rfl⟩
abbrev main_while0b_c_25 : Ref sig .tc := ⟨.hbm, 104, rfl⟩
abbrev main_while0b_v67 : Ref sig .tc := ⟨.hbm, 105, rfl⟩
abbrev main_v10 : Ref sig .tc := ⟨.hbm, 106, rfl⟩
abbrev main_v11 : Ref sig .tc := ⟨.hbm, 107, rfl⟩
abbrev main_v12 : Ref sig .tc := ⟨.hbm, 108, rfl⟩
abbrev main_v13 : Ref sig .tc := ⟨.hbm, 109, rfl⟩

abbrev nD : Nat := 1
abbrev τ : Topo := Topo.v7x

variable {F : FTy → Type} [FloatOps F]

abbrev main_while0_count : Scf.Loop 32 := ⟨0#32, 8#32, 1#32⟩
-- ==== Proof.Words.lean ====
/-
  The index words of the kernel: at a word below 16384 the printed floor division and remainder by 128 are
  the quotient and the remainder, so the rows read and written at it lie inside their buffers.
-/
module

public import proofs.«01_k».proof.Proof.Gen.KernelIdeal
public import Idealize.ShloMosaic.Lib.Routing.Words

@[expose] public section

noncomputable section

namespace Cert.Proof.Words

open Cert.KernelIdeal
open Idealize.ShloMosaic

theorem quot (n : ℕ) (h : n < 16384) : Scalar.divsi (BitVec.ofNat 32 n) 128#32 = BitVec.ofNat 32 (n / 128) :=
  Routing.divsi_word .scalar (by omega) (by omega) (by omega)

theorem rem (n : ℕ) (h : n < 16384) : Scalar.remsi (BitVec.ofNat 32 n) 128#32 = BitVec.ofNat 32 (n % 128) :=
  Routing.remsi_word .scalar (by omega) (by omega) (by omega)

theorem toInt_ofNat (n : ℕ) (h : n < 2 ^ 31) : (BitVec.ofNat 32 n).toInt = n := by
  rw [BitVec.toInt_eq_toNat_cond, BitVec.toNat_ofNat]; omega

theorem slt_zero (n : ℕ) (h : n < 16384) : Scalar.cmpi .slt (BitVec.ofNat 32 n) 0#32 = 0#1 := by
  have := toInt_ofNat n (by omega)
  have h' : ¬ ((n : ℤ) < 0) := by omega
  simp [Scalar.cmpi, IntOp.cmpi, BitVec.slt, this, h']

theorem sgt_zero (n : ℕ) (h : n < 16384) (h0 : n ≠ 0) : Scalar.cmpi .sgt (BitVec.ofNat 32 n) 0#32 = 1#1 := by
  have := toInt_ofNat n (by omega)
  have h' : 0 < n := by omega
  simp [Scalar.cmpi, IntOp.cmpi, BitVec.slt, this, h']

/-- The printed floor division by 128 of a word below 16384. -/
theorem floorDiv (n : ℕ) (h : n < 16384) :
    Scalar.select (Scalar.andi
        (Scalar.cmpi .ne
          (Scalar.subi (Scalar.extui (Scalar.cmpi .sgt (BitVec.ofNat 32 n) 0#32)) (Scalar.extui (Scalar.cmpi .slt (BitVec.ofNat 32 n) 0#32)))
          (Scalar.subi (Scalar.extui (Scalar.cmpi .sgt 128#32 0#32)) (Scalar.extui (Scalar.cmpi .slt 128#32 0#32))))
        (Scalar.cmpi .ne (Scalar.remsi (BitVec.ofNat 32 n) 128#32) 0#32))
      (Scalar.subi (Scalar.divsi (BitVec.ofNat 32 n) 128#32) 1#32) (Scalar.divsi (BitVec.ofNat 32 n) 128#32)
    = BitVec.ofNat 32 (n / 128) := by
  by_cases h0 : n = 0
  · subst h0; decide
  · rw [quot n h, rem n h, sgt_zero n h h0, slt_zero n h]
    have : Scalar.cmpi .ne (Scalar.subi (Scalar.extui 1#1) (Scalar.extui 0#1))
        (Scalar.subi (Scalar.extui (Scalar.cmpi .sgt 128#32 0#32)) (Scalar.extui (Scalar.cmpi .slt 128#32 0#32))) = 0#1 := by decide
    rw [this]
    simp [Scalar.select, Scalar.andi, IntOp.andi]

/-- The printed remainder by 128, its divisor guarded against zero, of a word below 16384. -/
theorem floorMod (n : ℕ) (h : n < 16384) :
    Scalar.select (Scalar.andi
        (Scalar.xori (Scalar.cmpi .slt (Scalar.remsi (BitVec.ofNat 32 n) (Scalar.select (Scalar.cmpi .eq 128#32 0#32) 1#32 128#32)) 0#32)
          (Scalar.cmpi .slt (Scalar.select (Scalar.cmpi .eq 128#32 0#32) 1#32 128#32) 0#32))
        (Scalar.cmpi .ne (Scalar.remsi (BitVec.ofNat 32 n) (Scalar.select (Scalar.cmpi .eq 128#32 0#32) 1#32 128#32)) 0#32))
      (Scalar.addi (Scalar.remsi (BitVec.ofNat 32 n) (Scalar.select (Scalar.cmpi .eq 128#32 0#32) 1#32 128#32))
        (Scalar.select (Scalar.cmpi .eq 128#32 0#32) 1#32 128#32))
      (Scalar.remsi (BitVec.ofNat 32 n) (Scalar.select (Scalar.cmpi .eq 128#32 0#32) 1#32 128#32))
    = BitVec.ofNat 32 (n % 128) := by
  have hd : Scalar.select (Scalar.cmpi .eq 128#32 0#32) 1#32 128#32 = 128#32 := by decide
  rw [hd, rem n h, slt_zero _ (by omega)]
  have : Scalar.cmpi .slt 128#32 0#32 = 0#1 := by decide
  rw [this]
  simp [Scalar.select, Scalar.andi, IntOp.andi, Scalar.xori, IntOp.xori]

/-- The row of the input read at index word `n`, and (`off4`) the row of the selection map. -/
theorem off3 (n : ℕ) (h : n < 16384) : k0_off3 (BitVec.ofNat 32 n) = ![0, 0, n / 128, 0] := by
  have e : k0_off3 (BitVec.ofNat 32 n) = ![0, 0, (BitVec.ofNat 32 (n / 128)).toNat, 0] := by
    rw [← floorDiv n h]; rfl
  rw [e, BitVec.toNat_ofNat, Nat.mod_eq_of_lt (by omega)]

theorem off5_eq : k0_off5 = k0_off3 := rfl
theorem off7_eq : k0_off7 = k0_off3 := rfl
theorem off9_eq : k0_off9 = k0_off3 := rfl
theorem off11_eq : k0_off11 = k0_off3 := rfl
theorem off13_eq : k0_off13 = k0_off3 := rfl
theorem off15_eq : k0_off15 = k0_off3 := rfl
theorem off4_eq : k0_off4 = k0_off3 := rfl
theorem off6_eq : k0_off6 = k0_off3 := rfl
theorem off8_eq : k0_off8 = k0_off3 := rfl
theorem off10_eq : k0_off10 = k0_off3 := rfl
theorem off12_eq : k0_off12 = k0_off3 := rfl
theorem off14_eq : k0_off14 = k0_off3 := rfl
theorem off16_eq : k0_off16 = k0_off3 := rfl

/-- A word below 16384 passes the check of every step. -/
theorem chk1 (n : ℕ) (h : n < 16384) : k0_chk1 (BitVec.ofNat 32 n) := by
  unfold k0_chk1
  rw [off4_eq, off3 n h]
  constructor <;> intro a <;> fin_cases a <;> simp <;> omega

theorem chk2_eq : k0_chk2 = k0_chk1 := rfl
theorem chk3_eq : k0_chk3 = k0_chk1 := rfl
theorem chk4_eq : k0_chk4 = k0_chk1 := rfl
theorem chk5_eq : k0_chk5 = k0_chk1 := rfl
theorem chk6_eq : k0_chk6 = k0_chk1 := rfl
theorem chk7_eq : k0_chk7 = k0_chk1 := rfl

end Cert.Proof.Words

end
-- ==== Proof.Sel.lean ====
/-
  Which pixel the kernel selects: the least flat index whose score is not below the greatest score is the first
  index at which the greatest score is reached, whatever the (extended real) scores are.
-/
module

public import proofs.«01_k».proof.Proof.Words
public import proofs.«01_k».proof.Proof.Gen.KernelIdeal.Skeleton
public import Idealize.ShloMosaic.Lib.Pointwise
public import Idealize.ShloMosaic.Lib.SortNet.Extract

@[expose] public section

set_option maxRecDepth 16384

noncomputable section

namespace Cert.Proof.Sel

open Cert.KernelIdeal Cert.KernelIdeal.Gen
open Idealize.ShloMosaic

/-- `n` is the first index at which `s` reaches its greatest value. -/
def IsFirstMax {α : Type} [LinearOrder α] (s : Fin 16384 → α) (n : Fin 16384) : Prop :=
  (∀ p, s p ≤ s n) ∧ ∀ p, p < n → s p < s n

theorem exists_firstMax {α : Type} [LinearOrder α] (s : Fin 16384 → α) : ∃ n, IsFirstMax s n := by
  classical
  obtain ⟨m, hm⟩ := Finite.exists_max s
  obtain ⟨n, hn, hmin⟩ := WellFounded.has_min (wellFounded_lt (α := Fin 16384)) {p | ∀ q, s q ≤ s p} ⟨m, hm⟩
  refine ⟨n, hn, fun p hp => lt_of_le_of_ne (hn p) fun e => ?_⟩
  exact hmin p (fun q => e ▸ hn q) hp

theorem IsFirstMax.unique {α : Type} [LinearOrder α] {s : Fin 16384 → α} {n m : Fin 16384} (hn : IsFirstMax s n) (hm : IsFirstMax s m) : n = m := by
  rcases lt_trichotomy n m with h | h | h
  · exact absurd (hn.1 m) (not_le.2 (hm.2 n h))
  · exact h
  · exact absurd (hm.1 n) (not_le.2 (hn.2 m h))

/-- The pixel of a flat index. -/
def pixel (p : Fin 16384) : S128x128.Idx := ix2 (⟨p.val / 128, by omega⟩ : Fin 128) (⟨p.val % 128, by omega⟩ : Fin 128)

/-- The flat index of a pixel. -/
def flat (a b : Fin 128) : Fin 16384 := ⟨128 * a.val + b.val, by omega⟩

theorem pixel_flat (a b : Fin 128) : pixel (flat a b) = ix2 a b := by
  unfold pixel flat
  have h0 : (128 * a.val + b.val) / 128 = a.val := by omega
  have h1 : (128 * a.val + b.val) % 128 = b.val := by omega
  simp only [h0, h1]

theorem flat_div_mod (p : Fin 16384) : flat ⟨p.val / 128, by omega⟩ ⟨p.val % 128, by omega⟩ = p := Fin.ext (by dsimp [flat]; omega)

/-- The greatest score, as the kernel reduces it. -/
def top (s : FVec Ideal S128x128 .f32) : Ideal .f32 :=
  extractAt ![0, 0, 0] (shapeCast S1x1x1 (multiReduction .maximumf [1, 2] S1 (shapeCast S1x128x128 s shapeCasts_S128x128_S1x128x128)
    0xFF800000#32 reduces_S1x128x128_S1 (.inl rfl) rfl) shapeCasts_S1_S1x1x1) inpos_S1x1x1_p0_0_0

/-- The flat index where the score is not below the greatest, `2 ^ 30` elsewhere. -/
def cand (s : FVec Ideal S128x128 .f32) : IVec S128x128 32 :=
  select (cmpf .oge s (broadcast S128x128 (top s))) k0_pay3 (broadcast S128x128 1073741824#32)

/-- The selected index, as the kernel reduces it. -/
def word (s : FVec Ideal S128x128 .f32) : BitVec 32 := extractAt ![0, 0, 0] (k0_pay64 (cand s)) inpos_S1x1x1_p0_0_0

theorem cast_at (α : Type) (s : S128x128.Idx → α) (a b : Fin 128) :
    shapeCast S1x128x128 s shapeCasts_S128x128_S1x128x128 (ix3 (0 : Fin 1) a b) = s (ix2 a b) := by
  pointwise

theorem ix3_cases (i : S1x128x128.Idx) : ∃ a b : Fin 128, i = ix3 (0 : Fin 1) a b := by
  refine ⟨i 1, i 2, ?_⟩
  rw [eq_ix3 i]
  congr 1
  exact Subsingleton.elim (α := Fin 1) _ _

theorem pay3_at (a b : Fin 128) : k0_pay3 (ix2 a b) = BitVec.ofNat 32 (flat a b).val := by
  pointwise [k0_pay3]
  apply BitVec.eq_of_toNat_eq
  simp [IntOp.addi, IntOp.muli, flat]
  omega

/-- Every index of the flattened picture reduces to the one result. -/
theorem drop_all : (Finset.univ.filter fun i : S1x128x128.Idx => reduces_S1x128x128_S1.drop i = ix1 (0 : Fin 1)) = Finset.univ := by
  refine Finset.filter_true_of_mem fun i _ => ?_
  rw [Idealize.ShloMosaic.eq_ix1 (reduces_S1x128x128_S1.drop i)]
  congr 1
  exact Subsingleton.elim (α := Fin 1) _ _

theorem negInf : (FloatOps.ofBits (F := Ideal) .f32 0xFF800000#32 : Ideal .f32) = (⊥ : EReal) := by
  simp [Ideal.ofBits, Ideal.ieee]

theorem top_eq (s : FVec Ideal S128x128 .f32) :
    top s = Finset.univ.fold max (⊥ : EReal) (shapeCast S1x128x128 s shapeCasts_S128x128_S1x128x128) := by
  have e : top s = multiReduction .maximumf [1, 2] S1 (shapeCast S1x128x128 s shapeCasts_S128x128_S1x128x128)
      0xFF800000#32 reduces_S1x128x128_S1 (.inl rfl) rfl (ix1 (0 : Fin 1)) := by
    unfold top extractAt
    pointwise
  refine e.trans ((multiReduction_maximumf_eq_fold _ _ _ _ _ _).trans ?_)
  rw [drop_all, negInf]
  rfl

theorem le_top (s : FVec Ideal S128x128 .f32) (p : Fin 16384) : (s (pixel p) : EReal) ≤ top s := by
  rw [top_eq]
  refine (Finset.le_fold_max _).2 (Or.inr ⟨ix3 (0 : Fin 1) ⟨p.val / 128, by omega⟩ ⟨p.val % 128, by omega⟩, Finset.mem_univ _, ?_⟩)
  rw [cast_at]; rfl

theorem top_attained (s : FVec Ideal S128x128 .f32) {n : Fin 16384} (hn : IsFirstMax (α := EReal) (fun p => s (pixel p)) n) :
    (top s : EReal) = s (pixel n) := by
  refine le_antisymm ?_ (le_top s n)
  rw [top_eq]
  refine (Finset.fold_max_le _).2 ⟨bot_le, fun i _ => ?_⟩
  obtain ⟨a, b, rfl⟩ := ix3_cases i
  rw [cast_at, ← pixel_flat]
  exact hn.1 _

theorem word_eq (s : FVec Ideal S128x128 .f32) :
    (word s).toInt = Finset.univ.fold min (2147483647 : ℤ) (fun i => (shapeCast S1x128x128 (cand s) shapeCasts_S128x128_S1x128x128 i).toInt) := by
  have e : word s = multiReductionI .minsi [1, 2] S1 (shapeCast S1x128x128 (cand s) shapeCasts_S128x128_S1x128x128)
      2147483647#32 reduces_S1x128x128_S1 rfl (ix1 (0 : Fin 1)) := by
    unfold word k0_pay64 extractAt
    pointwise
  refine (congrArg BitVec.toInt (e.trans ((multiReductionI_eq_fold _ _ _ _ _ _).trans (by rw [drop_all])))).trans ?_
  exact (Finset.fold_hom (op := IntOp.minsi) (op' := min) (m := BitVec.toInt) fun x y => SortNet.toInt_minsi x y).symm

theorem cand_at (s : FVec Ideal S128x128 .f32) (p : Fin 16384) :
    cand s (pixel p) = if (top s : EReal) ≤ s (pixel p) then BitVec.ofNat 32 p.val else 1073741824#32 := by
  have h3 : k0_pay3 (pixel p) = BitVec.ofNat 32 p.val := by
    unfold pixel; rw [pay3_at, flat_div_mod]
  have e : cand s (pixel p) = Scalar.select (FloatOps.cmpf .oge (s (pixel p)) (top s)) (k0_pay3 (pixel p)) 1073741824#32 := by
    unfold cand
    rw [ValueIdx.select_apply, ValueIdx.cmpf_apply, ValueIdx.broadcast_apply, ValueIdx.broadcast_apply]
  rw [e, h3, Ideal.cmpf_def]
  by_cases h : (top s : EReal) ≤ s (pixel p)
  · simp [Ideal.cmp, h, Scalar.select]
  · simp [Ideal.cmp, h, Scalar.select]

/-- THE SELECTION: the kernel's word is the first index of the greatest score. -/
theorem word_firstMax (s : FVec Ideal S128x128 .f32) {n : Fin 16384} (hn : IsFirstMax (α := EReal) (fun p => s (pixel p)) n) :
    word s = BitVec.ofNat 32 n.val := by
  apply BitVec.eq_of_toInt_eq
  rw [word_eq, Words.toInt_ofNat _ (by omega)]
  have ht := top_attained s hn
  apply le_antisymm
  · refine (Finset.fold_min_le _).2 (Or.inr ⟨ix3 (0 : Fin 1) ⟨n.val / 128, by omega⟩ ⟨n.val % 128, by omega⟩, Finset.mem_univ _, ?_⟩)
    rw [cast_at]
    have := cand_at s n
    rw [if_pos ht.le] at this
    change (cand s (pixel n)).toInt ≤ _
    rw [this, Words.toInt_ofNat _ (by omega)]
  · refine (Finset.le_fold_min _).2 ⟨by omega, fun i _ => ?_⟩
    obtain ⟨a, b, rfl⟩ := ix3_cases i
    rw [cast_at, ← pixel_flat, cand_at]
    split
    · rename_i h
      rw [Words.toInt_ofNat _ (by omega)]
      by_contra hlt
      have := hn.2 (flat a b) (by rw [Fin.lt_def]; omega)
      dsimp only at this
      rw [← ht] at this
      exact absurd h (not_le.2 this)
    · have : (1073741824#32 : BitVec 32).toInt = 1073741824 := by decide
      rw [this]; omega

/-- Whatever the scores, the word is the word of an index of the picture. -/
theorem word_lt (s : FVec Ideal S128x128 .f32) : ∃ n : Fin 16384, word s = BitVec.ofNat 32 n.val := by
  obtain ⟨n, hn⟩ := exists_firstMax (α := EReal) fun p => s (pixel p)
  exact ⟨n, word_firstMax s hn⟩

theorem chk_word (s : FVec Ideal S128x128 .f32) : k0_chk1 (word s) := by
  obtain ⟨n, hn⟩ := word_lt s
  rw [hn]; exact Words.chk1 _ n.isLt

/-! Each printed selection is this one, at the scores it reduces, and passes its check. -/

theorem chk1_of (v110 : FVec Ideal S128x128 .f32) (v112 : IVec S128x128 1) (c : Ideal .f32) :
    k0_chk1 (extractAt ![0, 0, 0] (k0_pay13 k0_pay3 v110 v112 c) inpos_S1x1x1_p0_0_0) :=
  chk_word (k0_pay12 v110 v112 c)

theorem chk2_of (v114 : FVec Ideal S128x128 .f32) (v126 : BitVec 32) (v232 : FVec Ideal S128x128 .f32) :
    k0_chk2 (extractAt ![0, 0, 0] (k0_pay20 k0_pay3 v114 v126 v232) inpos_S1x1x1_p0_0_0) :=
  chk_word (k0_pay19 k0_pay3 v114 v126 v232)

theorem chk3_of (v242 : FVec Ideal S128x128 .f32) (v254 : BitVec 32) (v359 : FVec Ideal S128x128 .f32) :
    k0_chk3 (extractAt ![0, 0, 0] (k0_pay28 k0_pay3 v242 v254 v359) inpos_S1x1x1_p0_0_0) :=
  chk_word (k0_pay27 k0_pay3 v242 v254 v359)

theorem chk4_of (v370 : FVec Ideal S128x128 .f32) (v382 : BitVec 32) (v480 v481 : FVec Ideal S128x128 .f32) :
    k0_chk4 (extractAt ![0, 0, 0] (k0_pay37 k0_pay3 v370 v382 v480 v481) inpos_S1x1x1_p0_0_0) :=
  chk_word (k0_pay36 k0_pay3 v370 v382 v480 v481)

theorem chk5_of (v1 : FVec Ideal S96x128x128 .f32) (v9 v498 : FVec Ideal S128x128 .f32) (v510 : BitVec 32) (v602 : Ideal .f32)
    (v603 : FVec Ideal S96x128x128 .f32) :
    k0_chk5 (extractAt ![0, 0, 0] (k0_pay46 v1 k0_pay3 v9 v498 v510 v602 v603) inpos_S1x1x1_p0_0_0) :=
  chk_word (k0_pay45 v1 k0_pay3 v9 v498 v510 v602 v603)

theorem chk6_of (v1 : FVec Ideal S96x128x128 .f32) (v9 v626 : FVec Ideal S128x128 .f32) (v638 : BitVec 32) (v671 : FVec Ideal S96x1x1 .f32) :
    k0_chk6 (extractAt ![0, 0, 0] (k0_pay53 v1 k0_pay3 v9 v626 v638 v671) inpos_S1x1x1_p0_0_0) :=
  chk_word (k0_pay52 v1 k0_pay3 v9 v626 v638 v671)

/-- The scores whose candidates the seventh selection reduces. -/
def score7 (v1 : FVec Ideal S96x128x128 .f32) (v6 : IVec S128x128 32) (v9 v754 : FVec Ideal S128x128 .f32) (v766 : BitVec 32)
    (v799 : FVec Ideal S96x1x1 .f32) : FVec Ideal S128x128 .f32 :=
  select (cmpi .eq v6 (broadcast S128x128 v766)) (broadcast S128x128 (Scalar.ofBits .f32 0x00000000#32))
    (mulf (subf (broadcast S128x128 (Scalar.ofBits .f32 0x3F800000#32)) (k0_pay61 v1 v9 v799)) v754)

theorem chk7_of (v1 : FVec Ideal S96x128x128 .f32) (v9 v754 : FVec Ideal S128x128 .f32) (v766 : BitVec 32) (v799 : FVec Ideal S96x1x1 .f32) :
    k0_chk7 (extractAt ![0, 0, 0] (k0_pay64 (k0_pay63 v1 k0_pay3 v9 v754 v766 v799)) inpos_S1x1x1_p0_0_0) :=
  chk_word (score7 v1 k0_pay3 v9 v754 v766 v799)

end Cert.Proof.Sel

end
-- ==== Proof.Body.lean ====
module

public import proofs.«01_k».proof.Proof.Gen.KernelIdeal.Frame
public import proofs.«01_k».proof.Proof.Gen.KernelIdeal.Skeleton
public import Idealize.ShloMosaic.Lib.Claim
public import proofs.«01_k».proof.Proof.Sel

@[expose] public section

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The run of the body: what each output's buffer ends with. -/
def run (c : Dev nD) (E : Set ℕ) (i : grid0.Coords) (arg1 : Memref sig .tc .vmem S1x96x128x128 .f32) (harg1 : arg1.IsWhole)
    (arg2 : Memref sig .tc .vmem S1x8x96 .f32) (harg2 : arg2.IsWhole) (arg3 : Memref sig .tc .vmem S1x8x128x128 .f32) (harg3 : arg3.IsWhole)
    (arg4 : Memref sig .tc .vmem S1x1x128x128 .f32) (harg4 : arg4.IsWhole) (f1 : Buf (Elt Ideal) (arg1.view.loc (c : Thread nD τ))) :
    Σ' (L2 : List (View.Piece (Elt Ideal) S1x8x96 .f32)) (L3 : List (View.Piece (Elt Ideal) S1x8x128x128 .f32)),
      { L4 : List (View.Piece (Elt Ideal) S1x1x128x128 .f32) // ∀ (f2 : Buf (Elt Ideal) (arg2.view.loc (c : Thread nD τ)))
          (f3 : Buf (Elt Ideal) (arg3.view.loc (c : Thread nD τ))) (f4 : Buf (Elt Ideal) (arg4.view.loc (c : Thread nD τ))) (K : PUnit → sProp 𝕄),
        iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4)
          ∗ (iprop((arg1.view.loc (c : Thread nD τ) ↦[arg1.view.set]{fullShare} f1) ∗ (arg2.view.loc (c : Thread nD τ) ↦[arg2.view.set]{fullShare} arg2.view.writes (Elt Ideal) f2 L2)
              ∗ (arg3.view.loc (c : Thread nD τ) ↦[arg3.view.set]{fullShare} arg3.view.writes (Elt Ideal) f3 L3)
              ∗ (arg4.view.loc (c : Thread nD τ) ↦[arg4.view.set]{fullShare} arg4.view.writes (Elt Ideal) arg4.view.junk L4)) -∗ K ⟨⟩))
        ⊢ wp frame (wpE (defs₀ (F := Ideal)) Variants.none c none) E (cc0__rv_kernel i arg1 harg1 arg2 harg2 arg3 harg3 arg4 harg4) K } := by
  refine ⟨?_, ?_, ?_, fun f2 f3 f4 K => ?run⟩
  case run =>
    simp only [cc0__rv_kernel_eq_skeleton]; unfold cc0__rv_kernel_skel
    iintro ⟨H1, H2, H3, H4, Hk⟩
    sl_exec (disch := (first
      | sl_exact Sel.chk1_of _ _ _
      | sl_exact Sel.chk2_of _ _ _
      | sl_exact Sel.chk3_of _ _ _
      | sl_exact Sel.chk4_of _ _ _ _
      | sl_exact Sel.chk5_of _ _ _ _ _ _
      | sl_exact Sel.chk6_of _ _ _ _ _
      | sl_exact Sel.chk7_of _ _ _ _ _))
    sl_step
    iapply Hk
    isplitl [H1]; · iexact H1
    isplitl [H2]; · iexact H2
    isplitl [H3]; · iexact H3
    iexact H4

end Cert.Proof.Body

end
-- ==== Proof.Kern.lean ====
/-
  One step of the kernel, once: the selected pixel (its word, its row and its lane), the gathered column, the map of
  similarities, the scores that are left, and the three outputs as lists of stores.  The printed body repeats this step
  eight times; here it is a recursion over the steps.
-/
module

public import proofs.«01_k».proof.Proof.Sel
public import Idealize.ShloMosaic.Lib.Pipeline.FrameBody

@[expose] public section

set_option maxRecDepth 16384

noncomputable section

namespace Cert.Proof.Kern

open Cert.KernelIdeal Cert.KernelIdeal.Gen
open Idealize.ShloMosaic

/-- The input's block of one grid point. -/
abbrev Blk := S1x96x128x128.Idx → Elt Ideal .f32

/-- A selected pixel: its word, where its row lies, its lane in the row. -/
structure Pick where
  word : BitVec 32
  off : Fin 4 → Nat
  lane : BitVec 32
  inX : ∀ a, off a + S1x96x1x128.size a ≤ S1x96x128x128.size a
  inP : ∀ a, off a + S1x1x1x128.size a ≤ S1x1x128x128.size a

/-- The lane of a word, as it is printed. -/
def laneOf (w : BitVec 32) : BitVec 32 :=
  Scalar.select (Scalar.andi
      (Scalar.xori (Scalar.cmpi .slt (Scalar.remsi w (Scalar.select (Scalar.cmpi .eq 128#32 0#32) 1#32 128#32)) 0#32)
        (Scalar.cmpi .slt (Scalar.select (Scalar.cmpi .eq 128#32 0#32) 1#32 128#32) 0#32))
      (Scalar.cmpi .ne (Scalar.remsi w (Scalar.select (Scalar.cmpi .eq 128#32 0#32) 1#32 128#32)) 0#32))
    (Scalar.addi (Scalar.remsi w (Scalar.select (Scalar.cmpi .eq 128#32 0#32) 1#32 128#32))
      (Scalar.select (Scalar.cmpi .eq 128#32 0#32) 1#32 128#32))
    (Scalar.remsi w (Scalar.select (Scalar.cmpi .eq 128#32 0#32) 1#32 128#32))

/-- The first pixel is a constant. -/
def pick0 : Pick := ⟨8192#32, k0_off1, 0#32, k0_off1_inb, k0_off2_inb⟩

/-- The pixel of a word. -/
def Pick.ofWord (w : BitVec 32) (h : k0_chk1 w) : Pick := ⟨w, k0_off3 w, laneOf w, h.1, h.2⟩

/-- The block, as the body loads it. -/
def img (x : Blk) : FVec Ideal S96x128x128 .f32 := k0_pay2 (View.ld x (Rect.unit ![0, 0, 0, 0] S1x96x128x128.size (by intro a; fin_cases a <;> decide)))

/-- The squared norms of its columns. -/
def norms (x : Blk) : FVec Ideal S128x128 .f32 := k0_pay4 (View.ld x (Rect.unit ![0, 0, 0, 0] S1x96x128x128.size (by intro a; fin_cases a <;> decide)))

/-- The column at a pixel. -/
def raw (x : Blk) (p : Pick) : FVec Ideal S96x1x1 .f32 := k0_pay14 p.lane (View.ld x (Rect.unit (s := S1x96x128x128) p.off S1x96x1x128.size p.inX))

/-- The similarities to it. -/
def sim (x : Blk) (p : Pick) : FVec Ideal S128x128 .f32 := k0_pay8 (img x) (norms x) (raw x p)

/-- The scores after the first step. -/
def score0 (x : Blk) : FVec Ideal S128x128 .f32 :=
  k0_pay12 (k0_pay10 (img x) (norms x) (raw x pick0)) (k0_pay11 k0_pay3) (Scalar.ofBits .f32 0x00000000#32)

/-- The pixel selected from the scores that are left. -/
def pick (s : FVec Ideal S128x128 .f32) : Pick := Pick.ofWord (Sel.word s) (Sel.chk_word s)

/-- The scores lowered by the similarities to the pixel selected from them. -/
def low (x : Blk) (s : FVec Ideal S128x128 .f32) : FVec Ideal S128x128 .f32 := k0_pay19 k0_pay3 s (Sel.word s) (sim x (pick s))

/-- The step after the first: select, and lower the scores. -/
def next (x : Blk) (s : Pick × FVec Ideal S128x128 .f32) : Pick × FVec Ideal S128x128 .f32 :=
  (pick s.2, low x s.2)

/-- Pixel and scores of every step. -/
def seq (x : Blk) (k : ℕ) : Pick × FVec Ideal S128x128 .f32 := Nat.rec (pick0, score0 x) (fun _ => next x) k

theorem seq_succ (x : Blk) (k : ℕ) : seq x (k + 1) = next x (seq x k) := rfl

theorem seq_zero (x : Blk) : (seq x 0).1 = pick0 := rfl

theorem pick_seq (x : Blk) (k : ℕ) : pick (seq x k).2 = (seq x (k + 1)).1 := rfl

theorem step_of {x : Blk} {s s' : FVec Ideal S128x128 .f32} (k : ℕ) (h' : s' = k0_pay19 k0_pay3 s (Sel.word s) (sim x (pick s)))
    (h : s = (seq x k).2) : s' = (seq x (k + 1)).2 := by
  rw [h', h, seq_succ]; simp only [next, low]

theorem sim_of {x : Blk} {s t : FVec Ideal S128x128 .f32} (k : ℕ) (h' : t = k0_pay8 (img x) (norms x) (raw x (pick s)))
    (h : s = (seq x k).2) : t = sim x (seq x (k + 1)).1 := by
  rw [h', h, ← pick_seq]; simp only [sim]

/-- The store of step `k`, at the pixel `p`, into the vectors. -/
def vecAt (x : Blk) (p : Pick) (k : ℕ) (h : k < 8) : View.Piece (Elt Ideal) S1x8x96 .f32 :=
  ⟨Rect.unit ![0, k, 0] S1x1x96.size (by intro a; fin_cases a <;> simp [S1x1x96, S1x8x96, Shape.size] <;> omega), k0_pay15 (img x) (sim x p)⟩

/-- The store of step `k`, at the pixel `p`, into the similarities. -/
def simAt (x : Blk) (p : Pick) (k : ℕ) (h : k < 8) : View.Piece (Elt Ideal) S1x8x128x128 .f32 :=
  ⟨Rect.unit ![0, k, 0, 0] S1x1x128x128.size (by intro a; fin_cases a <;> simp [S1x1x128x128, S1x8x128x128, Shape.size] <;> omega),
    shapeCast S1x1x128x128 (sim x p) shapeCasts_S128x128_S1x1x128x128⟩

/-- The stores into the vectors, the last first. -/
def vecs (x : Blk) : List (View.Piece (Elt Ideal) S1x8x96 .f32) :=
  [vecAt x (seq x 7).1 7 (by omega), vecAt x (seq x 6).1 6 (by omega), vecAt x (seq x 5).1 5 (by omega), vecAt x (seq x 4).1 4 (by omega),
    vecAt x (seq x 3).1 3 (by omega), vecAt x (seq x 2).1 2 (by omega), vecAt x (seq x 1).1 1 (by omega), vecAt x (seq x 0).1 0 (by omega)]

/-- The stores into the similarities, the last first. -/
def sims (x : Blk) : List (View.Piece (Elt Ideal) S1x8x128x128 .f32) :=
  [simAt x (seq x 7).1 7 (by omega), simAt x (seq x 6).1 6 (by omega), simAt x (seq x 5).1 5 (by omega), simAt x (seq x 4).1 4 (by omega),
    simAt x (seq x 3).1 3 (by omega), simAt x (seq x 2).1 2 (by omega), simAt x (seq x 1).1 1 (by omega), simAt x (seq x 0).1 0 (by omega)]

/-- One more mark in the row of a pixel. -/
def mark (p : Pick) (r : Vec Ideal S1x1x1x128 .f32) : FVec Ideal S1x1x1x128 .f32 :=
  k0_pay7 (F := Ideal) (iota .tc S1x1x128 32 [2] iota_S1x1x128_d2_w32) p.lane 0#1 128#32 r

/-- The row of a pixel in the map of marks. -/
abbrev rowRect (p : Pick) : Rect S1x1x128x128 := Rect.unit p.off S1x1x1x128.size p.inP

/-- The map of marks before the first: zeros. -/
def marks0 : List (View.Piece (Elt Ideal) S1x1x128x128 .f32) :=
  [⟨Rect.unit ![0, 0, 0, 0] S1x1x128x128.size (by intro a; fin_cases a <;> decide), k0_pay5 (F := Ideal)⟩]

/-- The stores into the map of marks after `k` steps. -/
def marks (x : Blk) (k : ℕ) : List (View.Piece (Elt Ideal) S1x1x128x128 .f32) :=
  Nat.rec marks0 (fun k L => ⟨rowRect (seq x k).1, mark (seq x k).1 (fun j => View.canon L ((rowRect (seq x k).1).toLoadRect.idx j))⟩ :: L) k

/-- One more store, its row read back from the buffer. -/
def markOf (v : View sig .tc .vmem S1x1x128x128 .f32) (p : Pick) (L : List (View.Piece (Elt Ideal) S1x1x128x128 .f32)) :
    List (View.Piece (Elt Ideal) S1x1x128x128 .f32) :=
  ⟨rowRect p, mark p (v.readAt (Elt Ideal) (rowRect p).toLoadRect (v.writes (Elt Ideal) v.junk L))⟩ :: L

theorem marks_zero (x : Blk) : marks x 0 = marks0 := rfl

theorem markOf_marks (x : Blk) (v : View sig .tc .vmem S1x1x128x128 .f32) (k : ℕ) : markOf v (seq x k).1 (marks x k) = marks x (k + 1) := by
  unfold markOf
  rw [View.readAt_writes_junk_eq_canon]
  rfl

end Cert.Proof.Kern

end
-- ==== Proof.BodyRun.lean ====
/-
  What the run of the body stores, in terms of the recursion over the steps.
-/
module
public import proofs.«01_k».proof.Proof.Body
public import proofs.«01_k».proof.Proof.Kern
@[expose] public section
set_option maxRecDepth 16384
noncomputable section
namespace Cert.Proof.Body
open Cert.KernelIdeal Cert.KernelIdeal.Gen
open Cert.Proof.Kern
open Idealize.ShloMosaic Idealize.ShloMosaic.TcCoe

section Steps
variable (c : Dev nD) (arg1 : Memref sig .tc .vmem S1x96x128x128 .f32) (f1 : Buf (Elt Ideal) (arg1.view.loc (c : Thread nD τ)))

/-! The scores that the body computes, step by step. -/

theorem score1 : run.sl.v114 c arg1 f1 = (seq (arg1.view.read (Elt Ideal) f1) 0).2 := rfl
theorem score2 : run.sl.v242 c arg1 f1 = (seq (arg1.view.read (Elt Ideal) f1) 1).2 :=
  step_of 0 (s := run.sl.v114 c arg1 f1) rfl (score1 c arg1 f1)
theorem score3 : run.sl.v370 c arg1 f1 = (seq (arg1.view.read (Elt Ideal) f1) 2).2 :=
  step_of 1 (s := run.sl.v242 c arg1 f1) rfl (score2 c arg1 f1)
theorem score4 : run.sl.r_6 c arg1 f1 = (seq (arg1.view.read (Elt Ideal) f1) 3).2 :=
  step_of 2 (s := run.sl.v370 c arg1 f1) rfl (score3 c arg1 f1)
theorem score5 : run.sl.r_8 c arg1 f1 = (seq (arg1.view.read (Elt Ideal) f1) 4).2 :=
  step_of 3 (s := run.sl.r_6 c arg1 f1) rfl (score4 c arg1 f1)
theorem score6 : run.sl.r_10 c arg1 f1 = (seq (arg1.view.read (Elt Ideal) f1) 5).2 :=
  step_of 4 (s := run.sl.r_8 c arg1 f1) rfl (score5 c arg1 f1)

theorem sim0 : run.sl.r c arg1 f1 = sim (arg1.view.read (Elt Ideal) f1) (seq (arg1.view.read (Elt Ideal) f1) 0).1 := by
  rw [seq_zero]; simp only [sim]; exact (rfl : _ = k0_pay8 (img (arg1.view.read (Elt Ideal) f1)) (norms (arg1.view.read (Elt Ideal) f1)) (raw (arg1.view.read (Elt Ideal) f1) pick0))
theorem sim1 : run.sl.r_2 c arg1 f1 = sim (arg1.view.read (Elt Ideal) f1) (seq (arg1.view.read (Elt Ideal) f1) 1).1 :=
  sim_of 0 (s := run.sl.v114 c arg1 f1) rfl (score1 c arg1 f1)
theorem sim2 : run.sl.v360 c arg1 f1 = sim (arg1.view.read (Elt Ideal) f1) (seq (arg1.view.read (Elt Ideal) f1) 2).1 :=
  sim_of 1 (s := run.sl.v242 c arg1 f1) rfl (score2 c arg1 f1)
theorem sim3 : run.sl.r_5 c arg1 f1 = sim (arg1.view.read (Elt Ideal) f1) (seq (arg1.view.read (Elt Ideal) f1) 3).1 :=
  sim_of 2 (s := run.sl.v370 c arg1 f1) rfl (score3 c arg1 f1)
theorem sim4 : run.sl.r_7 c arg1 f1 = sim (arg1.view.read (Elt Ideal) f1) (seq (arg1.view.read (Elt Ideal) f1) 4).1 :=
  sim_of 3 (s := run.sl.r_6 c arg1 f1) rfl (score4 c arg1 f1)
theorem sim5 : run.sl.r_9 c arg1 f1 = sim (arg1.view.read (Elt Ideal) f1) (seq (arg1.view.read (Elt Ideal) f1) 5).1 :=
  sim_of 4 (s := run.sl.r_8 c arg1 f1) rfl (score5 c arg1 f1)
theorem sim6 : run.sl.r_11 c arg1 f1 = sim (arg1.view.read (Elt Ideal) f1) (seq (arg1.view.read (Elt Ideal) f1) 6).1 :=
  sim_of 5 (s := run.sl.r_10 c arg1 f1) rfl (score6 c arg1 f1)
/-- The scores from which the last pixel is selected. -/
theorem score7 : Sel.score7 (run.sl.v1 c arg1 f1) k0_pay3 (run.sl.v9 c arg1 f1) (run.sl.r_10 c arg1 f1) (run.sl.v766 c arg1 f1) (run.sl.v799 c arg1 f1) = (seq (arg1.view.read (Elt Ideal) f1) 6).2 := by
  refine step_of 5 (s := run.sl.r_10 c arg1 f1) ?_ (score6 c arg1 f1)
  have h1 : run.sl.v766 c arg1 f1 = Sel.word (run.sl.r_10 c arg1 f1) := rfl
  have h2 : k0_pay61 (run.sl.v1 c arg1 f1) (run.sl.v9 c arg1 f1) (run.sl.v799 c arg1 f1) = sim (arg1.view.read (Elt Ideal) f1) (pick (run.sl.r_10 c arg1 f1)) :=
    (sim6 c arg1 f1).trans (by rw [score6, pick_seq])
  unfold Sel.score7 k0_pay19
  rw [h1, h2]

theorem sim7 : k0_pay69 (run.sl.v1 c arg1 f1) (run.sl.v9 c arg1 f1) (run.sl.v927 c arg1 f1) = sim (arg1.view.read (Elt Ideal) f1) (seq (arg1.view.read (Elt Ideal) f1) 7).1 :=
  sim_of 6 (s := Sel.score7 (run.sl.v1 c arg1 f1) k0_pay3 (run.sl.v9 c arg1 f1) (run.sl.r_10 c arg1 f1) (run.sl.v766 c arg1 f1) (run.sl.v799 c arg1 f1)) rfl (score7 c arg1 f1)

variable (E : Set ℕ) (i : grid0.Coords) (harg1 : arg1.IsWhole) (arg2 : Memref sig .tc .vmem S1x8x96 .f32) (harg2 : arg2.IsWhole)
  (arg3 : Memref sig .tc .vmem S1x8x128x128 .f32) (harg3 : arg3.IsWhole) (arg4 : Memref sig .tc .vmem S1x1x128x128 .f32) (harg4 : arg4.IsWhole)

/-- The stores into the vectors that the run of the body ends with. -/
theorem run_vecs : (run c E i arg1 harg1 arg2 harg2 arg3 harg3 arg4 harg4 f1).1 = vecs (arg1.view.read (Elt Ideal) f1) := by
  unfold vecs vecAt
  rw [← sim0, ← sim1, ← sim2, ← sim3, ← sim4, ← sim5, ← sim6, ← sim7]
  rfl

/-- The stores into the similarities. -/
theorem run_sims : (run c E i arg1 harg1 arg2 harg2 arg3 harg3 arg4 harg4 f1).2.1 = sims (arg1.view.read (Elt Ideal) f1) := by
  unfold sims simAt
  rw [← sim0, ← sim1, ← sim2, ← sim3, ← sim4, ← sim5, ← sim6, ← sim7]
  rfl

/-- The stores into the map of marks. -/
theorem run_marks : (run c E i arg1 harg1 arg2 harg2 arg3 harg3 arg4 harg4 f1).2.2.1 = marks (arg1.view.read (Elt Ideal) f1) 8 := by
  have h : (run c E i arg1 harg1 arg2 harg2 arg3 harg3 arg4 harg4 f1).2.2.1 = markOf arg4.view (pick (Sel.score7 (run.sl.v1 c arg1 f1) k0_pay3 (run.sl.v9 c arg1 f1) (run.sl.r_10 c arg1 f1) (run.sl.v766 c arg1 f1) (run.sl.v799 c arg1 f1))) (markOf arg4.view (pick (run.sl.r_10 c arg1 f1)) (markOf arg4.view (pick (run.sl.r_8 c arg1 f1))
      (markOf arg4.view (pick (run.sl.r_6 c arg1 f1)) (markOf arg4.view (pick (run.sl.v370 c arg1 f1)) (markOf arg4.view (pick (run.sl.v242 c arg1 f1))
        (markOf arg4.view (pick (run.sl.v114 c arg1 f1)) (markOf arg4.view pick0 marks0))))))) := rfl
  rw [h, score7, score1, score2, score3, score4, score5, score6]
  simp only [pick_seq]
  rw [← seq_zero (arg1.view.read (Elt Ideal) f1), ← marks_zero (arg1.view.read (Elt Ideal) f1)]
  simp only [markOf_marks]
end Steps
end Cert.Proof.Body

end
-- ==== Proof.KRun.lean ====
/-
  The run of the whole kernel: the body's triple at a grid point, the pipeline's proof data, the launch and the frame.
  After a point the three output buffers hold what the recursion over the steps stores into them.
-/
module

public import proofs.«01_k».proof.Proof.BodyRun

@[expose] public section

set_option maxRecDepth 16384

noncomputable section

namespace Cert.Proof.KRun

open Cert.KernelIdeal Cert.KernelIdeal.Gen Cert.Proof.Kern
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What one grid point leaves -/

/-- The vectors, -/
def outVec (x : Blk) : Vec Ideal S1x8x96 .f32 := View.canon (vecs x)
/-- the similarities, -/
def outSim (x : Blk) : Vec Ideal S1x8x128x128 .f32 := View.canon (sims x)
/-- the marks. -/
def outPos (x : Blk) : Vec Ideal S1x1x128x128 .f32 := View.canon (marks x 8)

theorem cover_vec (x : Blk) (y : S1x8x96.Idx) : ∃ pc ∈ vecs x, y ∈ pc.1.set := View.cover_of_tiled (vecs x) S1x1x96.size (by rfl) y

theorem cover_sim (x : Blk) (y : S1x8x128x128.Idx) : ∃ pc ∈ sims x, y ∈ pc.1.set := View.cover_of_tiled (sims x) S1x1x128x128.size (by rfl) y

/-! ## The body's triple -/

/-- The run of the body, its stores named. -/
theorem run_at (c : Dev nD) (E : Set ℕ) (i : grid0.Coords) (arg1 : Memref sig .tc .vmem S1x96x128x128 .f32) (harg1 : arg1.IsWhole)
    (arg2 : Memref sig .tc .vmem S1x8x96 .f32) (harg2 : arg2.IsWhole) (arg3 : Memref sig .tc .vmem S1x8x128x128 .f32) (harg3 : arg3.IsWhole)
    (arg4 : Memref sig .tc .vmem S1x1x128x128 .f32) (harg4 : arg4.IsWhole) (f1 : Buf (Elt Ideal) (arg1.view.loc (c : Thread nD τ)))
    (f2 : Buf (Elt Ideal) (arg2.view.loc (c : Thread nD τ))) (f3 : Buf (Elt Ideal) (arg3.view.loc (c : Thread nD τ)))
    (f4 : Buf (Elt Ideal) (arg4.view.loc (c : Thread nD τ))) (K : PUnit → sProp 𝕄) :
    iprop((arg1.view.loc (c : Thread nD τ) ↦[arg1.view.set]{fullShare} f1) ∗ (arg2.view.loc (c : Thread nD τ) ↦[arg2.view.set]{fullShare} f2)
      ∗ (arg3.view.loc (c : Thread nD τ) ↦[arg3.view.set]{fullShare} f3) ∗ (arg4.view.loc (c : Thread nD τ) ↦[arg4.view.set]{fullShare} f4)
      ∗ (iprop((arg1.view.loc (c : Thread nD τ) ↦[arg1.view.set]{fullShare} f1)
          ∗ (arg2.view.loc (c : Thread nD τ) ↦[arg2.view.set]{fullShare} arg2.view.writes (Elt Ideal) f2 (vecs (arg1.view.read (Elt Ideal) f1)))
          ∗ (arg3.view.loc (c : Thread nD τ) ↦[arg3.view.set]{fullShare} arg3.view.writes (Elt Ideal) f3 (sims (arg1.view.read (Elt Ideal) f1)))
          ∗ (arg4.view.loc (c : Thread nD τ) ↦[arg4.view.set]{fullShare} arg4.view.writes (Elt Ideal) arg4.view.junk (marks (arg1.view.read (Elt Ideal) f1) 8))) -∗ K ⟨⟩))
    ⊢ wp frame (wpE (defs₀ (F := Ideal)) Variants.none c none) E (cc0__rv_kernel i arg1 harg1 arg2 harg2 arg3 harg3 arg4 harg4) K := by
  have e2 := Body.run_vecs c arg1 f1 E i harg1 arg2 harg2 arg3 harg3 arg4 harg4
  have e3 := Body.run_sims c arg1 f1 E i harg1 arg2 harg2 arg3 harg3 arg4 harg4
  have e4 := Body.run_marks c arg1 f1 E i harg1 arg2 harg2 arg3 harg3 arg4 harg4
  revert e2 e3 e4
  generalize Body.run c E i arg1 harg1 arg2 harg2 arg3 harg3 arg4 harg4 f1 = R
  rcases R with ⟨L2, L3, L4, h⟩
  intro e2 e3 e4
  dsimp only at e2 e3 e4
  rw [← e2, ← e3, ← e4]
  exact h f2 f3 f4 K

theorem sound_kernel (c : Dev nD) (E : Set ℕ) (i : grid0.Coords) (arg1 : Memref sig .tc .vmem S1x96x128x128 .f32) (harg1 : arg1.IsWhole)
    (arg2 : Memref sig .tc .vmem S1x8x96 .f32) (harg2 : arg2.IsWhole) (arg3 : Memref sig .tc .vmem S1x8x128x128 .f32) (harg3 : arg3.IsWhole)
    (arg4 : Memref sig .tc .vmem S1x1x128x128 .f32) (harg4 : arg4.IsWhole) (x : Blk) (K : PUnit → sProp 𝕄) :
    iprop(owns (c : Thread nD τ) arg1 fullShare x ∗ (∃ d, owns (c : Thread nD τ) arg2 fullShare d) ∗ (∃ d, owns (c : Thread nD τ) arg3 fullShare d)
        ∗ (∃ d, owns (c : Thread nD τ) arg4 fullShare d)
        ∗ (iprop(owns (c : Thread nD τ) arg1 fullShare x ∗ owns (c : Thread nD τ) arg2 fullShare (outVec x) ∗ owns (c : Thread nD τ) arg3 fullShare (outSim x)
            ∗ owns (c : Thread nD τ) arg4 fullShare (outPos x)) -∗ K ⟨⟩))
      ⊢ wp frame (wpE (defs₀ (F := Ideal)) Variants.none c none) E (cc0__rv_kernel i arg1 harg1 arg2 harg2 arg3 harg3 arg4 harg4) K := by
  unfold owns
  iintro ⟨⟨%f1, %hf1, H1⟩, ⟨%d2, %f2, -, H2⟩, ⟨%d3, %f3, -, H3⟩, ⟨%d4, %f4, -, H4⟩, Hk⟩
  subst hf1
  iapply (run_at c E i arg1 harg1 arg2 harg2 arg3 harg3 arg4 harg4 f1 f2 f3 f4 K)
  isplitl [H1]; · iexact H1
  isplitl [H2]; · iexact H2
  isplitl [H3]; · iexact H3
  isplitl [H4]; · iexact H4
  iintro ⟨H1, H2, H3, H4⟩
  iapply Hk
  isplitl [H1]
  · iexists f1; isplitr; · ipureintro; rfl
    iexact H1
  isplitl [H2]
  · iexists _; isplitr
    swap; · iexact H2
    ipureintro
    exact View.read_writes_eq_canon _ _ _ (cover_vec _)
  isplitl [H3]
  · iexists _; isplitr
    swap; · iexact H3
    ipureintro
    exact View.read_writes_eq_canon _ _ _ (cover_sim _)
  iexists _; isplitr
  swap; · iexact H4
  ipureintro
  exact View.read_writes_junk_eq_canon _ _

/-! ## The pipeline's proof data -/

/-- After the body at a point the input's buffer holds its block and each output's what the block determines. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => outVec (iblk m c 0 t)
    | ⟨2, _⟩ => outSim (iblk m c 0 t)
    | ⟨3, _⟩ => outPos (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outVec (iblk m c 0 t) := by dsimp only [dats]
theorem after0_2 (c : Dev nD) (t : Fin cfg0.N) : (dats m 0 c).after 2 t = outSim (iblk m c 0 t) := by dsimp only [dats]
theorem after0_3 (c : Dev nD) (t : Fin cfg0.N) : (dats m 0 c).after 3 t = outPos (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) _)
  isplitl [H0]; · iexact H0
  isplitl [H1]; · iexists _; iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array at what the proof data say, and every counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Proof.KRun

end
-- ==== Proof.Math.lean ====
/-
  The problem's mathematics over the reals, for one picture: `a c p` is channel `c` of pixel `p`.  A step selects a
  pixel, maps every pixel to its similarity to it, and lowers the scores by the similarities; the next pixel is the
  first of the greatest score.
-/
module

public import proofs.«01_k».proof.Proof.Sel
public import Idealize.ShloMosaic.PureOps.Ideal

@[expose] public section

set_option maxRecDepth 16384

noncomputable section

namespace Cert.Proof.Math

open Idealize.ShloMosaic
open Cert.Proof.Sel (IsFirstMax exists_firstMax)

/-- A picture. -/
abbrev Pic := Fin 96 → Fin 16384 → ℝ

variable (a : Pic)

/-- The squared distance of two pixels. -/
def dist2 (n p : Fin 16384) : ℝ := ∑ c, (a c p - a c n) * (a c p - a c n)

/-- The similarity of pixel `p` to pixel `n`. -/
def sm (n p : Fin 16384) : ℝ := Real.exp (Real.sqrt (dist2 a n p) * (-1 / 20))

/-- The scores, lowered by the similarities to `n`. -/
def lower (n : Fin 16384) (s : Fin 16384 → ℝ) (p : Fin 16384) : ℝ := (1 - sm a n p) * s p

/-- The first pixel of the greatest score. -/
def best (s : Fin 16384 → ℝ) : Fin 16384 := (exists_firstMax s).choose

theorem best_spec (s : Fin 16384 → ℝ) : IsFirstMax s (best s) := (exists_firstMax s).choose_spec

/-- The pixel of each step and the scores before it. -/
def st (k : ℕ) : Fin 16384 × (Fin 16384 → ℝ) :=
  Nat.rec (8192, fun _ => 1) (fun _ s => (best (lower a s.1 s.2), lower a s.1 s.2)) k

/-- The pixel of step `k`. -/
def ix (k : ℕ) : Fin 16384 := (st a k).1

theorem ix_zero : ix a 0 = 8192 := rfl
theorem st_zero : (st a 0).2 = fun _ => 1 := rfl
theorem st_succ (k : ℕ) : (st a (k + 1)).2 = lower a (ix a k) (st a k).2 := rfl
theorem ix_succ (k : ℕ) : ix a (k + 1) = best (st a (k + 1)).2 := rfl

/-- The weighted mean of the channels. -/
def vec (n : Fin 16384) (c : Fin 96) : ℝ := (∑ p, a c p * sm a n p) / ∑ p, sm a n p

/-- How often a pixel is selected in the first `k` steps. -/
def hits (k : ℕ) (p : Fin 16384) : ℝ := Nat.rec 0 (fun i h => h + if ix a i = p then 1 else 0) k

theorem hits_zero (p : Fin 16384) : hits a 0 p = 0 := rfl
theorem hits_succ (k : ℕ) (p : Fin 16384) : hits a (k + 1) p = hits a k p + if ix a k = p then 1 else 0 := rfl

theorem dist2_nonneg (n p : Fin 16384) : 0 ≤ dist2 a n p := Finset.sum_nonneg fun _ _ => mul_self_nonneg _

theorem dist2_self (n : Fin 16384) : dist2 a n n = 0 := by simp [dist2]

theorem sm_self (n : Fin 16384) : sm a n n = 1 := by simp [sm, dist2_self]

theorem sm_pos (n p : Fin 16384) : 0 < sm a n p := Real.exp_pos _

theorem sum_sm_pos (n : Fin 16384) : 0 < ∑ p, sm a n p := Finset.sum_pos (fun p _ => sm_pos a n p) Finset.univ_nonempty

/-- The selected pixel's own score becomes zero. -/
theorem lower_self (n : Fin 16384) (s : Fin 16384 → ℝ) : lower a n s n = 0 := by simp [lower, sm_self]

/-- The squared distance, multiplied out. -/
theorem dist2_expand (n p : Fin 16384) :
    dist2 a n p = ∑ c, a c p * a c p - 2 * ∑ c, a c p * a c n + ∑ c, a c n * a c n := by
  unfold dist2
  rw [Finset.mul_sum, ← Finset.sum_sub_distrib, ← Finset.sum_add_distrib]
  exact Finset.sum_congr rfl fun c _ => by ring

/-! ## The same, over the extended reals -/

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem sqrt_coe_nonneg {r : ℝ} (h : 0 ≤ r) : Ideal.sqrt (r : EReal) = (Real.sqrt r : EReal) := by
  simp [not_lt.2 h]

theorem div_coe (x : ℝ) {y : ℝ} (h : 0 < y) : Ideal.div (x : EReal) (y : EReal) = ((x / y : ℝ) : EReal) := by
  have h0 : (y : EReal) ≠ 0 := by exact_mod_cast h.ne'
  rw [Ideal.div, if_neg h0, ← EReal.coe_inv, ← EReal.coe_mul, div_eq_mul_inv]

/-- The kernel's similarity: the squared distance multiplied out, and cut at zero. -/
theorem sim_expand (n p : Fin 16384) :
    Ideal.exp (Ideal.sqrt (max (((∑ c, (a c p : EReal) * (a c p : EReal)) - 2 * ∑ c, (a c p : EReal) * (a c n : EReal))
        + ∑ c, (a c n : EReal) * (a c n : EReal)) 0) * ((-1 / 20 : ℝ) : EReal)) = (sm a n p : EReal) := by
  have e : ((∑ c, (a c p : EReal) * (a c p : EReal)) - 2 * ∑ c, (a c p : EReal) * (a c n : EReal))
        + ∑ c, (a c n : EReal) * (a c n : EReal) = (dist2 a n p : EReal) := by
    have h2 : (2 : EReal) = ((2 : ℝ) : EReal) := rfl
    simp only [← EReal.coe_mul, ← coe_sum, h2]
    rw [← EReal.coe_sub, ← EReal.coe_add, dist2_expand]
  have h0 : (0 : EReal) ≤ (dist2 a n p : EReal) := by exact_mod_cast dist2_nonneg a n p
  rw [e, max_eq_left h0, sqrt_coe_nonneg (dist2_nonneg a n p), ← EReal.coe_mul]
  rfl

/-- The reference's similarity: the root divided by twenty, negated. -/
theorem sim_direct (n p : Fin 16384) :
    Ideal.exp (Ideal.div (-(Ideal.sqrt (∑ c, ((a c p : EReal) - a c n) * ((a c p : EReal) - a c n)))) ((20 : ℝ) : EReal)) = (sm a n p : EReal) := by
  simp only [← EReal.coe_sub, ← EReal.coe_mul, ← coe_sum]
  rw [show (∑ c, (a c p - a c n) * (a c p - a c n)) = dist2 a n p from rfl, sqrt_coe_nonneg (dist2_nonneg a n p), ← EReal.coe_neg,
    div_coe _ (by norm_num : (0 : ℝ) < 20)]
  unfold sm
  show ((Real.exp _ : ℝ) : EReal) = _
  congr 2
  ring

/-- A first maximum of reals is one of extended reals. -/
theorem firstMax_coe {s : Fin 16384 → ℝ} {n : Fin 16384} (h : IsFirstMax s n) : IsFirstMax (α := EReal) (fun p => (s p : EReal)) n :=
  ⟨fun p => EReal.coe_le_coe_iff.2 (h.1 p), fun p hp => EReal.coe_lt_coe_iff.2 (h.2 p hp)⟩

/-! ## The constants -/

theorem bits_one : Ideal.ofBits .f32 0x3F800000#32 = 1 := by
  simp [Ideal.ofBits, Ideal.ieee]
  rw [← EReal.coe_mul, ← EReal.coe_one]
  congr 1; norm_num

theorem bits_two : Ideal.ofBits .f32 0x40000000#32 = 2 := by
  simp [Ideal.ofBits, Ideal.ieee]
  rw [← EReal.coe_mul, show (2 : EReal) = ((2 : ℝ) : EReal) from rfl]
  congr 1; norm_num

theorem bits_twenty : Ideal.ofBits .f32 0x41A00000#32 = ((20 : ℝ) : EReal) := by
  simp [Ideal.ofBits, Ideal.ieee]
  rw [← EReal.coe_mul]
  congr 1; norm_num

end Cert.Proof.Math

end
-- ==== Proof.KVal.lean ====
/-
  The kernel's step over real blocks: the gathered column, the similarities, the lowered scores, the pixel selected
  and the weighted means are those of the mathematics.
-/
module

public import proofs.«01_k».proof.Proof.Kern
public import proofs.«01_k».proof.Proof.Math
public import Idealize.ShloMosaic.Lib.KernelVsHost
public import Idealize.ShloMosaic.Lib.Pipeline.ValueKit.Tiles
public import Idealize.ShloMosaic.Lib.Pipeline.ValueKit.Basic

@[expose] public section

set_option maxRecDepth 16384

noncomputable section

namespace Cert.Proof.KVal

open Cert.KernelIdeal Cert.KernelIdeal.Gen Cert.Proof.Kern Cert.Proof.Math
open Cert.Proof.Sel (pixel flat pixel_flat IsFirstMax)
open Idealize.ShloMosaic

/-- The block holds the picture `a`. -/
def Holds (x : Blk) (a : Pic) : Prop := ∀ (c : Fin 96) (i j : Fin 128), x (ix4 (0 : Fin 1) c i j) = (a c (flat i j) : EReal)

/-- A selection is at the pixel `n`. -/
structure At (p : Pick) (n : Fin 16384) : Prop where
  word : p.word = BitVec.ofNat 32 n.val
  off : p.off = ![0, 0, n.val / 128, 0]
  lane : p.lane = BitVec.ofNat 32 (n.val % 128)

theorem at_pick0 : At pick0 8192 := ⟨rfl, rfl, rfl⟩

theorem at_ofWord (w : BitVec 32) (h : k0_chk1 w) (n : Fin 16384) (e : w = BitVec.ofNat 32 n.val) : At (Pick.ofWord w h) n := by
  subst e
  exact ⟨rfl, Words.off3 _ n.isLt, Words.floorMod _ n.isLt⟩

variable {x : Blk} {a : Pic}

theorem img_at (hx : Holds x a) (c : Fin 96) (i j : Fin 128) : img x (ix3 c i j) = (a c (flat i j) : EReal) := by
  rw [← hx c i j]
  unfold img k0_pay2
  pointwise

theorem raw_at (hx : Holds x a) {p : Pick} {n : Fin 16384} (hp : At p n) (c : Fin 96) : raw x p (ix3 c (0 : Fin 1) (0 : Fin 1)) = (a c n : EReal) := by
  have hn : flat ⟨n.val / 128, by omega⟩ ⟨n.val % 128, by omega⟩ = n := Sel.flat_div_mod n
  rw [← hn, ← hx]
  unfold raw k0_pay14
  rw [extractStridedSlice_apply ![0, 0, 0] _ _ (ix3 c (0 : Fin 1) (0 : Fin 1)) (ix3 c (0 : Fin 1) (0 : Fin 128)) (by intro b; fin_cases b <;> simp [ix3])]
  rw [dynamicRotate_apply _ _ _ _ (ix3 c (0 : Fin 1) (0 : Fin 128)) (ix3 c (0 : Fin 1) (⟨n.val % 128, by omega⟩ : Fin 128)) (by
    rw [hp.lane]
    intro b
    fin_cases b <;> simp [ix3, Scalar.subi, IntOp.subi]
    omega)]
  pointwise
  refine congrArg x (funext fun b => Fin.ext ?_)
  have ho := hp.off
  fin_cases b <;> simp [ix4, ho]

theorem norms_at (hx : Holds x a) (i j : Fin 128) : norms x (ix2 i j) = ∑ c, (a c (flat i j) : EReal) * (a c (flat i j) : EReal) := by
  unfold norms k0_pay4
  refine (Ideal.multiReduction_add_single _ _ _ _ _ _).trans (Finset.sum_congr rfl fun c _ => ?_)
  have e : reduces_S96x128x128_S128x128.lift (ix2 i j) c = ix3 (c : Fin 96) i j := by
    funext b; apply Fin.ext; fin_cases b <;> rfl
  rw [e]
  exact congrArg₂ _ (img_at hx c i j) (img_at hx c i j)

theorem sim_at (hx : Holds x a) {p : Pick} {n : Fin 16384} (hp : At p n) (i j : Fin 128) : sim x p (ix2 i j) = (sm a n (flat i j) : EReal) := by
  rw [← sim_expand]
  have h1 : ∀ X : FVec Ideal S96x1x1 .f32, X = mulf (raw x p) (raw x p) → extractAt ![0, 0, 0, 0] (shapeCast S1x1x1x1 (multiReduction (F := Ideal) .add [1, 2, 3] S1 (shapeCast S1x96x1x1 X shapeCasts_S96x1x1_S1x96x1x1)
      0x00000000#32 reduces_S1x96x1x1_S1 (.inl rfl) rfl) shapeCasts_S1_S1x1x1x1) inpos_S1x1x1x1_p0_0_0_0 = ∑ c, (a c n : EReal) * (a c n : EReal) := by
    intro X hX
    subst hX
    have e : ∀ Y : FVec Ideal S1 .f32, extractAt ![0, 0, 0, 0] (shapeCast S1x1x1x1 Y shapeCasts_S1_S1x1x1x1) inpos_S1x1x1x1_p0_0_0_0 = Y (ix1 (0 : Fin 1)) := by
      intro Y; unfold extractAt; pointwise
    rw [e]
    refine (Ideal.multiReduction_add_total _ _ _ (by intro b; fin_cases b; rfl) _ _ _).trans ?_
    symm
    refine Finset.sum_bij (fun c _ => ix4 (0 : Fin 1) c (0 : Fin 1) (0 : Fin 1)) (fun _ _ => Finset.mem_univ _)
      (fun c _ c' _ h => congrFun h 1) (fun i _ => ⟨i 1, Finset.mem_univ _, ?_⟩) (fun c _ => ?_)
    · rw [eq_ix4 i]
      congr 1 <;> exact Subsingleton.elim (α := Fin 1) _ _
    · refine (congrArg₂ _ (raw_at hx hp c) (raw_at hx hp c)).symm.trans ?_
      pointwise
  have h2 : multiReduction (F := Ideal) .add [0] S128x128 (mulf (img x) (broadcastTo S96x128x128 (raw x p) broadcasts_S96x1x1_S96x128x128)) 0x00000000#32
      reduces_S96x128x128_S128x128 (.inl rfl) rfl (ix2 i j) = ∑ c, (a c (flat i j) : EReal) * (a c n : EReal) := by
    refine (Ideal.multiReduction_add_single _ _ _ _ _ _).trans (Finset.sum_congr rfl fun c _ => ?_)
    have e : reduces_S96x128x128_S128x128.lift (ix2 i j) c = ix3 (c : Fin 96) i j := by
      funext b; apply Fin.ext; fin_cases b <;> rfl
    rw [e]
    refine congrArg₂ _ (img_at hx c i j) (Eq.trans ?_ (raw_at hx hp c))
    pointwise
  have h3 := norms_at hx i j
  unfold sim k0_pay8
  dsimp only
  generalize multiReduction (F := Ideal) .add [0] S128x128 (mulf (img x) (broadcastTo S96x128x128 (raw x p) broadcasts_S96x1x1_S96x128x128)) 0x00000000#32
      reduces_S96x128x128_S128x128 (.inl rfl) rfl = B at h2 ⊢
  rw [h1 _ rfl]
  generalize norms x = A at h3 ⊢
  pointwise
  rw [h2, h3, bits_two]
  rfl

/-- The rows and lanes of a sum over the pixels. -/
theorem sum_pixels (f : S1x128x128.Idx → EReal) (g : Fin 16384 → EReal) (h : ∀ i j, f (ix3 (0 : Fin 1) i j) = g (flat i j)) : ∑ i, f i = ∑ p, g p := by
  symm
  refine Finset.sum_bij (fun (p : Fin 16384) _ => ix3 (0 : Fin 1) (⟨p.val / 128, by omega⟩ : Fin 128) (⟨p.val % 128, by omega⟩ : Fin 128)) (fun _ _ => Finset.mem_univ _)
    (fun c _ c' _ e => ?_) (fun i _ => ?_) (fun p _ => ?_)
  · have e1 := congrArg Fin.val (congrFun e 1)
    have e2 := congrArg Fin.val (congrFun e 2)
    simp [ix3] at e1 e2
    exact Fin.ext (by omega)
  · obtain ⟨u, v, rfl⟩ := Sel.ix3_cases i
    refine ⟨flat u v, Finset.mem_univ _, ?_⟩
    have h0 : (128 * u.val + v.val) / 128 = u.val := by omega
    have h1 : (128 * u.val + v.val) % 128 = v.val := by omega
    simp only [flat, h0, h1]
  · rw [h, Sel.flat_div_mod]

theorem mean_at (hx : Holds x a) {p : Pick} {n : Fin 16384} (hp : At p n) (c : Fin 96) :
    k0_pay15 (img x) (sim x p) (ix3 (0 : Fin 1) (0 : Fin 1) c) = (vec a n c : EReal) := by
  have hs := sim_at hx hp
  generalize sim x p = S at hs ⊢
  have h1 : extractAt ![0, 0, 0] (shapeCast S1x1x1 (multiReduction (F := Ideal) .add [1, 2] S1 (shapeCast S1x128x128 S shapeCasts_S128x128_S1x128x128)
      0x00000000#32 reduces_S1x128x128_S1 (.inl rfl) rfl) shapeCasts_S1_S1x1x1) inpos_S1x1x1_p0_0_0 = ((∑ p, sm a n p : ℝ) : EReal) := by
    have e : ∀ Y : FVec Ideal S1 .f32, extractAt ![0, 0, 0] (shapeCast S1x1x1 Y shapeCasts_S1_S1x1x1) inpos_S1x1x1_p0_0_0 = Y (ix1 (0 : Fin 1)) := by
      intro Y; unfold extractAt; pointwise
    rw [e, coe_sum]
    refine (Ideal.multiReduction_add_total _ _ _ (by intro b; fin_cases b; rfl) _ _ _).trans (sum_pixels _ _ fun i j => ?_)
    rw [← hs i j]
    pointwise
  have h2 : multiReduction (F := Ideal) .add [1, 2] S96 (mulf (img x) (broadcastTo S96x128x128 (shapeCast S1x128x128 S shapeCasts_S128x128_S1x128x128) broadcasts_S1x128x128_S96x128x128))
      0x00000000#32 reduces_S96x128x128_S96 (.inl rfl) rfl (ix1 c) = ((∑ p, a c p * sm a n p : ℝ) : EReal) := by
    rw [coe_sum]
    symm
    change _ = Finset.sum (Finset.univ.filter fun i => reduces_S96x128x128_S96.drop i = ix1 c) (mulf (img x) (broadcastTo S96x128x128 (shapeCast S1x128x128 S shapeCasts_S128x128_S1x128x128) broadcasts_S1x128x128_S96x128x128))
    refine Finset.sum_bij (fun (p : Fin 16384) _ => ix3 c (⟨p.val / 128, by omega⟩ : Fin 128) (⟨p.val % 128, by omega⟩ : Fin 128)) (fun p _ => ?_)
      (fun p _ p' _ e => ?_) (fun i hi => ?_) (fun p _ => ?_)
    · refine Finset.mem_filter.2 ⟨Finset.mem_univ _, ?_⟩
      funext b; fin_cases b; rfl
    · have e1 := congrArg Fin.val (congrFun e 1)
      have e2 := congrArg Fin.val (congrFun e 2)
      simp [ix3] at e1 e2
      exact Fin.ext (by omega)
    · obtain ⟨c', u, v, rfl⟩ : ∃ (c' : Fin 96) (u v : Fin 128), i = ix3 c' u v := ⟨i 0, i 1, i 2, eq_ix3 i⟩
      have hc : c' = c := congrFun (Finset.mem_filter.1 hi).2 0
      subst hc
      refine ⟨flat u v, Finset.mem_univ _, ?_⟩
      have h0 : (128 * u.val + v.val) / 128 = u.val := by omega
      have h1 : (128 * u.val + v.val) % 128 = v.val := by omega
      simp only [flat, h0, h1]
    · have e1 := hs ⟨p.val / 128, by omega⟩ ⟨p.val % 128, by omega⟩
      have e2 := img_at hx c ⟨p.val / 128, by omega⟩ ⟨p.val % 128, by omega⟩
      rw [Sel.flat_div_mod] at e1 e2
      rw [EReal.coe_mul, ← e1, ← e2]
      pointwise
  unfold k0_pay15
  dsimp only
  rw [h1]
  generalize multiReduction (F := Ideal) .add [1, 2] S96 (mulf (img x) (broadcastTo S96x128x128 (shapeCast S1x128x128 S shapeCasts_S128x128_S1x128x128) broadcasts_S1x128x128_S96x128x128))
      0x00000000#32 reduces_S96x128x128_S96 (.inl rfl) rfl = B at h2 ⊢
  pointwise
  rw [h2, show (1 : EReal) = ((1 : ℝ) : EReal) from rfl, div_coe _ (sum_sm_pos a n), ← EReal.coe_mul, vec, mul_one_div]

/-! ## The recursion -/

/-- The scores are the real scores `t`. -/
def Scores (s : FVec Ideal S128x128 .f32) (t : Fin 16384 → ℝ) : Prop := ∀ i j, s (ix2 i j) = (t (flat i j) : EReal)

theorem word_at {s : FVec Ideal S128x128 .f32} {t : Fin 16384 → ℝ} (h : Scores s t) : Sel.word s = BitVec.ofNat 32 (best t).val := by
  refine Sel.word_firstMax s ?_
  have e : (fun p => s (pixel p)) = fun p => (t p : EReal) := by
    funext p
    unfold pixel
    rw [h, Sel.flat_div_mod]
  rw [e]
  exact firstMax_coe (best_spec t)

theorem pick_at {s : FVec Ideal S128x128 .f32} {t : Fin 16384 → ℝ} (h : Scores s t) : At (pick s) (best t) := by
  exact at_ofWord _ _ _ (word_at h)

/-- The guard at the selected pixel, whose score is zero already. -/
theorem guard (n : Fin 16384) (t : Fin 16384 → ℝ) (i j : Fin 128) :
    Scalar.select (IntOp.cmpi .eq (k0_pay3 (ix2 i j)) (BitVec.ofNat 32 n.val)) (0 : EReal) (lower a n t (flat i j) : EReal)
      = (lower a n t (flat i j) : EReal) := by
  rw [Sel.pay3_at]
  by_cases e : flat i j = n
  · rw [e, lower_self]
    simp [Scalar.select]
  · have hne : BitVec.ofNat 32 (flat i j).val ≠ BitVec.ofNat 32 n.val := fun h => e (by
      have := congrArg BitVec.toNat h
      simp only [BitVec.toNat_ofNat] at this
      exact Fin.ext (by omega))
    have hb : (BitVec.ofNat 32 (flat i j).val == BitVec.ofNat 32 n.val) = false := beq_eq_false_iff_ne.2 hne
    simp [Scalar.select, IntOp.cmpi, hb]

theorem score0_at (hx : Holds x a) : Scores (score0 x) (st a 1).2 := by
  intro i j
  have hs := sim_at hx at_pick0 i j
  rw [st_succ, ix_zero, ← guard]
  have e : (lower a 8192 (st a 0).2 (flat i j) : EReal) = 1 - (sm a 8192 (flat i j) : EReal) := by
    rw [st_zero, lower, mul_one, EReal.coe_sub, EReal.coe_one]
  rw [e, ← hs]
  unfold score0 k0_pay12 k0_pay10 k0_pay11
  dsimp only
  unfold sim
  generalize k0_pay8 (img x) (norms x) (raw x pick0) = S
  pointwise

theorem low_at (hx : Holds x a) {s : FVec Ideal S128x128 .f32} {t : Fin 16384 → ℝ} (h : Scores s t) : Scores (low x s) (lower a (best t) t) := by
  intro i j
  have hs := sim_at hx (pick_at h) i j
  have hw := word_at h
  rw [← guard]
  have e : (lower a (best t) t (flat i j) : EReal) = (1 - (sm a (best t) (flat i j) : EReal)) * (t (flat i j) : EReal) := by
    rw [lower, EReal.coe_mul, EReal.coe_sub, EReal.coe_one]
  rw [e, ← hs, ← h i j]
  unfold low k0_pay19
  rw [hw]
  generalize sim x (pick s) = S
  pointwise

theorem seq_at (hx : Holds x a) (k : ℕ) : At (seq x k).1 (ix a k) ∧ Scores (seq x k).2 (st a (k + 1)).2 := by
  induction k with
  | zero => exact ⟨at_pick0, score0_at hx⟩
  | succ k ih =>
    rw [seq_succ, ix_succ, st_succ a (k + 1), ix_succ]
    simp only [next]
    exact ⟨pick_at ih.2, low_at hx ih.2⟩

/-! ## What the block's stores leave -/

theorem vecs_at (hx : Holds x a) (k : Fin 8) (c : Fin 96) : View.canon (vecs x) (ix3 (0 : Fin 1) k c) = (vec a (ix a k.val) c : EReal) := by
  refine View.canon_eq_of_allAt _ _ _ (View.cover_of_tiled (vecs x) S1x1x96.size (by rfl) _) ?_
  have key : ∀ (k' : ℕ) (h : k' < 8), View.TileAt (S := S1x8x96) (e := .f32) (Val := Elt Ideal) (ix3 (0 : Fin 1) k c) ![0, k', 0] S1x1x96.size
      (k0_pay15 (img x) (sim x (seq x k').1)) (vec a (ix a k.val) c : EReal) := by
    intro k' h y hy
    obtain ⟨u, v, d, rfl⟩ : ∃ (u v : Fin 1) (d : Fin 96), y = ix3 u v d := ⟨y 0, y 1, y 2, eq_ix3 y⟩
    have h1 : k.val = k' := by simpa [ix3] using hy 1
    have h2 : c = d := Fin.ext (by simpa [ix3] using hy 2)
    subst h2
    obtain rfl : u = 0 := Subsingleton.elim _ _
    obtain rfl : v = 0 := Subsingleton.elim _ _
    rw [h1]
    exact mean_at hx (seq_at hx k').1 c
  unfold vecs vecAt
  repeat' first | exact View.allAt_nil _ _ | refine View.allAt_cons_unit _ _ _ _ _ (key _ (by omega)) ?_

theorem sims_at (hx : Holds x a) (k : Fin 8) (i j : Fin 128) :
    View.canon (sims x) (ix4 (0 : Fin 1) k i j) = (sm a (ix a k.val) (flat i j) : EReal) := by
  refine View.canon_eq_of_allAt _ _ _ (View.cover_of_tiled (sims x) S1x1x128x128.size (by rfl) _) ?_
  have key : ∀ (k' : ℕ) (h : k' < 8), View.TileAt (S := S1x8x128x128) (e := .f32) (Val := Elt Ideal) (ix4 (0 : Fin 1) k i j) ![0, k', 0, 0] S1x1x128x128.size
      (shapeCast S1x1x128x128 (sim x (seq x k').1) shapeCasts_S128x128_S1x1x128x128) (sm a (ix a k.val) (flat i j) : EReal) := by
    intro k' h y hy
    obtain ⟨u, v, d, e, rfl⟩ : ∃ (u v : Fin 1) (d e : Fin 128), y = ix4 u v d e := ⟨y 0, y 1, y 2, y 3, eq_ix4 y⟩
    have h1 : k.val = k' := by simpa [ix4] using hy 1
    have h2 : i = d := Fin.ext (by simpa [ix4] using hy 2)
    have h3 : j = e := Fin.ext (by simpa [ix4] using hy 3)
    subst h2 h3
    obtain rfl : u = 0 := Subsingleton.elim _ _
    obtain rfl : v = 0 := Subsingleton.elim _ _
    rw [h1, ← sim_at hx (seq_at hx k').1]
    pointwise
  unfold sims simAt
  repeat' first | exact View.allAt_nil _ _ | refine View.allAt_cons_unit _ _ _ _ _ (key _ (by omega)) ?_

theorem mark_at {p : Pick} {n : Fin 16384} (hp : At p n) (r : Vec Ideal S1x1x1x128 .f32) (j : Fin 128) :
    mark p r (ix4 (0 : Fin 1) (0 : Fin 1) (0 : Fin 1) j) = r (ix4 (0 : Fin 1) (0 : Fin 1) (0 : Fin 1) j) + if n.val % 128 = j.val then 1 else 0 := by
  unfold mark k0_pay7
  rw [hp.lane]
  pointwise
  refine congrArg₂ _ rfl ?_
  change (((BitVec.setWidth 32 (IntOp.cmpi CmpIPredicate.eq (BitVec.ofNat 32 j.val) (BitVec.ofNat 32 (n.val % 128)))).toInt : ℝ) : EReal) = _
  by_cases h : n.val % 128 = j.val
  · rw [if_pos h, h]
    simp [IntOp.cmpi]
  · have hne : BitVec.ofNat 32 j.val ≠ BitVec.ofNat 32 (n.val % 128) := fun e => h (by
      have := congrArg BitVec.toNat e
      simp only [BitVec.toNat_ofNat] at this
      omega)
    have hb : (BitVec.ofNat 32 j.val == BitVec.ofNat 32 (n.val % 128)) = false := beq_eq_false_iff_ne.2 hne
    rw [if_neg h]
    simp [IntOp.cmpi, hb]

theorem marks_at (hx : Holds x a) (k : ℕ) (i j : Fin 128) :
    View.canon (marks x k) (ix4 (0 : Fin 1) (0 : Fin 1) i j) = (hits a k (flat i j) : EReal) := by
  induction k generalizing i j with
  | zero =>
    rw [marks_zero, marks0, View.canon_cons_unit_lit _ _ _ (by intro b; fin_cases b <;> rfl)]
    unfold k0_pay5
    pointwise
    simp [hits_zero]
  | succ k ih =>
    have hp := (seq_at hx k).1
    rw [hits_succ, EReal.coe_add, ← ih i j]
    change View.canon (⟨rowRect (seq x k).1, mark (seq x k).1 (fun j => View.canon (marks x k) ((rowRect (seq x k).1).toLoadRect.idx j))⟩ :: marks x k) _ = _
    generalize (seq x k).1 = p at hp
    generalize ix a k = n at hp ⊢
    by_cases hi : n.val / 128 = i.val
    · have e : ix4 (0 : Fin 1) (0 : Fin 1) i j = (rowRect p).emb (ix4 (0 : Fin 1) (0 : Fin 1) (0 : Fin 1) j) := by
        funext b; apply Fin.ext; rw [Rect.emb_apply]
        have ho := hp.off
        fin_cases b <;> simp [ix4, Rect.unit, ho, hi]
      rw [e, View.canon_cons_emb, mark_at hp]
      refine congrArg₂ _ rfl ?_
      by_cases hj : n.val % 128 = j.val
      · rw [if_pos hj, if_pos (Fin.ext (by simp only [flat]; omega))]; rfl
      · rw [if_neg hj, if_neg (fun h => hj (by rw [h]; simp only [flat]; omega))]; rfl
    · rw [View.canon_cons_of_not_mem, if_neg (fun h => hi (by rw [h]; simp only [flat]; omega))]
      · simp
      · intro hm
        obtain ⟨y, hy⟩ := (rowRect p).exists_idx_of_mem hm
        have h2 := congrArg Fin.val (congrFun hy 2)
        have ho := hp.off
        have hy2 : (y 2).val < 1 := (y 2).isLt
        simp [ix4, Rect.unit, ho] at h2
        omega

end Cert.Proof.KVal

end
-- ==== Proof.KArr.lean ====
/-
  The kernel's result arrays: point `t` of the grid writes batch entry `t` of each, and together the points write
  every entry, so over finite pictures the arrays end at the weighted means, the maps and the counts.
-/
module

public import proofs.«01_k».proof.Proof.KRun
public import proofs.«01_k».proof.Proof.KVal

@[expose] public section

set_option maxRecDepth 16384

noncomputable section

namespace Cert.Proof.KArr

open Cert.KernelIdeal Cert.KernelIdeal.Gen Cert.Proof.Kern Cert.Proof.KRun Cert.Proof.Math
open Cert.Proof.Sel (flat)
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-! ## Where a block lies: batch entry `t` -/

/-- The batch entry of a point. -/
def entry (t : Fin cfg0.N) : Fin 8 := ⟨t.val, lt_of_lt_of_eq t.isLt N_0⟩

theorem at0 : ∀ t : Fin cfg0.N, win0_0.index t (0 : Fin 4) = t.val ∧ win0_0.index t (1 : Fin 4) = 0 ∧ win0_0.index t (2 : Fin 4) = 0 ∧ win0_0.index t (3 : Fin 4) = 0 :=
  (by decide +kernel : ∀ t : Fin grid0.N, _)
theorem at1 : ∀ t : Fin cfg0.N, win0_1.index t (0 : Fin 3) = t.val ∧ win0_1.index t (1 : Fin 3) = 0 ∧ win0_1.index t (2 : Fin 3) = 0 :=
  (by decide +kernel : ∀ t : Fin grid0.N, _)
theorem at2 : ∀ t : Fin cfg0.N, win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)
theorem at3 : ∀ t : Fin cfg0.N, win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

theorem emb0 (t : Fin cfg0.N) (c : Fin 96) (u v : Fin 128) :
    ((cfg0.win 0).blk t).view.emb (ix4 (0 : Fin 1) c u v : S1x96x128x128.Idx) = (ix4 (entry t) c u v : S8x96x128x128.Idx) := by
  obtain ⟨e0, e1, e2, e3⟩ := at0 t
  funext a; apply Fin.ext
  match a with
  | ⟨0, _⟩ => show win0_0.index t (0 : Fin 4) * 1 + 1 * 0 = t.val; omega
  | ⟨1, _⟩ => show win0_0.index t (1 : Fin 4) * 96 + 1 * c.val = c.val; omega
  | ⟨2, _⟩ => show win0_0.index t (2 : Fin 4) * 128 + 1 * u.val = u.val; omega
  | ⟨3, _⟩ => show win0_0.index t (3 : Fin 4) * 128 + 1 * v.val = v.val; omega

theorem emb1 (t : Fin cfg0.N) (k : Fin 8) (c : Fin 96) :
    ((cfg0.win 1).blk t).view.emb (ix3 (0 : Fin 1) k c : S1x8x96.Idx) = (ix3 (entry t) k c : S8x8x96.Idx) := by
  obtain ⟨e0, e1, e2⟩ := at1 t
  funext a; apply Fin.ext
  match a with
  | ⟨0, _⟩ => show win0_1.index t (0 : Fin 3) * 1 + 1 * 0 = t.val; omega
  | ⟨1, _⟩ => show win0_1.index t (1 : Fin 3) * 8 + 1 * k.val = k.val; omega
  | ⟨2, _⟩ => show win0_1.index t (2 : Fin 3) * 96 + 1 * c.val = c.val; omega

theorem emb2 (t : Fin cfg0.N) (k : Fin 8) (u v : Fin 128) :
    ((cfg0.win 2).blk t).view.emb (ix4 (0 : Fin 1) k u v : S1x8x128x128.Idx) = (ix4 (entry t) k u v : S8x8x128x128.Idx) := by
  obtain ⟨e0, e1, e2, e3⟩ := at2 t
  funext a; apply Fin.ext
  match a with
  | ⟨0, _⟩ => show win0_2.index t (0 : Fin 4) * 1 + 1 * 0 = t.val; omega
  | ⟨1, _⟩ => show win0_2.index t (1 : Fin 4) * 8 + 1 * k.val = k.val; omega
  | ⟨2, _⟩ => show win0_2.index t (2 : Fin 4) * 128 + 1 * u.val = u.val; omega
  | ⟨3, _⟩ => show win0_2.index t (3 : Fin 4) * 128 + 1 * v.val = v.val; omega

theorem emb3 (t : Fin cfg0.N) (u v : Fin 128) :
    ((cfg0.win 3).blk t).view.emb (ix4 (0 : Fin 1) (0 : Fin 1) u v : S1x1x128x128.Idx) = (ix4 (entry t) (0 : Fin 1) u v : S8x1x128x128.Idx) := by
  obtain ⟨e0, e1, e2, e3⟩ := at3 t
  funext a; apply Fin.ext
  match a with
  | ⟨0, _⟩ => show win0_3.index t (0 : Fin 4) * 1 + 1 * 0 = t.val; omega
  | ⟨1, _⟩ => show win0_3.index t (1 : Fin 4) * 1 + 1 * 0 = 0; omega
  | ⟨2, _⟩ => show win0_3.index t (2 : Fin 4) * 128 + 1 * u.val = u.val; omega
  | ⟨3, _⟩ => show win0_3.index t (3 : Fin 4) * 128 + 1 * v.val = v.val; omega

/-- The point of a batch entry. -/
def point (b : Fin 8) : Fin cfg0.N := ⟨b.val, lt_of_lt_of_eq b.isLt N_0.symm⟩

theorem covered1 (i : S8x8x96.Idx) : ∃ t : Fin cfg0.N, (cfg0.win 1).flush t = true ∧ i ∈ ((cfg0.win 1).blk t).view.set := by
  obtain ⟨b, k, c, rfl⟩ : ∃ (b k : Fin 8) (c : Fin 96), i = ix3 b k c := ⟨_, _, _, eq_ix3 i⟩
  refine ⟨point b, flush0_1 _, ?_⟩
  have h := ((cfg0.win 1).blk (point b)).view.emb_mem_set (ix3 (0 : Fin 1) k c : S1x8x96.Idx)
  rw [emb1] at h
  exact h

theorem covered2 (i : S8x8x128x128.Idx) : ∃ t : Fin cfg0.N, (cfg0.win 2).flush t = true ∧ i ∈ ((cfg0.win 2).blk t).view.set := by
  obtain ⟨b, k, u, v, rfl⟩ : ∃ (b k : Fin 8) (u v : Fin 128), i = ix4 b k u v := ⟨_, _, _, _, eq_ix4 i⟩
  refine ⟨point b, flush0_2 _, ?_⟩
  have h := ((cfg0.win 2).blk (point b)).view.emb_mem_set (ix4 (0 : Fin 1) k u v : S1x8x128x128.Idx)
  rw [emb2] at h
  exact h

theorem covered3 (i : S8x1x128x128.Idx) : ∃ t : Fin cfg0.N, (cfg0.win 3).flush t = true ∧ i ∈ ((cfg0.win 3).blk t).view.set := by
  obtain ⟨b, k, u, v, rfl⟩ : ∃ (b : Fin 8) (k : Fin 1) (u v : Fin 128), i = ix4 b k u v := ⟨_, _, _, _, eq_ix4 i⟩
  obtain rfl : k = 0 := Subsingleton.elim _ _
  refine ⟨point b, flush0_3 _, ?_⟩
  have h := ((cfg0.win 3).blk (point b)).view.emb_mem_set (ix4 (0 : Fin 1) (0 : Fin 1) u v : S1x1x128x128.Idx)
  rw [emb3] at h
  exact h

/-! ## The arrays at the end -/

variable {m}
variable {A : Fin 8 → Pic} {c : Dev nD}

/-- The argument array of a device holds the real pictures. -/
def Holds (m : (ℓ : Loc nD τ sig) → Buf (Elt Ideal) ℓ) (c : Dev nD) (A : Fin 8 → Pic) : Prop :=
  ∀ (b : Fin 8) (d : Fin 96) (u v : Fin 128), (m ((c : Thread nD τ).loc main_arg0) : S8x96x128x128.Idx → EReal) (ix4 b d u v) = (A b d (flat u v) : EReal)

theorem block_holds (h : Holds m c A) (t : Fin cfg0.N) : KVal.Holds (iblk m c 0 t) (A (entry t)) := fun d u v => by
  rw [← h]
  exact congrArg (m ((c : Thread nD τ).loc main_arg0)) (emb0 t d u v)

theorem sim_at {x : Blk} {a : Pic} (hx : KVal.Holds x a) (k : Fin 8) (u v : Fin 128) :
    outSim x (ix4 (0 : Fin 1) k u v) = (sm a (ix a k.val) (flat u v) : EReal) := by
  unfold outSim
  exact KVal.sims_at hx k u v

theorem pos_at {x : Blk} {a : Pic} (hx : KVal.Holds x a) (u v : Fin 128) :
    outPos x (ix4 (0 : Fin 1) (0 : Fin 1) u v) = (hits a 8 (flat u v) : EReal) := by
  unfold outPos
  exact KVal.marks_at hx 8 u v

theorem cut2 (t : Fin cfg0.N) (X : Vec Ideal S1x8x128x128 .f32) (G : Vec Ideal S8x8x128x128 .f32)
    (h : ∀ (k : Fin 8) (u v : Fin 128), X (ix4 (0 : Fin 1) k u v) = G (ix4 (entry t) k u v)) :
    (cfg0.win 2).cut (grid0.coords t) X = ((cfg0.win 2).blk t).view.read (Elt Ideal) G := by
  have key : ∀ i : S1x8x128x128.Idx, X i = G (((cfg0.win 2).blk t).view.emb i) := fun i => by
    obtain ⟨z, k, u, v, rfl⟩ : ∃ (z : Fin 1) (k : Fin 8) (u v : Fin 128), i = ix4 z k u v := ⟨_, _, _, _, eq_ix4 i⟩
    obtain rfl : z = 0 := Subsingleton.elim _ _
    rw [emb2, h]
  exact funext key

theorem cut3 (t : Fin cfg0.N) (X : Vec Ideal S1x1x128x128 .f32) (G : Vec Ideal S8x1x128x128 .f32)
    (h : ∀ u v : Fin 128, X (ix4 (0 : Fin 1) (0 : Fin 1) u v) = G (ix4 (entry t) (0 : Fin 1) u v)) :
    (cfg0.win 3).cut (grid0.coords t) X = ((cfg0.win 3).blk t).view.read (Elt Ideal) G := by
  have key : ∀ i : S1x1x128x128.Idx, X i = G (((cfg0.win 3).blk t).view.emb i) := fun i => by
    obtain ⟨z, k, u, v, rfl⟩ : ∃ (z k : Fin 1) (u v : Fin 128), i = ix4 z k u v := ⟨_, _, _, _, eq_ix4 i⟩
    obtain rfl : z = 0 := Subsingleton.elim _ _
    obtain rfl : k = 0 := Subsingleton.elim _ _
    rw [emb3, h]
  exact funext key

theorem final1 (h : Holds m c A) (G : Buf (Elt Ideal) ((c : Thread nD τ).loc main_v0_0))
    (hG : ∀ (b k : Fin 8) (d : Fin 96), (G : S8x8x96.Idx → EReal) (ix3 b k d) = (vec (A b) (ix (A b) k.val) d : EReal)) :
    (dats m 0 c).arrAt 1 cfg0.N = G := by
  refine (dats m 0 c).arrAt_eq_of_cover 1 G (fun t _ => ?_) covered1
  funext i
  obtain ⟨z, k, d, rfl⟩ : ∃ (z : Fin 1) (k : Fin 8) (d : Fin 96), i = (ix3 z k d : S1x8x96.Idx) := ⟨_, _, _, eq_ix3 (n0 := 1) (n1 := 8) (n2 := 96) i⟩
  obtain rfl : z = 0 := Subsingleton.elim _ _
  change outVec (iblk m c 0 t) (ix3 (0 : Fin 1) k d) = (G : S8x8x96.Idx → EReal) (((cfg0.win 1).blk t).view.emb (ix3 (0 : Fin 1) k d : S1x8x96.Idx))
  rw [emb1, hG]
  exact KVal.vecs_at (block_holds h t) k d

theorem final2 (h : Holds m c A) (G : Buf (Elt Ideal) ((c : Thread nD τ).loc main_v0_1))
    (hG : ∀ (b k : Fin 8) (u v : Fin 128), (G : S8x8x128x128.Idx → EReal) (ix4 b k u v) = (sm (A b) (ix (A b) k.val) (flat u v) : EReal)) :
    (dats m 0 c).arrAt 2 cfg0.N = G := by
  refine (dats m 0 c).arrAt_eq_of_cover 2 G (fun t _ => ?_) covered2
  refine (congrArg ((cfg0.win 2).cut (grid0.coords t)) (after0_2 m c t)).trans ?_
  exact cut2 t (outSim (iblk m c 0 t)) G fun k u v => (sim_at (block_holds h t) k u v).trans (hG _ k u v).symm

theorem final3 (h : Holds m c A) (G : Buf (Elt Ideal) ((c : Thread nD τ).loc main_v0_2))
    (hG : ∀ (b : Fin 8) (u v : Fin 128), (G : S8x1x128x128.Idx → EReal) (ix4 b (0 : Fin 1) u v) = (hits (A b) 8 (flat u v) : EReal)) :
    (dats m 0 c).arrAt 3 cfg0.N = G := by
  refine (dats m 0 c).arrAt_eq_of_cover 3 G (fun t _ => ?_) covered3
  refine (congrArg ((cfg0.win 3).cut (grid0.coords t)) (after0_3 m c t)).trans ?_
  exact cut3 t (outPos (iblk m c 0 t)) G fun u v => (pos_at (block_holds h t) u v).trans (hG _ u v).symm

end Cert.Proof.KArr

end
-- ==== Proof.RefStep.lean ====
/- One trip of the reference loop as plain functions: the state that a trip hands the next, the value of every
   operation of the body (`b0`, `b1`, …, in order), the first state `init`, one trip `step`, and the results read off
   the last state. -/
module

public import proofs.«01_k».proof.ReferenceIdeal
public import proofs.«01_k».proof.Proof.Gen.ReferenceIdeal

@[expose] public section

set_option maxRecDepth 16384

noncomputable section

namespace Cert.ReferenceIdeal.Step

open Idealize.ShloMosaic Cert.ReferenceIdeal Cert.ReferenceIdeal.Gen

variable {F : FTy → Type} [FloatOps F]

/-- What a trip hands the next. -/
structure State (F : FTy → Type) [FloatOps F] where
  main_v9_3 : (⟨S8x1, .i32⟩ : BufTy).Contents (Elt F)
  main_v9_4 : (⟨S8x16384, .f32⟩ : BufTy).Contents (Elt F)
  main_v9_5 : (⟨S8x16384, .f32⟩ : BufTy).Contents (Elt F)
  main_v9_6 : (⟨S8x8x96, .f32⟩ : BufTy).Contents (Elt F)
  main_v9_7 : (⟨S8x8x16384, .f32⟩ : BufTy).Contents (Elt F)
  main_v9_1 : (⟨S8x16384x96, .f32⟩ : BufTy).Contents (Elt F)

/-! What @main computes before the loop without reading an argument. -/

def K_main_v2 : (⟨S8, .i32⟩ : BufTy).Contents (Elt F) := iotaInDim S8 32 0
def K_main_v3 : (⟨S8x1, .i32⟩ : BufTy).Contents (Elt F) := broadcastInDim S8x1 ![0] bcast_S8_S8x1_0 ((K_main_v2 (F := F)))
def K_main_c : (⟨S_, .i32⟩ : BufTy).Contents (Elt F) := constantI S_ 32 8192#32
def K_main_v4 : (⟨S8x1, .i32⟩ : BufTy).Contents (Elt F) := broadcastInDim S8x1 ![] bcast_S_S8x1 ((K_main_c (F := F)))
def K_main_cst : (⟨S_, .f32⟩ : BufTy).Contents (Elt F) := constant S_ .f32 0x3F800000#32
def K_main_v5 : (⟨S8x16384, .f32⟩ : BufTy).Contents (Elt F) := broadcastInDim S8x16384 ![] bcast_S_S8x16384 ((K_main_cst (F := F)))
def K_main_cst_0 : (⟨S_, .f32⟩ : BufTy).Contents (Elt F) := constant S_ .f32 0x00000000#32
def K_main_v6 : (⟨S8x16384, .f32⟩ : BufTy).Contents (Elt F) := broadcastInDim S8x16384 ![] bcast_S_S8x16384 ((K_main_cst_0 (F := F)))
def K_main_cst_1 : (⟨S_, .f32⟩ : BufTy).Contents (Elt F) := constant S_ .f32 0x00000000#32
def K_main_v7 : (⟨S8x8x96, .f32⟩ : BufTy).Contents (Elt F) := broadcastInDim S8x8x96 ![] bcast_S_S8x8x96 ((K_main_cst_1 (F := F)))
def K_main_cst_2 : (⟨S_, .f32⟩ : BufTy).Contents (Elt F) := constant S_ .f32 0x00000000#32
def K_main_v8 : (⟨S8x8x16384, .f32⟩ : BufTy).Contents (Elt F) := broadcastInDim S8x8x16384 ![] bcast_S_S8x8x16384 ((K_main_cst_2 (F := F)))
def K_main_c_3 : (⟨S_, .i32⟩ : BufTy).Contents (Elt F) := constantI S_ 32 0#32

/-! What @main computes before the loop from its arguments, as functions of them. -/

def A_main_v0 (main_arg0 : (⟨S8x96x128x128, .f32⟩ : BufTy).Contents (Elt F)) : (⟨S8x128x128x96, .f32⟩ : BufTy).Contents (Elt F) := transpose S8x128x128x96 [0, 2, 3, 1] (main_arg0) transposes_S8x96x128x128_S8x128x128x96_0_2_3_1
def A_main_v1 (main_arg0 : (⟨S8x96x128x128, .f32⟩ : BufTy).Contents (Elt F)) : (⟨S8x16384x96, .f32⟩ : BufTy).Contents (Elt F) := shapeCast _ ((A_main_v0 main_arg0)) shapeCasts_S8x128x128x96_S8x16384x96

/-! One trip's values, in the body's order. -/

def b0 (j : ℕ) (s : State F) : (⟨S_, .i32⟩ : BufTy).Contents (Elt F) :=
  constantI S_ 32 0#32
def b1 (j : ℕ) (s : State F) : (⟨S8x1, .i32⟩ : BufTy).Contents (Elt F) :=
  broadcastInDim S8x1 ![] bcast_S_S8x1 ((b0 j s))
def b2 (j : ℕ) (s : State F) : (⟨S8x1, .i1⟩ : BufTy).Contents (Elt F) :=
  cmpi .slt ((K_main_v3 (F := F))) ((b1 j s))
def b3 (j : ℕ) (s : State F) : (⟨S_, .i32⟩ : BufTy).Contents (Elt F) :=
  constantI S_ 32 8#32
def b4 (j : ℕ) (s : State F) : (⟨S8x1, .i32⟩ : BufTy).Contents (Elt F) :=
  broadcastInDim S8x1 ![] bcast_S_S8x1 ((b3 j s))
def b5 (j : ℕ) (s : State F) : (⟨S8x1, .i32⟩ : BufTy).Contents (Elt F) :=
  addi ((K_main_v3 (F := F))) ((b4 j s))
def b6 (j : ℕ) (s : State F) : (⟨S8x1, .i32⟩ : BufTy).Contents (Elt F) :=
  select ((b2 j s)) ((b5 j s)) ((K_main_v3 (F := F)))
def b7 (j : ℕ) (s : State F) : (⟨S_, .i32⟩ : BufTy).Contents (Elt F) :=
  constantI S_ 32 0#32
def b8 (j : ℕ) (s : State F) : (⟨S8x1, .i32⟩ : BufTy).Contents (Elt F) :=
  broadcastInDim S8x1 ![] bcast_S_S8x1 ((b7 j s))
def b9 (j : ℕ) (s : State F) : (⟨S8x1, .i1⟩ : BufTy).Contents (Elt F) :=
  cmpi .slt (s.main_v9_3) ((b8 j s))
def b10 (j : ℕ) (s : State F) : (⟨S_, .i32⟩ : BufTy).Contents (Elt F) :=
  constantI S_ 32 16384#32
def b11 (j : ℕ) (s : State F) : (⟨S8x1, .i32⟩ : BufTy).Contents (Elt F) :=
  broadcastInDim S8x1 ![] bcast_S_S8x1 ((b10 j s))
def b12 (j : ℕ) (s : State F) : (⟨S8x1, .i32⟩ : BufTy).Contents (Elt F) :=
  addi (s.main_v9_3) ((b11 j s))
def b13 (j : ℕ) (s : State F) : (⟨S8x1, .i32⟩ : BufTy).Contents (Elt F) :=
  select ((b9 j s)) ((b12 j s)) (s.main_v9_3)
def b14 (j : ℕ) (s : State F) : (⟨S8x1x1, .i32⟩ : BufTy).Contents (Elt F) :=
  broadcastInDim S8x1x1 ![0, 1] bcast_S8x1_S8x1x1_0_1 ((b6 j s))
def b15 (j : ℕ) (s : State F) : (⟨S8x1x1, .i32⟩ : BufTy).Contents (Elt F) :=
  broadcastInDim S8x1x1 ![0, 1] bcast_S8x1_S8x1x1_0_1 ((b13 j s))
def b16 (j : ℕ) (s : State F) : (⟨S8x1x2, .i32⟩ : BufTy).Contents (Elt F) :=
  concatenate S8x1x2 2 [⟨S8x1x1, ((b14 j s))⟩, ⟨S8x1x1, ((b15 j s))⟩] concatenates_S8x1x1_S8x1x1_S8x1x2_d2
def b17 (j : ℕ) (s : State F) : (⟨S8x1x96, .f32⟩ : BufTy).Contents (Elt F) :=
  Host.gather gather_S8x16384x96_S8x1x2_S8x1x96_2_01_n_n_01_2_1196 (s.main_v9_1) ((b16 j s))
def b18 (j : ℕ) (s : State F) : (⟨S_, .i32⟩ : BufTy).Contents (Elt F) :=
  constantI S_ 32 0#32
def b19 (j : ℕ) (s : State F) : (⟨S8x1, .i32⟩ : BufTy).Contents (Elt F) :=
  broadcastInDim S8x1 ![] bcast_S_S8x1 ((b18 j s))
def b20 (j : ℕ) (s : State F) : (⟨S8x1, .i1⟩ : BufTy).Contents (Elt F) :=
  cmpi .slt ((K_main_v3 (F := F))) ((b19 j s))
def b21 (j : ℕ) (s : State F) : (⟨S_, .i32⟩ : BufTy).Contents (Elt F) :=
  constantI S_ 32 8#32
def b22 (j : ℕ) (s : State F) : (⟨S8x1, .i32⟩ : BufTy).Contents (Elt F) :=
  broadcastInDim S8x1 ![] bcast_S_S8x1 ((b21 j s))
def b23 (j : ℕ) (s : State F) : (⟨S8x1, .i32⟩ : BufTy).Contents (Elt F) :=
  addi ((K_main_v3 (F := F))) ((b22 j s))
def b24 (j : ℕ) (s : State F) : (⟨S8x1, .i32⟩ : BufTy).Contents (Elt F) :=
  select ((b20 j s)) ((b23 j s)) ((K_main_v3 (F := F)))
def b25 (j : ℕ) (s : State F) : (⟨S_, .i32⟩ : BufTy).Contents (Elt F) :=
  constantI S_ 32 0#32
def b26 (j : ℕ) (s : State F) : (⟨S8x1, .i32⟩ : BufTy).Contents (Elt F) :=
  broadcastInDim S8x1 ![] bcast_S_S8x1 ((b25 j s))
def b27 (j : ℕ) (s : State F) : (⟨S8x1, .i1⟩ : BufTy).Contents (Elt F) :=
  cmpi .slt (s.main_v9_3) ((b26 j s))
def b28 (j : ℕ) (s : State F) : (⟨S_, .i32⟩ : BufTy).Contents (Elt F) :=
  constantI S_ 32 16384#32
def b29 (j : ℕ) (s : State F) : (⟨S8x1, .i32⟩ : BufTy).Contents (Elt F) :=
  broadcastInDim S8x1 ![] bcast_S_S8x1 ((b28 j s))
def b30 (j : ℕ) (s : State F) : (⟨S8x1, .i32⟩ : BufTy).Contents (Elt F) :=
  addi (s.main_v9_3) ((b29 j s))
def b31 (j : ℕ) (s : State F) : (⟨S8x1, .i32⟩ : BufTy).Contents (Elt F) :=
  select ((b27 j s)) ((b30 j s)) (s.main_v9_3)
def b32 (j : ℕ) (s : State F) : (⟨S8x1x1, .i32⟩ : BufTy).Contents (Elt F) :=
  broadcastInDim S8x1x1 ![0, 1] bcast_S8x1_S8x1x1_0_1 ((b24 j s))
def b33 (j : ℕ) (s : State F) : (⟨S8x1x1, .i32⟩ : BufTy).Contents (Elt F) :=
  broadcastInDim S8x1x1 ![0, 1] bcast_S8x1_S8x1x1_0_1 ((b31 j s))
def b34 (j : ℕ) (s : State F) : (⟨S8x1x2, .i32⟩ : BufTy).Contents (Elt F) :=
  concatenate S8x1x2 2 [⟨S8x1x1, ((b32 j s))⟩, ⟨S8x1x1, ((b33 j s))⟩] concatenates_S8x1x1_S8x1x1_S8x1x2_d2
def b35 (j : ℕ) (s : State F) : (⟨S_, .f32⟩ : BufTy).Contents (Elt F) :=
  constant S_ .f32 0x3F800000#32
def b36 (j : ℕ) (s : State F) : (⟨S8x1, .f32⟩ : BufTy).Contents (Elt F) :=
  broadcastInDim S8x1 ![] bcast_S_S8x1 ((b35 j s))
def b37 (j : ℕ) (s : State F) : (⟨S8x16384, .f32⟩ : BufTy).Contents (Elt F) :=
  Host.scatterAdd scatter_S8x16384_S8x1x2_S8x1_n_01_01_2 (s.main_v9_5) ((b34 j s)) ((b36 j s))
def b38 (j : ℕ) (s : State F) : (⟨S8x16384x96, .f32⟩ : BufTy).Contents (Elt F) :=
  broadcastInDim S8x16384x96 ![0, 1, 2] bcast_S8x1x96_S8x16384x96_0_1_2 ((b17 j s))
def b39 (j : ℕ) (s : State F) : (⟨S8x16384x96, .f32⟩ : BufTy).Contents (Elt F) :=
  subf (s.main_v9_1) ((b38 j s))
def b40 (j : ℕ) (s : State F) : (⟨S8x16384x96, .f32⟩ : BufTy).Contents (Elt F) :=
  mulf ((b39 j s)) ((b39 j s))
def b41 (j : ℕ) (s : State F) : (⟨S_, .f32⟩ : BufTy).Contents (Elt F) :=
  constant S_ .f32 0x00000000#32
def b42 (j : ℕ) (s : State F) : (⟨S8x16384, .f32⟩ : BufTy).Contents (Elt F) :=
  Host.reduceAdd ((b40 j s)) ((b41 j s)) reducesTo_S8x16384x96_S8x16384_d2 h_S_
def b43 (j : ℕ) (s : State F) : (⟨S8x16384, .f32⟩ : BufTy).Contents (Elt F) :=
  Host.sqrt ((b42 j s))
def b44 (j : ℕ) (s : State F) : (⟨S8x16384, .f32⟩ : BufTy).Contents (Elt F) :=
  Host.negf ((b43 j s))
def b45 (j : ℕ) (s : State F) : (⟨S_, .f32⟩ : BufTy).Contents (Elt F) :=
  constant S_ .f32 0x41A00000#32
def b46 (j : ℕ) (s : State F) : (⟨S8x16384, .f32⟩ : BufTy).Contents (Elt F) :=
  broadcastInDim S8x16384 ![] bcast_S_S8x16384 ((b45 j s))
def b47 (j : ℕ) (s : State F) : (⟨S8x16384, .f32⟩ : BufTy).Contents (Elt F) :=
  Host.divf ((b44 j s)) ((b46 j s))
def b48 (j : ℕ) (s : State F) : (⟨S8x16384, .f32⟩ : BufTy).Contents (Elt F) :=
  Host.exp ((b47 j s))
def b49 (j : ℕ) (s : State F) : (⟨S_, .f32⟩ : BufTy).Contents (Elt F) :=
  constant S_ .f32 0x00000000#32
def b50 (j : ℕ) (s : State F) : (⟨S8, .f32⟩ : BufTy).Contents (Elt F) :=
  Host.reduceAdd ((b48 j s)) ((b49 j s)) reducesTo_S8x16384_S8_d1 h_S_
def b51 (j : ℕ) (s : State F) : (⟨S8x1, .f32⟩ : BufTy).Contents (Elt F) :=
  broadcastInDim S8x1 ![0] bcast_S8_S8x1_0 ((b50 j s))
def b52 (j : ℕ) (s : State F) : (⟨S8x16384, .f32⟩ : BufTy).Contents (Elt F) :=
  broadcastInDim S8x16384 ![0, 1] bcast_S8x1_S8x16384_0_1 ((b51 j s))
def b53 (j : ℕ) (s : State F) : (⟨S8x16384, .f32⟩ : BufTy).Contents (Elt F) :=
  Host.divf ((b48 j s)) ((b52 j s))
def b54 (j : ℕ) (s : State F) : (⟨S8x16384x1, .f32⟩ : BufTy).Contents (Elt F) :=
  broadcastInDim S8x16384x1 ![0, 1] bcast_S8x16384_S8x16384x1_0_1 ((b53 j s))
def b55 (j : ℕ) (s : State F) : (⟨S8x16384x96, .f32⟩ : BufTy).Contents (Elt F) :=
  broadcastInDim S8x16384x96 ![0, 1, 2] bcast_S8x16384x1_S8x16384x96_0_1_2 ((b54 j s))
def b56 (j : ℕ) (s : State F) : (⟨S8x16384x96, .f32⟩ : BufTy).Contents (Elt F) :=
  mulf (s.main_v9_1) ((b55 j s))
def b57 (j : ℕ) (s : State F) : (⟨S_, .f32⟩ : BufTy).Contents (Elt F) :=
  constant S_ .f32 0x00000000#32
def b58 (j : ℕ) (s : State F) : (⟨S8x96, .f32⟩ : BufTy).Contents (Elt F) :=
  Host.reduceAdd ((b56 j s)) ((b57 j s)) reducesTo_S8x16384x96_S8x96_d1 h_S_
def b59 (j : ℕ) (s : State F) : (⟨S_, .f32⟩ : BufTy).Contents (Elt F) :=
  constant S_ .f32 0x3F800000#32
def b60 (j : ℕ) (s : State F) : (⟨S8x16384, .f32⟩ : BufTy).Contents (Elt F) :=
  broadcastInDim S8x16384 ![] bcast_S_S8x16384 ((b59 j s))
def b61 (j : ℕ) (s : State F) : (⟨S8x16384, .f32⟩ : BufTy).Contents (Elt F) :=
  subf ((b60 j s)) ((b48 j s))
def b62 (j : ℕ) (s : State F) : (⟨S8x16384, .f32⟩ : BufTy).Contents (Elt F) :=
  mulf ((b61 j s)) (s.main_v9_4)
def b63 (j : ℕ) (s : State F) : (⟨S8x16384, .i32⟩ : BufTy).Contents (Elt F) :=
  iotaInDim S8x16384 32 1
def b64 (j : ℕ) (s : State F) : (⟨S_, .f32⟩ : BufTy).Contents (Elt F) :=
  constant S_ .f32 0xFF800000#32
def b65 (j : ℕ) (s : State F) : (⟨S_, .i32⟩ : BufTy).Contents (Elt F) :=
  constantI S_ 32 0#32
def b66 (j : ℕ) (s : State F) : (⟨S8, .f32⟩ : BufTy).Contents (Elt F) :=
  (fun k => (Host.argReduce reducer_argmax_f32_i32 ((b62 j s)) ((b63 j s)) ((b64 j s)) ((b65 j s)) reducesTo_S8x16384_S8_d1 h_S_ k).1)
def b67 (j : ℕ) (s : State F) : (⟨S8, .i32⟩ : BufTy).Contents (Elt F) :=
  (fun k => (Host.argReduce reducer_argmax_f32_i32 ((b62 j s)) ((b63 j s)) ((b64 j s)) ((b65 j s)) reducesTo_S8x16384_S8_d1 h_S_ k).2)
def b68 (j : ℕ) (s : State F) : (⟨S8x1, .i32⟩ : BufTy).Contents (Elt F) :=
  broadcastInDim S8x1 ![0] bcast_S8_S8x1_0 ((b67 j s))
def b69 (j : ℕ) (s : State F) : (⟨S1x8x96, .f32⟩ : BufTy).Contents (Elt F) :=
  broadcastInDim S1x8x96 ![1, 2] bcast_S8x96_S1x8x96_1_2 ((b58 j s))
def b70 (j : ℕ) (s : State F) : (⟨S_, .i32⟩ : BufTy).Contents (Elt F) :=
  constantI S_ 32 0#32
def b71 (j : ℕ) (s : State F) : (⟨S_, .i32⟩ : BufTy).Contents (Elt F) :=
  constantI S_ 32 0#32
def b72 (j : ℕ) (s : State F) : (⟨S8x8x96, .f32⟩ : BufTy).Contents (Elt F) :=
  Host.dynamicUpdateSlice (s.main_v9_6) ((b69 j s)) (fun k => (((![(constantI S_ 32 (BitVec.ofNat 32 j) : (⟨S_, .i32⟩ : BufTy).Contents (Elt F)), (b70 j s), (b71 j s)] : Fin 3 → (⟨S_, .i32⟩ : BufTy).Contents (Elt F))) k (Shape.Idx.first h_S_)).toInt) updateFits_S8x8x96_S1x8x96
def b73 (j : ℕ) (s : State F) : (⟨S1x8x16384, .f32⟩ : BufTy).Contents (Elt F) :=
  broadcastInDim S1x8x16384 ![1, 2] bcast_S8x16384_S1x8x16384_1_2 ((b48 j s))
def b74 (j : ℕ) (s : State F) : (⟨S_, .i32⟩ : BufTy).Contents (Elt F) :=
  constantI S_ 32 0#32
def b75 (j : ℕ) (s : State F) : (⟨S_, .i32⟩ : BufTy).Contents (Elt F) :=
  constantI S_ 32 0#32
def b76 (j : ℕ) (s : State F) : (⟨S8x8x16384, .f32⟩ : BufTy).Contents (Elt F) :=
  Host.dynamicUpdateSlice (s.main_v9_7) ((b73 j s)) (fun k => (((![(constantI S_ 32 (BitVec.ofNat 32 j) : (⟨S_, .i32⟩ : BufTy).Contents (Elt F)), (b74 j s), (b75 j s)] : Fin 3 → (⟨S_, .i32⟩ : BufTy).Contents (Elt F))) k (Shape.Idx.first h_S_)).toInt) updateFits_S8x8x16384_S1x8x16384

/-- The state @main hands the first trip, of the arguments it copies in or computes from. -/
def init (main_arg0 : (⟨S8x96x128x128, .f32⟩ : BufTy).Contents (Elt F)) : State F :=
  { main_v9_3 := K_main_v4 (F := F), main_v9_4 := K_main_v5 (F := F), main_v9_5 := K_main_v6 (F := F), main_v9_6 := K_main_v7 (F := F), main_v9_7 := K_main_v8 (F := F), main_v9_1 := A_main_v1 main_arg0 }

/-- One trip. -/
def step (j : ℕ) (s : State F) : State F :=
  { main_v9_3 := b68 j s, main_v9_4 := b62 j s, main_v9_5 := b37 j s, main_v9_6 := b72 j s, main_v9_7 := b76 j s, main_v9_1 := s.main_v9_1 }
theorem step_main_v9_1 (j : ℕ) (s : State F) : (step j s).main_v9_1 = s.main_v9_1 := by simp only [step]
theorem step_main_v9_3 (j : ℕ) (s : State F) : (step j s).main_v9_3 = b68 j s := by simp only [step]
theorem step_main_v9_4 (j : ℕ) (s : State F) : (step j s).main_v9_4 = b62 j s := by simp only [step]
theorem step_main_v9_5 (j : ℕ) (s : State F) : (step j s).main_v9_5 = b37 j s := by simp only [step]
theorem step_main_v9_6 (j : ℕ) (s : State F) : (step j s).main_v9_6 = b72 j s := by simp only [step]
theorem step_main_v9_7 (j : ℕ) (s : State F) : (step j s).main_v9_7 = b76 j s := by simp only [step]

/-- `main_v10`, which the operations after the loop make, of the loop's last state. -/
def R_main_v10 (s : State F) : (⟨S8x8x96, .f32⟩ : BufTy).Contents (Elt F) :=
  transpose S8x8x96 [1, 0, 2] (s.main_v9_6) transposes_S8x8x96_S8x8x96_1_0_2

/-- `main_v12`, which the operations after the loop make, of the loop's last state. -/
def R_main_v12 (s : State F) : (⟨S8x8x128x128, .f32⟩ : BufTy).Contents (Elt F) :=
  shapeCast _ (transpose S8x8x16384 [1, 0, 2] (s.main_v9_7) transposes_S8x8x16384_S8x8x16384_1_0_2) shapeCasts_S8x8x16384_S8x8x128x128

/-- `main_v13`, which the operations after the loop make, of the loop's last state. -/
def R_main_v13 (s : State F) : (⟨S8x1x128x128, .f32⟩ : BufTy).Contents (Elt F) :=
  shapeCast _ (s.main_v9_5) shapeCasts_S8x16384_S8x1x128x128

end Cert.ReferenceIdeal.Step

end
-- ==== Proof.RVal.lean ====
/-
  The reference's trip over real pictures: it selects, maps, averages and lowers as the mathematics does, so after
  `k` trips its state holds the first `k` steps.
-/
module

public import proofs.«01_k».proof.Proof.RefStep
public import proofs.«01_k».proof.Proof.Math
public import Idealize.ShloMosaic.Lib.IdealHost
public import Idealize.ShloMosaic.Lib.Routing.OpsPair
public import Idealize.ShloMosaic.Lib.Pointwise

@[expose] public section

set_option maxRecDepth 16384

noncomputable section

namespace Cert.Proof.RVal

open Cert.ReferenceIdeal Cert.ReferenceIdeal.Gen Cert.ReferenceIdeal.Step Cert.Proof.Math
open Cert.Proof.Sel (flat IsFirstMax)
open Idealize.ShloMosaic

/-- After `k` trips. -/
structure Rel (A : Fin 8 → Pic) (k : ℕ) (s : State Ideal) : Prop where
  ind : ∀ b : Fin 8, s.main_v9_3 (ix2 b (0 : Fin 1)) = BitVec.ofNat 32 (ix (A b) k).val
  score : ∀ (b : Fin 8) (p : Fin 16384), s.main_v9_4 (ix2 b p) = ((st (A b) k).2 p : EReal)
  pos : ∀ (b : Fin 8) (p : Fin 16384), s.main_v9_5 (ix2 b p) = (hits (A b) k p : EReal)
  vecs : ∀ (i b : Fin 8) (c : Fin 96), i.val < k → s.main_v9_6 (ix3 i b c) = (vec (A b) (ix (A b) i.val) c : EReal)
  sims : ∀ (i b : Fin 8) (p : Fin 16384), i.val < k → s.main_v9_7 (ix3 i b p) = (sm (A b) (ix (A b) i.val) p : EReal)
  xf : ∀ (b : Fin 8) (p : Fin 16384) (c : Fin 96), s.main_v9_1 (ix3 b p c) = (A b c p : EReal)

variable {A : Fin 8 → Pic} {j : ℕ} {s : State Ideal}

/-! ## The pair of words that names the selected pixel -/

theorem batch_word (b : Fin 8) : (K_main_v3 (F := Ideal)) (ix2 b (0 : Fin 1)) = BitVec.ofNat 32 b.val := by
  unfold K_main_v3 K_main_v2
  pointwise

theorem b6_at (b : Fin 8) : b6 j s (ix2 b (0 : Fin 1)) = BitVec.ofNat 32 b.val := by
  have h := batch_word b
  unfold b6 b2 b5 b1 b0
  generalize K_main_v3 (F := Ideal) = W at h ⊢
  pointwise
  rw [h]
  exact Routing.wrap_of_lt _ _ (by rw [BitVec.toNat_ofNat]; omega)

theorem b13_at (hs : Rel A j s) (b : Fin 8) : b13 j s (ix2 b (0 : Fin 1)) = BitVec.ofNat 32 (ix (A b) j).val := by
  have h := hs.ind b
  unfold b13 b9 b12 b8 b7
  pointwise
  rw [h]
  exact Routing.wrap_of_lt _ _ (by rw [BitVec.toNat_ofNat]; omega)

theorem b16_batch (b : Fin 8) : b16 j s (ix3 b (0 : Fin 1) (0 : Fin 2)) = BitVec.ofNat 32 b.val := by
  have h := b6_at (j := j) (s := s) b
  unfold b16 b14
  generalize b6 j s = W at h ⊢
  pointwise
  exact h

theorem b16_pixel (hs : Rel A j s) (b : Fin 8) : b16 j s (ix3 b (0 : Fin 1) (1 : Fin 2)) = BitVec.ofNat 32 (ix (A b) j).val := by
  have h := b13_at hs b
  unfold b16 b15
  generalize b13 j s = W at h ⊢
  pointwise
  exact h

theorem b34_eq : b34 j s = b16 j s := rfl

/-- A gather of rows of a stack of matrices by pairs of words, read at an entry. -/
theorem gather_pair (d : GatherDims S8x16384x96 S8x1x2 S8x1x96) (hoff : d.offsetDims = [2]) (hcoll : d.collapsedSliceDims = [0, 1])
    (hob : d.operandBatchingDims = []) (hsim : d.startIndexMap = [0, 1]) (hivd : d.indexVectorDim = 2) (x : S8x16384x96.Idx → EReal)
    (W : IVec S8x1x2 32) (b r : Fin 8) (n : Fin 16384) (c : Fin 96) (h0 : W (ix3 b (0 : Fin 1) (0 : Fin 2)) = BitVec.ofNat 32 r.val)
    (h1 : W (ix3 b (0 : Fin 1) (1 : Fin 2)) = BitVec.ofNat 32 n.val) : Host.gather d x W (ix3 b (0 : Fin 1) c) = x (ix3 r n c) := by
  unfold Host.gather
  refine congrArg x (funext fun a => Fin.ext ?_)
  have hb : ∀ a', a' ∉ d.operandBatchingDims := fun a' => by rw [hob]; exact List.not_mem_nil
  have hk : d.siKept = [0, 1] := by
    show (List.finRange 3).filter (fun x => decide (x.val ≠ d.indexVectorDim)) = _
    rw [hivd]; rfl
  have hu : d.batchDims = [0, 1] := by
    show S8x1x96.kept d.offsetDims = _
    rw [hoff]; rfl
  have e : ∀ (l : List (Fin 3)) (n : ℕ) (h : n < l.length) (m : Fin 3), l = [0, 1] → n = m.val → l[n]'h = m := by
    intro l n h m hl hn
    subst hl; subst hn
    fin_cases m
    · rfl
    · rfl
    · exact absurd h (by decide)
  have hm : ∀ q : Fin 3, q = 0 ∨ q = 1 → q ∈ d.startIndexMap := fun q hq => by rw [hsim]; rcases hq with rfl | rfl <;> simp
  have hc : ∀ q : Fin 3, q = 0 ∨ q = 1 → q ∈ d.collapsedSliceDims := fun q hq => by rw [hcoll]; rcases hq with rfl | rfl <;> simp
  have hsi : ∀ (q : Fin 3) (hq : q = 0 ∨ q = 1), d.siIdx (ix3 b (0 : Fin 1) c) ⟨d.startIndexMap.idxOf q, List.idxOf_lt_length_iff.2 (hm q hq)⟩
      = ix3 b (0 : Fin 1) (⟨q.val, by rcases hq with rfl | rfl <;> decide⟩ : Fin 2) := fun q hq => by
    funext b'
    apply Fin.ext
    match b' with
    | ⟨0, _⟩ =>
      unfold GatherDims.siIdx
      rw [dif_neg (by rw [hivd]; exact (by decide : (0 : ℕ) ≠ 2))]
      unfold GatherDims.siCoord
      simp only [Fin.val_cast]
      rw [e _ _ _ 0 hu (by rw [hk]; rfl)]
      rfl
    | ⟨1, _⟩ =>
      unfold GatherDims.siIdx
      rw [dif_neg (by rw [hivd]; exact (by decide : (1 : ℕ) ≠ 2))]
      unfold GatherDims.siCoord
      simp only [Fin.val_cast]
      rw [e _ _ _ 1 hu (by rw [hk]; rfl)]
      rfl
    | ⟨2, _⟩ =>
      unfold GatherDims.siIdx
      rw [dif_pos (by rw [hivd])]
      show List.idxOf q d.startIndexMap = q.val
      rw [hsim]
      rcases hq with rfl | rfl <;> rfl
  have hst : ∀ (q : Fin 3) (hq : q = 0 ∨ q = 1), d.start (ix3 b (0 : Fin 1) c) W q
      = min (W (ix3 b (0 : Fin 1) (⟨q.val, by rcases hq with rfl | rfl <;> decide⟩ : Fin 2))).toInt.toNat (S8x16384x96.size q - 1) := fun q hq => by
    unfold GatherDims.start
    rw [dif_pos (hm q hq), hsi q hq, d.slice_collapsed q (hc q hq)]
  have hz : ∀ (q : Fin 3) (hq : q = 0 ∨ q = 1), d.offCoord (ix3 b (0 : Fin 1) c) q = 0 := fun q hq =>
    d.offCoord_eq_zero _ _ fun h => ((d.mem_sKept q).1 h).1 (hc q hq)
  match a with
  | ⟨0, _⟩ =>
    show d.start (ix3 b (0 : Fin 1) c) W 0 + d.batchCoord (ix3 b (0 : Fin 1) c) 0 + d.offCoord (ix3 b (0 : Fin 1) c) 0 = r.val
    rw [d.batchCoord_eq_zero _ _ (hb 0), hz 0 (.inl rfl), hst 0 (.inl rfl)]
    show min (W (ix3 b (0 : Fin 1) (0 : Fin 2))).toInt.toNat 7 + 0 + 0 = r.val
    rw [h0, StableHlo.Predicate.toInt_ofNat_small _ (by omega)]
    omega
  | ⟨1, _⟩ =>
    show d.start (ix3 b (0 : Fin 1) c) W 1 + d.batchCoord (ix3 b (0 : Fin 1) c) 1 + d.offCoord (ix3 b (0 : Fin 1) c) 1 = n.val
    rw [d.batchCoord_eq_zero _ _ (hb 1), hz 1 (.inr rfl), hst 1 (.inr rfl)]
    show min (W (ix3 b (0 : Fin 1) (1 : Fin 2))).toInt.toNat 16383 + 0 + 0 = n.val
    rw [h1, StableHlo.Predicate.toInt_ofNat_small _ (by omega)]
    omega
  | ⟨2, _⟩ =>
    have hkk : (2 : Fin 3) ∈ d.sKept := (d.mem_sKept 2).2 ⟨by rw [hcoll]; decide, hb 2⟩
    have hmm : (2 : Fin 3) ∉ d.startIndexMap := by rw [hsim]; decide
    show d.start (ix3 b (0 : Fin 1) c) W 2 + d.batchCoord (ix3 b (0 : Fin 1) c) 2 + d.offCoord (ix3 b (0 : Fin 1) c) 2 = c.val
    rw [d.batchCoord_eq_zero _ _ (hb 2), Nat.add_zero]
    unfold GatherDims.start GatherDims.offCoord
    rw [dif_neg hmm, dif_pos hkk, Nat.zero_add]
    have h2 : ∀ X : Fin 3, X ∈ d.offsetDims → ((ix3 b (0 : Fin 1) c : S8x1x96.Idx) X).val = c.val := fun X hX => by
      rw [hoff] at hX
      rw [List.mem_singleton.1 hX]
      rfl
    exact h2 _ (List.getElem_mem _)

theorem b17_at (hs : Rel A j s) (b : Fin 8) (c : Fin 96) : b17 j s (ix3 b (0 : Fin 1) c) = (A b c (ix (A b) j) : EReal) :=
  (gather_pair _ rfl rfl rfl rfl rfl _ _ b b (ix (A b) j) c (b16_batch b) (b16_pixel hs b)).trans (hs.xf _ _ _)

theorem b37_at (hs : Rel A j s) (b : Fin 8) (p : Fin 16384) : b37 j s (ix2 b p) = (hits (A b) (j + 1) p : EReal) := by
  have h0 := fun b => b16_batch (j := j) (s := s) b
  have h1 := fun b => b16_pixel hs b
  rw [hits_succ, EReal.coe_add, ← hs.pos]
  unfold b37
  rw [b34_eq]
  generalize b16 j s = W at h0 h1 ⊢
  change s.main_v9_5 (ix2 b p) + ∑ i ∈ Finset.univ.filter (fun i => scatter_S8x16384_S8x1x2_S8x1_n_01_01_2.resultIdx? i W = some (ix2 b p)), b36 j s i = _
  refine congrArg₂ _ rfl ?_
  have lands : ∀ b' : Fin 8, scatter_S8x16384_S8x1x2_S8x1_n_01_01_2.resultIdx? (ix2 b' (0 : Fin 1)) W = some (ix2 b p) ↔ b' = b ∧ ix (A b') j = p := by
    intro b'
    refine (Routing.scatter_lands2 (R := 8) (C := 16384) (A := 8) (B := 1) scatter_S8x16384_S8x1x2_S8x1_n_01_01_2 rfl rfl rfl W b' 0 b p).trans ?_
    have e0 : W (ValueIdx.ix3 b' (0 : Fin 1) (0 : Fin 2)) = BitVec.ofNat 32 b'.val := h0 b'
    have e1 : W (ValueIdx.ix3 b' (0 : Fin 1) (1 : Fin 2)) = BitVec.ofNat 32 (ix (A b') j).val := h1 b'
    rw [e0, e1, StableHlo.Predicate.toInt_ofNat_small _ (by omega), StableHlo.Predicate.toInt_ofNat_small _ (by omega)]
    simp only [Fin.ext_iff, Nat.cast_inj]
  have one : ∀ i, b36 j s i = 1 := fun i => by
    unfold b36 b35
    refine Eq.trans ?_ bits_one
    pointwise
  by_cases hp : ix (A b) j = p
  · rw [if_pos hp, Finset.sum_eq_single (ix2 b (0 : Fin 1)), one]
    · rfl
    · intro i hi hne
      obtain ⟨b', u, rfl⟩ : ∃ (b' : Fin 8) (u : Fin 1), i = ix2 b' u := ⟨i 0, i 1, eq_ix2 i⟩
      obtain rfl : u = 0 := Subsingleton.elim _ _
      have := ((lands b').1 (Finset.mem_filter.1 hi).2).1
      subst this
      exact absurd rfl hne
    · intro h
      refine absurd ?_ h
      rw [Finset.mem_filter]
      exact ⟨Finset.mem_univ _, (lands b).2 ⟨rfl, hp⟩⟩
  · rw [if_neg hp]
    refine Finset.sum_eq_zero fun i hi => ?_
    obtain ⟨b', u, rfl⟩ : ∃ (b' : Fin 8) (u : Fin 1), i = ix2 b' u := ⟨i 0, i 1, eq_ix2 i⟩
    obtain rfl : u = 0 := Subsingleton.elim _ _
    obtain ⟨rfl, h⟩ := (lands b').1 (Finset.mem_filter.1 hi).2
    exact absurd h hp

/-! ## The similarities, the means and the scores -/

theorem b42_at (hs : Rel A j s) (b : Fin 8) (p : Fin 16384) :
    b42 j s (ix2 b p) = ∑ c, ((A b c p : EReal) - A b c (ix (A b) j)) * ((A b c p : EReal) - A b c (ix (A b) j)) := by
  have hr := b17_at hs b
  have e39 : ∀ c, b39 j s (ix3 b p c) = (A b c p : EReal) - A b c (ix (A b) j) := fun c => by
    rw [← hs.xf, ← hr]
    unfold b39 b38
    generalize b17 j s = W
    pointwise
  unfold b42
  rw [ValueIdx.hostReduceAdd_apply, Ideal.hostReduceAdd_single _ (by decide : S8x16384x96.Reduces [2] S8x16384)]
  have h0 : b41 j s (Shape.Idx.first h_S_) = (0 : EReal) := Ideal.ofBits_zero_f32
  rw [h0, zero_add]
  refine Finset.sum_congr rfl fun c _ => ?_
  have e : (by decide : S8x16384x96.Reduces [2] S8x16384).lift (ix2 b p) c = ix3 b p (c : Fin 96) := by
    funext b; apply Fin.ext; fin_cases b <;> rfl
  rw [e]
  exact congrArg₂ (fun x y : EReal => x * y) (e39 c) (e39 c)

theorem b48_at (hs : Rel A j s) (b : Fin 8) (p : Fin 16384) : b48 j s (ix2 b p) = (sm (A b) (ix (A b) j) p : EReal) := by
  rw [← sim_direct, ← b42_at hs, ← bits_twenty]
  unfold b48 b47 b44 b43 b46 b45
  generalize b42 j s = W
  pointwise

theorem b50_at (hs : Rel A j s) (b : Fin 8) : b50 j s (ix1 b) = ((∑ p, sm (A b) (ix (A b) j) p : ℝ) : EReal) := by
  rw [coe_sum]
  unfold b50
  rw [ValueIdx.hostReduceAdd_apply, Ideal.hostReduceAdd_single _ (by decide : S8x16384.Reduces [1] S8)]
  have h0 : b49 j s (Shape.Idx.first h_S_) = (0 : EReal) := Ideal.ofBits_zero_f32
  rw [h0, zero_add]
  refine Finset.sum_congr rfl fun p _ => ?_
  have e : (by decide : S8x16384.Reduces [1] S8).lift (ix1 b) p = ix2 b (p : Fin 16384) := by
    funext b; apply Fin.ext; fin_cases b <;> rfl
  rw [e]
  exact b48_at hs b p

theorem b58_at (hs : Rel A j s) (b : Fin 8) (c : Fin 96) : b58 j s (ix2 b c) = (vec (A b) (ix (A b) j) c : EReal) := by
  have e53 : ∀ p, b53 j s (ix2 b p) = ((sm (A b) (ix (A b) j) p / ∑ q, sm (A b) (ix (A b) j) q : ℝ) : EReal) := fun p => by
    rw [← div_coe _ (sum_sm_pos _ _), ← b48_at hs, ← b50_at hs]
    unfold b53 b52 b51
    generalize b50 j s = V
    generalize b48 j s = W
    pointwise
  have e56 : ∀ p, b56 j s (ix3 b p c) = ((A b c p * (sm (A b) (ix (A b) j) p / ∑ q, sm (A b) (ix (A b) j) q) : ℝ) : EReal) := fun p => by
    rw [EReal.coe_mul, ← e53, ← hs.xf]
    unfold b56 b55 b54
    generalize b53 j s = W
    pointwise
  unfold b58
  rw [ValueIdx.hostReduceAdd_apply, Ideal.hostReduceAdd_single _ (by decide : S8x16384x96.Reduces [1] S8x96)]
  have h0 : b57 j s (Shape.Idx.first h_S_) = (0 : EReal) := Ideal.ofBits_zero_f32
  rw [h0, zero_add]
  have ev : vec (A b) (ix (A b) j) c = ∑ p, A b c p * (sm (A b) (ix (A b) j) p / ∑ q, sm (A b) (ix (A b) j) q) := by
    unfold vec
    rw [Finset.sum_div]
    exact Finset.sum_congr rfl fun p _ => mul_div_assoc _ _ _
  rw [ev, coe_sum]
  refine Finset.sum_congr rfl fun p _ => ?_
  have e : (by decide : S8x16384x96.Reduces [1] S8x96).lift (ix2 b c) p = ix3 b (p : Fin 16384) c := by
    funext b; apply Fin.ext; fin_cases b <;> rfl
  rw [e]
  exact e56 p

theorem b62_at (hs : Rel A j s) (b : Fin 8) (p : Fin 16384) : b62 j s (ix2 b p) = ((st (A b) (j + 1)).2 p : EReal) := by
  rw [st_succ, lower, EReal.coe_mul, EReal.coe_sub, ← b48_at hs, ← hs.score, EReal.coe_one, ← bits_one]
  unfold b62 b61 b60 b59
  generalize b48 j s = W
  pointwise

/-! ## The next pixel -/

/-- A left fold that always keeps one of its two arguments ends at an element that beats every other, if it meets it. -/
theorem foldl_pick {α : Type} (f : α → α → α) (e : α) (S : α → Prop) (hsel : ∀ a b, f a b = a ∨ f a b = b)
    (h1 : ∀ x, S x → f e x = e) (h2 : ∀ x, S x → f x e = e) :
    ∀ (l : List α) (acc : α), (∀ x ∈ l, S x) → S acc → (acc = e ∨ e ∈ l) → l.foldl f acc = e
  | [], acc, _, _, h => by simpa using h
  | y :: l, acc, hl, hacc, h => by
    rw [List.foldl_cons]
    have hy := hl y (List.mem_cons_self ..)
    refine foldl_pick f e S hsel h1 h2 l _ (fun x hx => hl x (List.mem_cons_of_mem _ hx)) ?_ ?_
    · rcases hsel acc y with q | q <;> rw [q] <;> assumption
    · rcases h with rfl | h
      · exact .inl (h1 y hy)
      · rcases List.mem_cons.1 h with rfl | h
        · exact .inl (h2 acc hacc)
        · exact .inr h

/-- The reducer's choice: the left pair when its value is greater, or equal at a lower index. -/
theorem reducer_eq (a b : EReal × BitVec 32) : reducer_argmax_f32_i32 (F := Ideal) a b
    = if b.1 < a.1 ∨ (a.1 = b.1 ∧ a.2.toInt < b.2.toInt) then a else b := by
  obtain ⟨x, u⟩ := a
  obtain ⟨y, v⟩ := b
  unfold reducer_argmax_f32_i32
  by_cases h1 : y < x
  · have h2 : x ≠ y := ne_of_gt h1
    simp [Ideal.cmpf_def, Ideal.cmp, Scalar.select, IntOp.ori, IntOp.andi, h1, h2]
  · by_cases h2 : x = y
    · subst h2
      by_cases h3 : u.toInt < v.toInt
      · simp [Ideal.cmpf_def, Ideal.cmp, Scalar.select, IntOp.ori, IntOp.andi, IntOp.cmpi, BitVec.slt, h3]
      · simp [Ideal.cmpf_def, Ideal.cmp, Scalar.select, IntOp.ori, IntOp.andi, IntOp.cmpi, BitVec.slt, h3]
    · simp [Ideal.cmpf_def, Ideal.cmp, Scalar.select, IntOp.ori, IntOp.andi, h1, h2]

theorem b67_at (hs : Rel A j s) (b : Fin 8) : b67 j s (ix1 b) = BitVec.ofNat 32 (ix (A b) (j + 1)).val := by
  have hb := best_spec (st (A b) (j + 1)).2
  rw [← ix_succ] at hb
  generalize ix (A b) (j + 1) = n at hb ⊢
  have h63 : ∀ p : Fin 16384, b63 j s (ix2 b p) = BitVec.ofNat 32 p.val := fun p => by
    unfold b63
    pointwise
  have h62 := b62_at hs b
  unfold b67
  show (Host.argReduce _ _ _ _ _ _ _ (ix1 b)).2 = _
  rw [Ideal.argReduce_eq_reduce2, Host.reduce2_eq_foldl_fiber]
  have hfst : b64 j s (Shape.Idx.first h_S_) = (⊥ : EReal) := by
    show Ideal.ofBits .f32 0xFF800000#32 = ⊥
    simp [Ideal.ofBits, Ideal.ieee]
  have hsnd : b65 j s (Shape.Idx.first h_S_) = 0#32 := rfl
  have hmem : ∀ x ∈ Host.argReduceFiber (b62 j s) (b63 j s) reducesTo_S8x16384_S8_d1 (ix1 b),
      ∃ p : Fin 16384, x = (((st (A b) (j + 1)).2 p : EReal), BitVec.ofNat 32 p.val) := fun x hx => by
    obtain ⟨m, hm, rfl⟩ := List.mem_map.1 hx
    have hd : reducesTo_S8x16384_S8_d1.drop (S8x16384.rowMajor.symm m) = ix1 b := by simpa using (List.mem_filter.1 hm).2
    obtain ⟨b', p, e⟩ : ∃ (b' : Fin 8) (p : Fin 16384), S8x16384.rowMajor.symm m = ix2 b' p := ⟨_, _, eq_ix2 _⟩
    rw [e] at hd ⊢
    have hbb : b' = b := congrFun hd 0
    subst hbb
    exact ⟨p, Prod.ext (h62 p) (h63 p)⟩
  have hin : (((st (A b) (j + 1)).2 n : EReal), BitVec.ofNat 32 n.val)
      ∈ Host.argReduceFiber (b62 j s) (b63 j s) reducesTo_S8x16384_S8_d1 (ix1 b) := by
    refine List.mem_map.2 ⟨S8x16384.rowMajor (ix2 b n), List.mem_filter.2 ⟨List.mem_finRange _, ?_⟩, ?_⟩
    · rw [Equiv.symm_apply_apply]
      refine decide_eq_true ?_
      funext a
      apply Fin.ext
      fin_cases a
      rfl
    · rw [Equiv.symm_apply_apply]
      exact Prod.ext (h62 n) (h63 n)
  have key := foldl_pick (reducer_argmax_f32_i32 (F := Ideal)) (((st (A b) (j + 1)).2 n : EReal), BitVec.ofNat 32 n.val)
    (fun x => x.1 < ((st (A b) (j + 1)).2 n : EReal) ∨ (x.1 = ((st (A b) (j + 1)).2 n : EReal) ∧ (BitVec.ofNat 32 n.val).toInt ≤ x.2.toInt))
    (fun a b => by rw [reducer_eq]; split <;> simp)
    (fun x hx => by
      rw [reducer_eq]
      rcases hx with h | ⟨h, hl⟩
      · rw [if_pos (.inl h)]
      · rcases lt_or_eq_of_le hl with hl | hl
        · rw [if_pos (.inr ⟨h.symm, hl⟩)]
        · split
          · rfl
          · exact Prod.ext h (BitVec.eq_of_toInt_eq hl.symm))
    (fun x hx => by
      rw [reducer_eq]
      rcases hx with h | ⟨h, hl⟩
      · rw [if_neg]
        rintro (h' | ⟨h', _⟩)
        · exact absurd h (not_lt.2 h'.le)
        · exact absurd h (by rw [h']; exact lt_irrefl _)
      · rw [if_neg]
        rintro (h' | ⟨_, h'⟩)
        · exact absurd h' (by rw [h]; exact lt_irrefl _)
        · exact absurd h' (not_lt.2 hl))
    _ (b64 j s (Shape.Idx.first h_S_), b65 j s (Shape.Idx.first h_S_)) (fun x hx => by
      obtain ⟨p, rfl⟩ := hmem x hx
      rcases lt_or_ge p n with h | h
      · exact .inl (EReal.coe_lt_coe_iff.2 (hb.2 p h))
      · rcases lt_or_eq_of_le (hb.1 p) with h' | h'
        · exact .inl (EReal.coe_lt_coe_iff.2 h')
        · refine .inr ⟨congrArg (fun r : ℝ => (r : EReal)) h', ?_⟩
          rw [StableHlo.Predicate.toInt_ofNat_small _ (by omega), StableHlo.Predicate.toInt_ofNat_small _ (by omega)]
          exact_mod_cast h)
    (.inl (by rw [hfst]; exact EReal.bot_lt_coe _)) (.inr hin)
  exact congrArg Prod.snd key

/-! ## The rows written -/

theorem start_val (hj : j < 8) (x y : IVec S_ 32) (h : 0 < S_.numel) :
    (((![(constantI S_ 32 (BitVec.ofNat 32 j) : IVec S_ 32), x, y] : Fin 3 → IVec S_ 32) 0) (Shape.Idx.first h)).toInt = (j : ℤ) :=
  StableHlo.Predicate.toInt_ofNat_small _ (by omega)

/-- A row of a stack replaced at `j`, read at an entry. -/
theorem row_set {n : ℕ} (x : (⟨3, ![8, 8, n]⟩ : Shape).Idx → EReal) (upd : (⟨3, ![1, 8, n]⟩ : Shape).Idx → EReal) (start : Fin 3 → ℤ)
    (h : (⟨3, ![8, 8, n]⟩ : Shape).Slices (fun _ => 0) (⟨3, ![1, 8, n]⟩ : Shape)) (hj : j < 8) (h0 : start 0 = (j : ℤ)) (h1 : start 1 = 0) (h2 : start 2 = 0)
    (i b : Fin 8) (c : Fin n) : Host.dynamicUpdateSlice x upd start h (ix3 i b c) = if i.val = j then upd (ix3 (0 : Fin 1) b c) else x (ix3 i b c) := by
  have e0 : Host.clampedStart _ _ h.1 start 0 = j := Host.clampedStart_of_le _ _ 0 j h0 (by change j + 1 ≤ 8; omega)
  have e1 : Host.clampedStart _ _ h.1 start 1 = 0 := Host.clampedStart_of_le _ _ 1 0 h1 (by change 0 + 8 ≤ 8; omega)
  have e2 : Host.clampedStart _ _ h.1 start 2 = 0 := Host.clampedStart_of_le _ _ 2 0 h2 (by change 0 + n ≤ n; omega)
  rw [Host.dynamicUpdateSlice_apply]
  by_cases hi : i.val = j
  · rw [if_pos hi, dif_pos]
    · rw [Shape.Idx.norm_def]
      refine congrArg upd (funext fun a => Fin.ext ?_)
      fin_cases a
      · change i.val - Host.clampedStart _ _ h.1 start 0 = 0
        omega
      · change b.val - Host.clampedStart _ _ h.1 start 1 = b.val
        omega
      · change c.val - Host.clampedStart _ _ h.1 start 2 = c.val
        omega
    · intro a
      fin_cases a
      · change Host.clampedStart _ _ h.1 start 0 ≤ i.val ∧ i.val < Host.clampedStart _ _ h.1 start 0 + 1
        omega
      · change Host.clampedStart _ _ h.1 start 1 ≤ b.val ∧ b.val < Host.clampedStart _ _ h.1 start 1 + 8
        omega
      · change Host.clampedStart _ _ h.1 start 2 ≤ c.val ∧ c.val < Host.clampedStart _ _ h.1 start 2 + n
        omega
  · rw [if_neg hi, dif_neg]
    intro hh
    have : Host.clampedStart _ _ h.1 start 0 ≤ i.val ∧ i.val < Host.clampedStart _ _ h.1 start 0 + 1 := hh 0
    omega

theorem b72_at (hs : Rel A j s) (hj : j < 8) (i b : Fin 8) (c : Fin 96) :
    b72 j s (ix3 i b c) = if i.val = j then (vec (A b) (ix (A b) j) c : EReal) else s.main_v9_6 (ix3 i b c) := by
  have h69 : b69 j s (ix3 (0 : Fin 1) b c) = (vec (A b) (ix (A b) j) c : EReal) := by
    rw [← b58_at hs]
    unfold b69
    generalize b58 j s = W
    pointwise
  rw [← h69]
  exact row_set _ _ _ _ hj (start_val hj _ _ _) rfl rfl i b c

theorem b76_at (hs : Rel A j s) (hj : j < 8) (i b : Fin 8) (p : Fin 16384) :
    b76 j s (ix3 i b p) = if i.val = j then (sm (A b) (ix (A b) j) p : EReal) else s.main_v9_7 (ix3 i b p) := by
  have h73 : b73 j s (ix3 (0 : Fin 1) b p) = (sm (A b) (ix (A b) j) p : EReal) := by
    rw [← b48_at hs]
    unfold b73
    generalize b48 j s = W
    pointwise
  rw [← h73]
  exact row_set _ _ _ _ hj (start_val hj _ _ _) rfl rfl i b p

/-! ## One trip, and eight -/

theorem rel_step (hs : Rel A j s) (hj : j < 8) : Rel A (j + 1) (step j s) where
  ind b := by
    rw [step_main_v9_3, ← b67_at hs]
    unfold b68
    generalize b67 j s = W
    pointwise
  score b p := by rw [step_main_v9_4]; exact b62_at hs b p
  pos b p := by rw [step_main_v9_5, b37_at hs b p, hits_succ, EReal.coe_add]
  vecs i b c hi := by
    rw [step_main_v9_6, b72_at hs hj]
    split
    · next h => rw [h]
    · exact hs.vecs i b c (by omega)
  sims i b p hi := by
    rw [step_main_v9_7, b76_at hs hj]
    split
    · next h => rw [h]
    · exact hs.sims i b p (by omega)
  xf := by rw [step_main_v9_1]; exact hs.xf

/-- The loop's state after `n` trips. -/
def it (x : (⟨S8x96x128x128, .f32⟩ : BufTy).Contents (Elt Ideal)) (n : ℕ) : State Ideal :=
  Nat.rec (init x) (fun i s => step i s) n

theorem it_zero (x : (⟨S8x96x128x128, .f32⟩ : BufTy).Contents (Elt Ideal)) : it x 0 = init x := rfl
theorem it_succ (x : (⟨S8x96x128x128, .f32⟩ : BufTy).Contents (Elt Ideal)) (n : ℕ) : it x (n + 1) = step n (it x n) := rfl

/-- The array holds the real pictures. -/
def Holds (x : (⟨S8x96x128x128, .f32⟩ : BufTy).Contents (Elt Ideal)) (A : Fin 8 → Pic) : Prop :=
  ∀ (b : Fin 8) (c : Fin 96) (u v : Fin 128), x (ix4 b c u v) = (A b c (flat u v) : EReal)

variable {x : (⟨S8x96x128x128, .f32⟩ : BufTy).Contents (Elt Ideal)}

theorem rel_init (hx : Holds x A) : Rel A 0 (init x) where
  ind b := by
    change K_main_v4 (F := Ideal) (ix2 b (0 : Fin 1)) = _
    rw [ix_zero]
    unfold K_main_v4 K_main_c
    pointwise
  score b p := by
    change K_main_v5 (F := Ideal) (ix2 b p) = _
    rw [st_zero, EReal.coe_one, ← bits_one]
    unfold K_main_v5 K_main_cst
    pointwise
  pos b p := by
    change K_main_v6 (F := Ideal) (ix2 b p) = _
    rw [hits_zero, EReal.coe_zero]
    unfold K_main_v6 K_main_cst_0
    pointwise
  vecs i b c hi := absurd hi (Nat.not_lt_zero _)
  sims i b c hi := absurd hi (Nat.not_lt_zero _)
  xf b p c := by
    have h := hx b c ⟨p.val / 128, by omega⟩ ⟨p.val % 128, by omega⟩
    have hp : flat ⟨p.val / 128, by omega⟩ ⟨p.val % 128, by omega⟩ = p := Fin.ext (Nat.div_add_mod p.val 128)
    rw [hp] at h
    change A_main_v1 x (ix3 b p c) = _
    rw [← h]
    unfold A_main_v1 A_main_v0
    pointwise

theorem rel_it (hx : Holds x A) : ∀ n, n ≤ 8 → Rel A n (it x n)
  | 0, _ => rel_init hx
  | n + 1, h => by rw [it_succ]; exact rel_step (rel_it hx n (by omega)) (by omega)

theorem flat_comm (u v : Fin 128) : (⟨u.val * 128 + v.val, by omega⟩ : Fin 16384) = flat u v := Fin.ext (by simp [flat, mul_comm])

/-- THE FIRST RESULT: the weighted means. -/
theorem res0 (hx : Holds x A) (b k : Fin 8) (c : Fin 96) : R_main_v10 (it x 8) (ix3 b k c) = (vec (A b) (ix (A b) k.val) c : EReal) := by
  rw [← (rel_it hx 8 le_rfl).vecs k b c k.isLt]
  unfold R_main_v10
  generalize it x 8 = s
  pointwise

/-- THE SECOND RESULT: the maps. -/
theorem res1 (hx : Holds x A) (b k : Fin 8) (u v : Fin 128) :
    R_main_v12 (it x 8) (ix4 b k u v) = (sm (A b) (ix (A b) k.val) (flat u v) : EReal) := by
  rw [← (rel_it hx 8 le_rfl).sims k b (flat u v) k.isLt]
  unfold R_main_v12
  generalize it x 8 = s
  pointwise
  exact congrArg (fun q => s.main_v9_7 (ix3 k b q)) (flat_comm u v)

/-- THE THIRD RESULT: the counts. -/
theorem res2 (hx : Holds x A) (b : Fin 8) (u v : Fin 128) :
    R_main_v13 (it x 8) (ix4 b (0 : Fin 1) u v) = (hits (A b) 8 (flat u v) : EReal) := by
  rw [← (rel_it hx 8 le_rfl).pos b (flat u v)]
  unfold R_main_v13
  generalize it x 8 = s
  pointwise
  exact congrArg (fun q => s.main_v9_5 (ix2 b q)) (flat_comm u v)

end Cert.Proof.RVal

end
-- ==== Proof.RefFold.lean ====
/- The reference program as one loop of eight trips: its operations before the loop, in one trip and after it, and
   the theorem that every execution ends with each buffer at what those operations leave (`run_fold`). -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 23 host operations of @main, in order. -/
abbrev hostOps0 : List (HloOp τ sig (Elt F)) :=
  [ StableHlo.unary main_arg0 main_v0 ((transpose S8x128x128x96 [0, 2, 3, 1] · transposes_S8x96x128x128_S8x128x128x96_0_2_3_1) : (⟨S8x96x128x128, .f32⟩ : BufTy).Contents (Elt F) → (⟨S8x128x128x96, .f32⟩ : BufTy).Contents (Elt F)),
    StableHlo.reshape main_v0 main_v1 (rfl : (.f32 : EltTy) = .f32) shapeCasts_S8x128x128x96_S8x16384x96,
    StableHlo.nullary main_v2 (iotaInDim S8 32 0),
    StableHlo.unary main_v2 main_v3 (broadcastInDim S8x1 ![0] bcast_S8_S8x1_0 : (⟨S8, .i32⟩ : BufTy).Contents (Elt F) → (⟨S8x1, .i32⟩ : BufTy).Contents (Elt F)),
    StableHlo.nullary main_c (constantI S_ 32 8192#32),
    StableHlo.unary main_c main_v4 (broadcastInDim S8x1 ![] bcast_S_S8x1 : (⟨S_, .i32⟩ : BufTy).Contents (Elt F) → (⟨S8x1, .i32⟩ : BufTy).Contents (Elt F)),
    StableHlo.nullary main_cst (constant S_ .f32 0x3F800000#32),
    StableHlo.unary main_cst main_v5 (broadcastInDim S8x16384 ![] bcast_S_S8x16384 : (⟨S_, .f32⟩ : BufTy).Contents (Elt F) → (⟨S8x16384, .f32⟩ : BufTy).Contents (Elt F)),
    StableHlo.nullary main_cst_0 (constant S_ .f32 0x00000000#32),
    StableHlo.unary main_cst_0 main_v6 (broadcastInDim S8x16384 ![] bcast_S_S8x16384 : (⟨S_, .f32⟩ : BufTy).Contents (Elt F) → (⟨S8x16384, .f32⟩ : BufTy).Contents (Elt F)),
    StableHlo.nullary main_cst_1 (constant S_ .f32 0x00000000#32),
    StableHlo.unary main_cst_1 main_v7 (broadcastInDim S8x8x96 ![] bcast_S_S8x8x96 : (⟨S_, .f32⟩ : BufTy).Contents (Elt F) → (⟨S8x8x96, .f32⟩ : BufTy).Contents (Elt F)),
    StableHlo.nullary main_cst_2 (constant S_ .f32 0x00000000#32),
    StableHlo.unary main_cst_2 main_v8 (broadcastInDim S8x8x16384 ![] bcast_S_S8x8x16384 : (⟨S_, .f32⟩ : BufTy).Contents (Elt F) → (⟨S8x8x16384, .f32⟩ : BufTy).Contents (Elt F)),
    StableHlo.nullary main_c_3 (constantI S_ 32 0#32),
    StableHlo.unary main_v3 main_v9_0 id,
    StableHlo.unary main_v1 main_v9_1 id,
    StableHlo.unary main_c_3 main_v9_2 id,
    StableHlo.unary main_v4 main_v9_3 id,
    StableHlo.unary main_v5 main_v9_4 id,
    StableHlo.unary main_v6 main_v9_5 id,
    StableHlo.unary main_v7 main_v9_6 id,
    StableHlo.unary main_v8 main_v9_7 id ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 4 host operations of @main, in order. -/
abbrev hostOps0_1 : List (HloOp τ sig (Elt F)) :=
  [ StableHlo.unary main_v9_6 main_v10 ((transpose S8x8x96 [1, 0, 2] · transposes_S8x8x96_S8x8x96_1_0_2) : (⟨S8x8x96, .f32⟩ : BufTy).Contents (Elt F) → (⟨S8x8x96, .f32⟩ : BufTy).Contents (Elt F)),
    StableHlo.unary main_v9_7 main_v11 ((transpose S8x8x16384 [1, 0, 2] · transposes_S8x8x16384_S8x8x16384_1_0_2) : (⟨S8x8x16384, .f32⟩ : BufTy).Contents (Elt F) → (⟨S8x8x16384, .f32⟩ : BufTy).Contents (Elt F)),
    StableHlo.reshape main_v11 main_v12 (rfl : (.f32 : EltTy) = .f32) shapeCasts_S8x8x16384_S8x8x128x128,
    StableHlo.reshape main_v9_5 main_v13 (rfl : (.f32 : EltTy) = .f32) shapeCasts_S8x16384_S8x1x128x128 ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.unary_bufs_sub .., StableHlo.unary_bufs_sub .., StableHlo.reshape_bufs_sub .., StableHlo.reshape_bufs_sub ..⟩
/-- `main` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem main_chain (c : Dev nD) : main (F := F) c = (Pipeline.chain
  [ StableHlo.seq hostOps0,
    HostLoop.enter 0,
    StableHlo.seq hostOps0_1 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

-- no `main_segs` (the loop-free kit's `Seg.run` equation) for this @main: it has a host loop; a certificate takes `main_chain` (Lib/Pipeline/RegionsLoop.lean)

/-- 63 host operations of host loop 0's body region, in order. -/
abbrev while0Ops0 : List (HloOp τ sig (Elt F)) :=
  ( StableHlo.nullary main_while0b_c_11 (constantI S_ 32 0#32)
  :: StableHlo.unary main_while0b_c_11 main_while0b_v14 (broadcastInDim S8x1 ![] bcast_S_S8x1 : (⟨S_, .i32⟩ : BufTy).Contents (Elt F) → (⟨S8x1, .i32⟩ : BufTy).Contents (Elt F))
  :: StableHlo.binary main_v9_0 main_while0b_v14 main_while0b_v15 (cmpi .slt : (⟨S8x1, .i32⟩ : BufTy).Contents (Elt F) → (⟨S8x1, .i32⟩ : BufTy).Contents (Elt F) → (⟨S8x1, .i1⟩ : BufTy).Contents (Elt F))
  :: StableHlo.nullary main_while0b_c_12 (constantI S_ 32 8#32)
  :: StableHlo.unary main_while0b_c_12 main_while0b_v16 (broadcastInDim S8x1 ![] bcast_S_S8x1 : (⟨S_, .i32⟩ : BufTy).Contents (Elt F) → (⟨S8x1, .i32⟩ : BufTy).Contents (Elt F))
  :: StableHlo.binary main_v9_0 main_while0b_v16 main_while0b_v17 (addi : (⟨S8x1, .i32⟩ : BufTy).Contents (Elt F) → (⟨S8x1, .i32⟩ : BufTy).Contents (Elt F) → (⟨S8x1, .i32⟩ : BufTy).Contents (Elt F))
  :: StableHlo.ternary main_while0b_v15 main_while0b_v17 main_v9_0 main_while0b_v18 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F))
  :: StableHlo.nullary main_while0b_c_13 (constantI S_ 32 0#32)
  :: StableHlo.unary main_while0b_c_13 main_while0b_v19 (broadcastInDim S8x1 ![] bcast_S_S8x1 : (⟨S_, .i32⟩ : BufTy).Contents (Elt F) → (⟨S8x1, .i32⟩ : BufTy).Contents (Elt F))
  :: StableHlo.binary main_v9_3 main_while0b_v19 main_while0b_v20 (cmpi .slt : (⟨S8x1, .i32⟩ : BufTy).Contents (Elt F) → (⟨S8x1, .i32⟩ : BufTy).Contents (Elt F) → (⟨S8x1, .i1⟩ : BufTy).Contents (Elt F))
  :: StableHlo.nullary main_while0b_c_14 (constantI S_ 32 16384#32)
  :: StableHlo.unary main_while0b_c_14 main_while0b_v21 (broadcastInDim S8x1 ![] bcast_S_S8x1 : (⟨S_, .i32⟩ : BufTy).Contents (Elt F) → (⟨S8x1, .i32⟩ : BufTy).Contents (Elt F))
  :: StableHlo.binary main_v9_3 main_while0b_v21 main_while0b_v22 (addi : (⟨S8x1, .i32⟩ : BufTy).Contents (Elt F) → (⟨S8x1, .i32⟩ : BufTy).Contents (Elt F) → (⟨S8x1, .i32⟩ : BufTy).Contents (Elt F))
  :: StableHlo.ternary main_while0b_v20 main_while0b_v22 main_v9_3 main_while0b_v23 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F))
  :: StableHlo.unary main_while0b_v18 main_while0b_v24 (broadcastInDim S8x1x1 ![0, 1] bcast_S8x1_S8x1x1_0_1 : (⟨S8x1, .i32⟩ : BufTy).Contents (Elt F) → (⟨S8x1x1, .i32⟩ : BufTy).Contents (Elt F))
  :: StableHlo.unary main_while0b_v23 main_while0b_v25 (broadcastInDim S8x1x1 ![0, 1] bcast_S8x1_S8x1x1_0_1 : (⟨S8x1, .i32⟩ : BufTy).Contents (Elt F) → (⟨S8x1x1, .i32⟩ : BufTy).Contents (Elt F))
  :: StableHlo.binary main_while0b_v24 main_while0b_v25 main_while0b_v26 ((fun a b => concatenate S8x1x2 2 [⟨S8x1x1, a⟩, ⟨S8x1x1, b⟩] concatenates_S8x1x1_S8x1x1_S8x1x2_d2) : (⟨S8x1x1, .i32⟩ : BufTy).Contents (Elt F) → (⟨S8x1x1, .i32⟩ : BufTy).Contents (Elt F) → (⟨S8x1x2, .i32⟩ : BufTy).Contents (Elt F))
  :: StableHlo.binary main_v9_1 main_while0b_v26 main_while0b_v27 ((fun x i => Host.gather gather_S8x16384x96_S8x1x2_S8x1x96_2_01_n_n_01_2_1196 x i) : (⟨S8x16384x96, .f32⟩ : BufTy).Contents (Elt F) → (⟨S8x1x2, .i32⟩ : BufTy).Contents (Elt F) → (⟨S8x1x96, .f32⟩ : BufTy).Contents (Elt F))
  :: StableHlo.nullary main_while0b_c_15 (constantI S_ 32 0#32)
  :: StableHlo.unary main_while0b_c_15 main_while0b_v28 (broadcastInDim S8x1 ![] bcast_S_S8x1 : (⟨S_, .i32⟩ : BufTy).Contents (Elt F) → (⟨S8x1, .i32⟩ : BufTy).Contents (Elt F))
  :: StableHlo.binary main_v9_0 main_while0b_v28 main_while0b_v29 (cmpi .slt : (⟨S8x1, .i32⟩ : BufTy).Contents (Elt F) → (⟨S8x1, .i32⟩ : BufTy).Contents (Elt F) → (⟨S8x1, .i1⟩ : BufTy).Contents (Elt F))
  :: StableHlo.nullary main_while0b_c_16 (constantI S_ 32 8#32)
  :: StableHlo.unary main_while0b_c_16 main_while0b_v30 (broadcastInDim S8x1 ![] bcast_S_S8x1 : (⟨S_, .i32⟩ : BufTy).Contents (Elt F) → (⟨S8x1, .i32⟩ : BufTy).Contents (Elt F))
  :: StableHlo.binary main_v9_0 main_while0b_v30 main_while0b_v31 (addi : (⟨S8x1, .i32⟩ : BufTy).Contents (Elt F) → (⟨S8x1, .i32⟩ : BufTy).Contents (Elt F) → (⟨S8x1, .i32⟩ : BufTy).Contents (Elt F))
  :: StableHlo.ternary main_while0b_v29 main_while0b_v31 main_v9_0 main_while0b_v32 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F))
  :: StableHlo.nullary main_while0b_c_17 (constantI S_ 32 0#32)
  :: StableHlo.unary main_while0b_c_17 main_while0b_v33 (broadcastInDim S8x1 ![] bcast_S_S8x1 : (⟨S_, .i32⟩ : BufTy).Contents (Elt F) → (⟨S8x1, .i32⟩ : BufTy).Contents (Elt F))
  :: StableHlo.binary main_v9_3 main_while0b_v33 main_while0b_v34 (cmpi .slt : (⟨S8x1, .i32⟩ : BufTy).Contents (Elt F) → (⟨S8x1, .i32⟩ : BufTy).Contents (Elt F) → (⟨S8x1, .i1⟩ : BufTy).Contents (Elt F))
  :: StableHlo.nullary main_while0b_c_18 (constantI S_ 32 16384#32)
  :: StableHlo.unary main_while0b_c_18 main_while0b_v35 (broadcastInDim S8x1 ![] bcast_S_S8x1 : (⟨S_, .i32⟩ : BufTy).Contents (Elt F) → (⟨S8x1, .i32⟩ : BufTy).Contents (Elt F))
  :: StableHlo.binary main_v9_3 main_while0b_v35 main_while0b_v36 (addi : (⟨S8x1, .i32⟩ : BufTy).Contents (Elt F) → (⟨S8x1, .i32⟩ : BufTy).Contents (Elt F) → (⟨S8x1, .i32⟩ : BufTy).Contents (Elt F))
  :: StableHlo.ternary main_while0b_v34 main_while0b_v36 main_v9_3 main_while0b_v37 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F))
  :: StableHlo.unary main_while0b_v32 main_while0b_v38 (broadcastInDim S8x1x1 ![0, 1] bcast_S8x1_S8x1x1_0_1 : (⟨S8x1, .i32⟩ : BufTy).Contents (Elt F) → (⟨S8x1x1, .i32⟩ : BufTy).Contents (Elt F))
  :: StableHlo.unary main_while0b_v37 main_while0b_v39 (broadcastInDim S8x1x1 ![0, 1] bcast_S8x1_S8x1x1_0_1 : (⟨S8x1, .i32⟩ : BufTy).Contents (Elt F) → (⟨S8x1x1, .i32⟩ : BufTy).Contents (Elt F))
  :: StableHlo.binary main_while0b_v38 main_while0b_v39 main_while0b_v40 ((fun a b => concatenate S8x1x2 2 [⟨S8x1x1, a⟩, ⟨S8x1x1, b⟩] concatenates_S8x1x1_S8x1x1_S8x1x2_d2) : (⟨S8x1x1, .i32⟩ : BufTy).Contents (Elt F) → (⟨S8x1x1, .i32⟩ : BufTy).Contents (Elt F) → (⟨S8x1x2, .i32⟩ : BufTy).Contents (Elt F))
  :: StableHlo.nullary main_while0b_cst_19 (constant S_ .f32 0x3F800000#32)
  :: StableHlo.unary main_while0b_cst_19 main_while0b_v41 (broadcastInDim S8x1 ![] bcast_S_S8x1 : (⟨S_, .f32⟩ : BufTy).Contents (Elt F) → (⟨S8x1, .f32⟩ : BufTy).Contents (Elt F))
  :: StableHlo.ternary main_v9_5 main_while0b_v40 main_while0b_v41 main_while0b_v42 ((fun x i u => Host.scatterAdd scatter_S8x16384_S8x1x2_S8x1_n_01_01_2 x i u) : (⟨S8x16384, .f32⟩ : BufTy).Contents (Elt F) → (⟨S8x1x2, .i32⟩ : BufTy).Contents (Elt F) → (⟨S8x1, .f32⟩ : BufTy).Contents (Elt F) → (⟨S8x16384, .f32⟩ : BufTy).Contents (Elt F))
  :: StableHlo.unary main_while0b_v27 main_while0b_v43 (broadcastInDim S8x16384x96 ![0, 1, 2] bcast_S8x1x96_S8x16384x96_0_1_2 : (⟨S8x1x96, .f32⟩ : BufTy).Contents (Elt F) → (⟨S8x16384x96, .f32⟩ : BufTy).Contents (Elt F))
  :: StableHlo.binary main_v9_1 main_while0b_v43 main_while0b_v44 (subf : (⟨S8x16384x96, .f32⟩ : BufTy).Contents (Elt F) → (⟨S8x16384x96, .f32⟩ : BufTy).Contents (Elt F) → (⟨S8x16384x96, .f32⟩ : BufTy).Contents (Elt F))
  :: StableHlo.binary main_while0b_v44 main_while0b_v44 main_while0b_v45 (mulf : (⟨S8x16384x96, .f32⟩ : BufTy).Contents (Elt F) → (⟨S8x16384x96, .f32⟩ : BufTy).Contents (Elt F) → (⟨S8x16384x96, .f32⟩ : BufTy).Contents (Elt F))
  :: StableHlo.nullary main_while0b_cst_20 (constant S_ .f32 0x00000000#32)
  :: StableHlo.binary main_while0b_v45 main_while0b_cst_20 main_while0b_v46 ((fun x v => Host.reduceAdd x v reducesTo_S8x16384x96_S8x16384_d2 h_S_) : (⟨S8x16384x96, .f32⟩ : BufTy).Contents (Elt F) → (⟨S_, .f32⟩ : BufTy).Contents (Elt F) → (⟨S8x16384, .f32⟩ : BufTy).Contents (Elt F))
  :: StableHlo.unary main_while0b_v46 main_while0b_v47 (Host.sqrt : (⟨S8x16384, .f32⟩ : BufTy).Contents (Elt F) → (⟨S8x16384, .f32⟩ : BufTy).Contents (Elt F))
  :: StableHlo.unary main_while0b_v47 main_while0b_v48 (Host.negf : (⟨S8x16384, .f32⟩ : BufTy).Contents (Elt F) → (⟨S8x16384, .f32⟩ : BufTy).Contents (Elt F))
  :: StableHlo.nullary main_while0b_cst_21 (constant S_ .f32 0x41A00000#32)
  :: StableHlo.unary main_while0b_cst_21 main_while0b_v49 (broadcastInDim S8x16384 ![] bcast_S_S8x16384 : (⟨S_, .f32⟩ : BufTy).Contents (Elt F) → (⟨S8x16384, .f32⟩ : BufTy).Contents (Elt F))
  :: StableHlo.binary main_while0b_v48 main_while0b_v49 main_while0b_v50 (Host.divf : (⟨S8x16384, .f32⟩ : BufTy).Contents (Elt F) → (⟨S8x16384, .f32⟩ : BufTy).Contents (Elt F) → (⟨S8x16384, .f32⟩ : BufTy).Contents (Elt F))
  :: StableHlo.unary main_while0b_v50 main_while0b_v51 (Host.exp : (⟨S8x16384, .f32⟩ : BufTy).Contents (Elt F) → (⟨S8x16384, .f32⟩ : BufTy).Contents (Elt F))
  :: StableHlo.nullary main_while0b_cst_22 (constant S_ .f32 0x00000000#32)
  :: StableHlo.binary main_while0b_v51 main_while0b_cst_22 main_while0b_v52 ((fun x v => Host.reduceAdd x v reducesTo_S8x16384_S8_d1 h_S_) : (⟨S8x16384, .f32⟩ : BufTy).Contents (Elt F) → (⟨S_, .f32⟩ : BufTy).Contents (Elt F) → (⟨S8, .f32⟩ : BufTy).Contents (Elt F))
  :: StableHlo.unary main_while0b_v52 main_while0b_v53 (broadcastInDim S8x1 ![0] bcast_S8_S8x1_0 : (⟨S8, .f32⟩ : BufTy).Contents (Elt F) → (⟨S8x1, .f32⟩ : BufTy).Contents (Elt F))
  :: StableHlo.unary main_while0b_v53 main_while0b_v54 (broadcastInDim S8x16384 ![0, 1] bcast_S8x1_S8x16384_0_1 : (⟨S8x1, .f32⟩ : BufTy).Contents (Elt F) → (⟨S8x16384, .f32⟩ : BufTy).Contents (Elt F))
  :: StableHlo.binary main_while0b_v51 main_while0b_v54 main_while0b_v55 (Host.divf : (⟨S8x16384, .f32⟩ : BufTy).Contents (Elt F) → (⟨S8x16384, .f32⟩ : BufTy).Contents (Elt F) → (⟨S8x16384, .f32⟩ : BufTy).Contents (Elt F))
  :: StableHlo.unary main_while0b_v55 main_while0b_v56 (broadcastInDim S8x16384x1 ![0, 1] bcast_S8x16384_S8x16384x1_0_1 : (⟨S8x16384, .f32⟩ : BufTy).Contents (Elt F) → (⟨S8x16384x1, .f32⟩ : BufTy).Contents (Elt F))
  :: StableHlo.unary main_while0b_v56 main_while0b_v57 (broadcastInDim S8x16384x96 ![0, 1, 2] bcast_S8x16384x1_S8x16384x96_0_1_2 : (⟨S8x16384x1, .f32⟩ : BufTy).Contents (Elt F) → (⟨S8x16384x96, .f32⟩ : BufTy).Contents (Elt F))
  :: StableHlo.binary main_v9_1 main_while0b_v57 main_while0b_v58 (mulf : (⟨S8x16384x96, .f32⟩ : BufTy).Contents (Elt F) → (⟨S8x16384x96, .f32⟩ : BufTy).Contents (Elt F) → (⟨S8x16384x96, .f32⟩ : BufTy).Contents (Elt F))
  :: StableHlo.nullary main_while0b_cst_23 (constant S_ .f32 0x00000000#32)
  :: StableHlo.binary main_while0b_v58 main_while0b_cst_23 main_while0b_v59 ((fun x v => Host.reduceAdd x v reducesTo_S8x16384x96_S8x96_d1 h_S_) : (⟨S8x16384x96, .f32⟩ : BufTy).Contents (Elt F) → (⟨S_, .f32⟩ : BufTy).Contents (Elt F) → (⟨S8x96, .f32⟩ : BufTy).Contents (Elt F))
  :: StableHlo.nullary main_while0b_cst_24 (constant S_ .f32 0x3F800000#32)
  :: StableHlo.unary main_while0b_cst_24 main_while0b_v60 (broadcastInDim S8x16384 ![] bcast_S_S8x16384 : (⟨S_, .f32⟩ : BufTy).Contents (Elt F) → (⟨S8x16384, .f32⟩ : BufTy).Contents (Elt F))
  :: StableHlo.binary main_while0b_v60 main_while0b_v51 main_while0b_v61 (subf : (⟨S8x16384, .f32⟩ : BufTy).Contents (Elt F) → (⟨S8x16384, .f32⟩ : BufTy).Contents (Elt F) → (⟨S8x16384, .f32⟩ : BufTy).Contents (Elt F))
  :: StableHlo.binary main_while0b_v61 main_v9_4 main_while0b_v62 (mulf : (⟨S8x16384, .f32⟩ : BufTy).Contents (Elt F) → (⟨S8x16384, .f32⟩ : BufTy).Contents (Elt F) → (⟨S8x16384, .f32⟩ : BufTy).Contents (Elt F))
  :: [] )
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.nullary_bufs_sub .., StableHlo.unary_bufs_sub .., StableHlo.ternary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub ..⟩
/-- 5 host operations of @argmax (main_while0b_call0), in order. -/
abbrev while0Ops0_1 : List (HloOp τ sig (Elt F)) :=
  [ StableHlo.TRef.nullary (.of main_while0b_call0_v0 : StableHlo.TRef sig ⟨S8x16384, .i32⟩) (iotaInDim S8x16384 32 1),
    StableHlo.TRef.nullary (.of main_while0b_call0_cst : StableHlo.TRef sig ⟨S_, .f32⟩) (constant S_ .f32 0xFF800000#32),
    StableHlo.TRef.nullary (.of main_while0b_call0_c : StableHlo.TRef sig ⟨S_, .i32⟩) (constantI S_ 32 0#32),
    StableHlo.TRef.quaternary (.of main_while0b_v62 : StableHlo.TRef sig ⟨S8x16384, .f32⟩) (.of main_while0b_call0_v0 : StableHlo.TRef sig ⟨S8x16384, .i32⟩) (.of main_while0b_call0_cst : StableHlo.TRef sig ⟨S_, .f32⟩) (.of main_while0b_call0_c : StableHlo.TRef sig ⟨S_, .i32⟩) (.of main_while0b_call0_v1_0 : StableHlo.TRef sig ⟨S8, .f32⟩) (fun x y u v j => (Host.argReduce reducer_argmax_f32_i32 x y u v reducesTo_S8x16384_S8_d1 h_S_ j).1),
    StableHlo.TRef.quaternary (.of main_while0b_v62 : StableHlo.TRef sig ⟨S8x16384, .f32⟩) (.of main_while0b_call0_v0 : StableHlo.TRef sig ⟨S8x16384, .i32⟩) (.of main_while0b_call0_cst : StableHlo.TRef sig ⟨S_, .f32⟩) (.of main_while0b_call0_c : StableHlo.TRef sig ⟨S_, .i32⟩) (.of main_while0b_v63 : StableHlo.TRef sig ⟨S8, .i32⟩) (fun x y u v j => (Host.argReduce reducer_argmax_f32_i32 x y u v reducesTo_S8x16384_S8_d1 h_S_ j).2) ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 1 host operation of host loop 0's body region, in order. -/
abbrev while0Ops0_2 : List (HloOp τ sig (Elt F)) :=
  [ StableHlo.unary main_while0b_v63 main_while0b_v64 (broadcastInDim S8x1 ![0] bcast_S8_S8x1_0 : (⟨S8, .i32⟩ : BufTy).Contents (Elt F) → (⟨S8x1, .i32⟩ : BufTy).Contents (Elt F)) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  StableHlo.unary_bufs_sub ..
/-- 4 host operations of @dynamic_update_index_in_dim (main_while0b_call1), in order. -/
abbrev while0Ops0_3 : List (HloOp τ sig (Elt F)) :=
  [ StableHlo.TRef.unary (.of main_while0b_v59 : StableHlo.TRef sig ⟨S8x96, .f32⟩) (.of main_while0b_call1_v0 : StableHlo.TRef sig ⟨S1x8x96, .f32⟩) (broadcastInDim S1x8x96 ![1, 2] bcast_S8x96_S1x8x96_1_2),
    StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.binaryIndexed (.of main_v9_6 : StableHlo.TRef sig ⟨S8x8x96, .f32⟩) (.of main_while0b_call1_v0 : StableHlo.TRef sig ⟨S1x8x96, .f32⟩) ![(.of main_v9_2 : StableHlo.TRef sig ⟨S_, .i32⟩), (.of main_while0b_call1_c : StableHlo.TRef sig ⟨S_, .i32⟩), (.of main_while0b_call1_c_0 : StableHlo.TRef sig ⟨S_, .i32⟩)] (.of main_while0b_v65 : StableHlo.TRef sig ⟨S8x8x96, .f32⟩) (fun x u i => Host.dynamicUpdateSlice x u (fun k => (i k (Shape.Idx.first h_S_)).toInt) updateFits_S8x8x96_S1x8x96) ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 4 host operations of @dynamic_update_index_in_dim_0 (main_while0b_call2), in order. -/
abbrev while0Ops0_4 : List (HloOp τ sig (Elt F)) :=
  [ StableHlo.TRef.unary (.of main_while0b_v51 : StableHlo.TRef sig ⟨S8x16384, .f32⟩) (.of main_while0b_call2_v0 : StableHlo.TRef sig ⟨S1x8x16384, .f32⟩) (broadcastInDim S1x8x16384 ![1, 2] bcast_S8x16384_S1x8x16384_1_2),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.binaryIndexed (.of main_v9_7 : StableHlo.TRef sig ⟨S8x8x16384, .f32⟩) (.of main_while0b_call2_v0 : StableHlo.TRef sig ⟨S1x8x16384, .f32⟩) ![(.of main_v9_2 : StableHlo.TRef sig ⟨S_, .i32⟩), (.of main_while0b_call2_c : StableHlo.TRef sig ⟨S_, .i32⟩), (.of main_while0b_call2_c_0 : StableHlo.TRef sig ⟨S_, .i32⟩)] (.of main_while0b_v66 : StableHlo.TRef sig ⟨S8x8x16384, .f32⟩) (fun x u i => Host.dynamicUpdateSlice x u (fun k => (i k (Shape.Idx.first h_S_)).toInt) updateFits_S8x8x16384_S1x8x16384) ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 8 host operations of host loop 0's body region, in order. -/
abbrev while0Ops0_5 : List (HloOp τ sig (Elt F)) :=
  [ StableHlo.nullary main_while0b_c_25 (constantI S_ 32 1#32),
    StableHlo.binary main_v9_2 main_while0b_c_25 main_while0b_v67 (addi : (⟨S_, .i32⟩ : BufTy).Contents (Elt F) → (⟨S_, .i32⟩ : BufTy).Contents (Elt F) → (⟨S_, .i32⟩ : BufTy).Contents (Elt F)),
    StableHlo.unary main_while0b_v67 main_v9_2 id,
    StableHlo.unary main_while0b_v64 main_v9_3 id,
    StableHlo.unary main_while0b_v62 main_v9_4 id,
    StableHlo.unary main_while0b_v42 main_v9_5 id,
    StableHlo.unary main_while0b_v65 main_v9_6 id,
    StableHlo.unary main_while0b_v66 main_v9_7 id ]
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, Pipeline.chain_cons, StableHlo.chain_seq_cons]
  chain_rfl

end Cert.ReferenceIdeal.Gen

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_v2, main_v3, main_c, main_v4, main_cst, main_v5, main_cst_0, main_v6, main_cst_1, main_v7, main_cst_2, main_v8, main_c_3, main_v9_0, main_v9_1, main_v9_2, main_v9_3, main_v9_4, main_v9_5, main_v9_6, main_v9_7]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_c_11, main_while0b_v14, main_while0b_v15, main_while0b_c_12, main_while0b_v16, main_while0b_v17, main_while0b_v18, main_while0b_c_13, main_while0b_v19, main_while0b_v20, main_while0b_c_14, main_while0b_v21, main_while0b_v22, main_while0b_v23, main_while0b_v24, main_while0b_v25, main_while0b_v26, main_while0b_v27, main_while0b_c_15, main_while0b_v28, main_while0b_v29, main_while0b_c_16, main_while0b_v30, main_while0b_v31, main_while0b_v32, main_while0b_c_17, main_while0b_v33, main_while0b_v34, main_while0b_c_18, main_while0b_v35, main_while0b_v36, main_while0b_v37, main_while0b_v38, main_while0b_v39, main_while0b_v40, main_while0b_cst_19, main_while0b_v41, main_while0b_v42, main_while0b_v43, main_while0b_v44, main_while0b_v45, main_while0b_cst_20, main_while0b_v46, main_while0b_v47, main_while0b_v48, main_while0b_cst_21, main_while0b_v49, main_while0b_v50, main_while0b_v51, main_while0b_cst_22, main_while0b_v52, main_while0b_v53, main_while0b_v54, main_while0b_v55, main_while0b_v56, main_while0b_v57, main_while0b_v58, main_while0b_cst_23, main_while0b_v59, main_while0b_cst_24, main_while0b_v60, main_while0b_v61, main_while0b_v62]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call0_v0, main_while0b_call0_cst, main_while0b_call0_c, main_while0b_call0_v1_0, main_while0b_v63]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_v64]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_call1_v0, main_while0b_call1_c, main_while0b_call1_c_0, main_while0b_v65]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_call2_v0, main_while0b_call2_c, main_while0b_call2_c_0, main_while0b_v66]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_c_25, main_while0b_v67, main_v9_2, main_v9_3, main_v9_4, main_v9_5, main_v9_6, main_v9_7]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_v10, main_v11, main_v12, main_v13]
theorem hostOps0_1_writes : (hostOps0_1 : List (HloOp τ sig (Elt F))).Forall fun op => op.writes ⊆ (hostOps0_1_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_11 (constantI S_ 32 8#32),
    StableHlo.binary main_v9_2 main_while0c_c_11 main_while0c_v14 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0Ops0_3, while0Ops0_4, while0Ops0_5]
abbrev postI : List (List (HloOp τ sig (Elt F))) := [hostOps0_1]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.nil))))))
theorem hpost : Plain (postI (F := F)) := .cons hostOps0_1_sub (hf := List.forall_iff_forall_mem.mp hostOps0_1_fresh) (.nil)

/-- The reference each operation of `condOps` writes, in order. -/
abbrev condOps_W : List (Ref sig .tc) := [main_while0c_c_11, main_while0c_v14]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v9_2`) is written by one stretch of the body, `while0Ops0_5`: not by the condition, nor by the
    body's other stretches. -/
theorem ctr_cond (V : Valuation τ sig (Elt F)) : after condOps V (Proc.devRef .tc main_v9_2) = V (Proc.devRef .tc main_v9_2) :=
  after_of_writes_sub condOps V condOps_writes (by decide +kernel)
theorem ctr_while0Ops0 (V : Valuation τ sig (Elt F)) : after while0Ops0 V (Proc.devRef .tc main_v9_2) = V (Proc.devRef .tc main_v9_2) :=
  after_of_writes_sub while0Ops0 V while0Ops0_writes (by decide +kernel)
theorem ctr_while0Ops0_1 (V : Valuation τ sig (Elt F)) : after while0Ops0_1 V (Proc.devRef .tc main_v9_2) = V (Proc.devRef .tc main_v9_2) :=
  after_of_writes_sub while0Ops0_1 V while0Ops0_1_writes (by decide +kernel)
theorem ctr_while0Ops0_2 (V : Valuation τ sig (Elt F)) : after while0Ops0_2 V (Proc.devRef .tc main_v9_2) = V (Proc.devRef .tc main_v9_2) :=
  after_of_writes_sub while0Ops0_2 V while0Ops0_2_writes (by decide +kernel)
theorem ctr_while0Ops0_3 (V : Valuation τ sig (Elt F)) : after while0Ops0_3 V (Proc.devRef .tc main_v9_2) = V (Proc.devRef .tc main_v9_2) :=
  after_of_writes_sub while0Ops0_3 V while0Ops0_3_writes (by decide +kernel)
theorem ctr_while0Ops0_4 (V : Valuation τ sig (Elt F)) : after while0Ops0_4 V (Proc.devRef .tc main_v9_2) = V (Proc.devRef .tc main_v9_2) :=
  after_of_writes_sub while0Ops0_4 V while0Ops0_4_writes (by decide +kernel)

set_option maxRecDepth 100000 in
/-- `while0Ops0_5` leaves the counter one step on. -/
theorem ctr_step (X : Valuation τ sig (Elt F)) :
    after while0Ops0_5 X (Proc.devRef .tc main_v9_2) = addi (X (Proc.devRef .tc main_v9_2)) (constantI S_ 32 1#32) := by
  after_results
  rfl

/-- The counter is the loop's lower bound at the loop's entry: its last writer before the loop read back. -/
theorem ctr_entry (c : Dev nD) : entryContents preI m c (Proc.devRef .tc main_v9_2) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v9_2) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 8 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v9_2 HostLoop.idx0)
        (HloOp.result _ (atK m k c) main_while0c_c_11 HostLoop.idx0) = 1#1) (k < 8)
    rw [nullary_result_ne _ _ _ _ (by decide), nullary_result, hctr]
    exact Scf.cmpi_slt_iv_ub_iff (lb := 0#32) (ub := 8#32) (st := 1#32) (by decide) (show k ≤ Scf.trips 0#32 8#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 8 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 8 m ρ (cond_spec m)

end Cert.ReferenceIdeal.Value

end
-- ==== Proof.RefTrip.lean ====
/- The values that one trip of the reference loop leaves in its carried buffers, read one after the other, and the
   run of the whole reference as eight applications of the step `STEP` (`run`). -/
module

public import proofs.«01_k».proof.Proof.RefFold

@[expose] public section

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

variable (m : (ℓ : Loc nD τ sig) → Buf (Elt F) ℓ) (ρ : Dev nD → PrngReg)

/-! ## One trip's values -/

/-- The function of the body's operation that writes `main_while0b_v26`, named. It packs its operands into a list of dependent pairs
    whose shapes a later argument's type mentions, so `simp` cannot rewrite an operand where it stands; applied by
    name, the operands are plain arguments, which the window lemmas below rewrite before the name unfolds. -/
def fn_main_while0b_v26 : (⟨S8x1x1, .i32⟩ : BufTy).Contents (Elt F) → (⟨S8x1x1, .i32⟩ : BufTy).Contents (Elt F) → (⟨S8x1x2, .i32⟩ : BufTy).Contents (Elt F) :=
  (fun a b => concatenate S8x1x2 2 [⟨S8x1x1, a⟩, ⟨S8x1x1, b⟩] concatenates_S8x1x1_S8x1x1_S8x1x2_d2)

/-- The function of the body's operation that writes `main_while0b_v40`, named. It packs its operands into a list of dependent pairs
    whose shapes a later argument's type mentions, so `simp` cannot rewrite an operand where it stands; applied by
    name, the operands are plain arguments, which the window lemmas below rewrite before the name unfolds. -/
def fn_main_while0b_v40 : (⟨S8x1x1, .i32⟩ : BufTy).Contents (Elt F) → (⟨S8x1x1, .i32⟩ : BufTy).Contents (Elt F) → (⟨S8x1x2, .i32⟩ : BufTy).Contents (Elt F) :=
  (fun a b => concatenate S8x1x2 2 [⟨S8x1x1, a⟩, ⟨S8x1x1, b⟩] concatenates_S8x1x1_S8x1x1_S8x1x2_d2)

/-- The body's operations 1 … 24 of 85. -/
abbrev trip_w0 : List (HloOp τ sig (Elt F)) :=
  [ StableHlo.nullary main_while0b_c_11 (constantI S_ 32 0#32),
    StableHlo.unary main_while0b_c_11 main_while0b_v14 (broadcastInDim S8x1 ![] bcast_S_S8x1 : (⟨S_, .i32⟩ : BufTy).Contents (Elt F) → (⟨S8x1, .i32⟩ : BufTy).Contents (Elt F)),
    StableHlo.binary main_v9_0 main_while0b_v14 main_while0b_v15 (cmpi .slt : (⟨S8x1, .i32⟩ : BufTy).Contents (Elt F) → (⟨S8x1, .i32⟩ : BufTy).Contents (Elt F) → (⟨S8x1, .i1⟩ : BufTy).Contents (Elt F)),
    StableHlo.nullary main_while0b_c_12 (constantI S_ 32 8#32),
    StableHlo.unary main_while0b_c_12 main_while0b_v16 (broadcastInDim S8x1 ![] bcast_S_S8x1 : (⟨S_, .i32⟩ : BufTy).Contents (Elt F) → (⟨S8x1, .i32⟩ : BufTy).Contents (Elt F)),
    StableHlo.binary main_v9_0 main_while0b_v16 main_while0b_v17 (addi : (⟨S8x1, .i32⟩ : BufTy).Contents (Elt F) → (⟨S8x1, .i32⟩ : BufTy).Contents (Elt F) → (⟨S8x1, .i32⟩ : BufTy).Contents (Elt F)),
    StableHlo.ternary main_while0b_v15 main_while0b_v17 main_v9_0 main_while0b_v18 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    StableHlo.nullary main_while0b_c_13 (constantI S_ 32 0#32),
    StableHlo.unary main_while0b_c_13 main_while0b_v19 (broadcastInDim S8x1 ![] bcast_S_S8x1 : (⟨S_, .i32⟩ : BufTy).Contents (Elt F) → (⟨S8x1, .i32⟩ : BufTy).Contents (Elt F)),
    StableHlo.binary main_v9_3 main_while0b_v19 main_while0b_v20 (cmpi .slt : (⟨S8x1, .i32⟩ : BufTy).Contents (Elt F) → (⟨S8x1, .i32⟩ : BufTy).Contents (Elt F) → (⟨S8x1, .i1⟩ : BufTy).Contents (Elt F)),
    StableHlo.nullary main_while0b_c_14 (constantI S_ 32 16384#32),
    StableHlo.unary main_while0b_c_14 main_while0b_v21 (broadcastInDim S8x1 ![] bcast_S_S8x1 : (⟨S_, .i32⟩ : BufTy).Contents (Elt F) → (⟨S8x1, .i32⟩ : BufTy).Contents (Elt F)),
    StableHlo.binary main_v9_3 main_while0b_v21 main_while0b_v22 (addi : (⟨S8x1, .i32⟩ : BufTy).Contents (Elt F) → (⟨S8x1, .i32⟩ : BufTy).Contents (Elt F) → (⟨S8x1, .i32⟩ : BufTy).Contents (Elt F)),
    StableHlo.ternary main_while0b_v20 main_while0b_v22 main_v9_3 main_while0b_v23 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    StableHlo.unary main_while0b_v18 main_while0b_v24 (broadcastInDim S8x1x1 ![0, 1] bcast_S8x1_S8x1x1_0_1 : (⟨S8x1, .i32⟩ : BufTy).Contents (Elt F) → (⟨S8x1x1, .i32⟩ : BufTy).Contents (Elt F)),
    StableHlo.unary main_while0b_v23 main_while0b_v25 (broadcastInDim S8x1x1 ![0, 1] bcast_S8x1_S8x1x1_0_1 : (⟨S8x1, .i32⟩ : BufTy).Contents (Elt F) → (⟨S8x1x1, .i32⟩ : BufTy).Contents (Elt F)),
    StableHlo.binary main_while0b_v24 main_while0b_v25 main_while0b_v26 (fn_main_while0b_v26 (F := F)),
    StableHlo.binary main_v9_1 main_while0b_v26 main_while0b_v27 ((fun x i => Host.gather gather_S8x16384x96_S8x1x2_S8x1x96_2_01_n_n_01_2_1196 x i) : (⟨S8x16384x96, .f32⟩ : BufTy).Contents (Elt F) → (⟨S8x1x2, .i32⟩ : BufTy).Contents (Elt F) → (⟨S8x1x96, .f32⟩ : BufTy).Contents (Elt F)),
    StableHlo.nullary main_while0b_c_15 (constantI S_ 32 0#32),
    StableHlo.unary main_while0b_c_15 main_while0b_v28 (broadcastInDim S8x1 ![] bcast_S_S8x1 : (⟨S_, .i32⟩ : BufTy).Contents (Elt F) → (⟨S8x1, .i32⟩ : BufTy).Contents (Elt F)),
    StableHlo.binary main_v9_0 main_while0b_v28 main_while0b_v29 (cmpi .slt : (⟨S8x1, .i32⟩ : BufTy).Contents (Elt F) → (⟨S8x1, .i32⟩ : BufTy).Contents (Elt F) → (⟨S8x1, .i1⟩ : BufTy).Contents (Elt F)),
    StableHlo.nullary main_while0b_c_16 (constantI S_ 32 8#32),
    StableHlo.unary main_while0b_c_16 main_while0b_v30 (broadcastInDim S8x1 ![] bcast_S_S8x1 : (⟨S_, .i32⟩ : BufTy).Contents (Elt F) → (⟨S8x1, .i32⟩ : BufTy).Contents (Elt F)),
    StableHlo.binary main_v9_0 main_while0b_v30 main_while0b_v31 (addi : (⟨S8x1, .i32⟩ : BufTy).Contents (Elt F) → (⟨S8x1, .i32⟩ : BufTy).Contents (Elt F) → (⟨S8x1, .i32⟩ : BufTy).Contents (Elt F)) ]

/-- The body's operations 25 … 48 of 85. -/
abbrev trip_w1 : List (HloOp τ sig (Elt F)) :=
  [ StableHlo.ternary main_while0b_v29 main_while0b_v31 main_v9_0 main_while0b_v32 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    StableHlo.nullary main_while0b_c_17 (constantI S_ 32 0#32),
    StableHlo.unary main_while0b_c_17 main_while0b_v33 (broadcastInDim S8x1 ![] bcast_S_S8x1 : (⟨S_, .i32⟩ : BufTy).Contents (Elt F) → (⟨S8x1, .i32⟩ : BufTy).Contents (Elt F)),
    StableHlo.binary main_v9_3 main_while0b_v33 main_while0b_v34 (cmpi .slt : (⟨S8x1, .i32⟩ : BufTy).Contents (Elt F) → (⟨S8x1, .i32⟩ : BufTy).Contents (Elt F) → (⟨S8x1, .i1⟩ : BufTy).Contents (Elt F)),
    StableHlo.nullary main_while0b_c_18 (constantI S_ 32 16384#32),
    StableHlo.unary main_while0b_c_18 main_while0b_v35 (broadcastInDim S8x1 ![] bcast_S_S8x1 : (⟨S_, .i32⟩ : BufTy).Contents (Elt F) → (⟨S8x1, .i32⟩ : BufTy).Contents (Elt F)),
    StableHlo.binary main_v9_3 main_while0b_v35 main_while0b_v36 (addi : (⟨S8x1, .i32⟩ : BufTy).Contents (Elt F) → (⟨S8x1, .i32⟩ : BufTy).Contents (Elt F) → (⟨S8x1, .i32⟩ : BufTy).Contents (Elt F)),
    StableHlo.ternary main_while0b_v34 main_while0b_v36 main_v9_3 main_while0b_v37 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    StableHlo.unary main_while0b_v32 main_while0b_v38 (broadcastInDim S8x1x1 ![0, 1] bcast_S8x1_S8x1x1_0_1 : (⟨S8x1, .i32⟩ : BufTy).Contents (Elt F) → (⟨S8x1x1, .i32⟩ : BufTy).Contents (Elt F)),
    StableHlo.unary main_while0b_v37 main_while0b_v39 (broadcastInDim S8x1x1 ![0, 1] bcast_S8x1_S8x1x1_0_1 : (⟨S8x1, .i32⟩ : BufTy).Contents (Elt F) → (⟨S8x1x1, .i32⟩ : BufTy).Contents (Elt F)),
    StableHlo.binary main_while0b_v38 main_while0b_v39 main_while0b_v40 (fn_main_while0b_v40 (F := F)),
    StableHlo.nullary main_while0b_cst_19 (constant S_ .f32 0x3F800000#32),
    StableHlo.unary main_while0b_cst_19 main_while0b_v41 (broadcastInDim S8x1 ![] bcast_S_S8x1 : (⟨S_, .f32⟩ : BufTy).Contents (Elt F) → (⟨S8x1, .f32⟩ : BufTy).Contents (Elt F)),
    StableHlo.ternary main_v9_5 main_while0b_v40 main_while0b_v41 main_while0b_v42 ((fun x i u => Host.scatterAdd scatter_S8x16384_S8x1x2_S8x1_n_01_01_2 x i u) : (⟨S8x16384, .f32⟩ : BufTy).Contents (Elt F) → (⟨S8x1x2, .i32⟩ : BufTy).Contents (Elt F) → (⟨S8x1, .f32⟩ : BufTy).Contents (Elt F) → (⟨S8x16384, .f32⟩ : BufTy).Contents (Elt F)),
    StableHlo.unary main_while0b_v27 main_while0b_v43 (broadcastInDim S8x16384x96 ![0, 1, 2] bcast_S8x1x96_S8x16384x96_0_1_2 : (⟨S8x1x96, .f32⟩ : BufTy).Contents (Elt F) → (⟨S8x16384x96, .f32⟩ : BufTy).Contents (Elt F)),
    StableHlo.binary main_v9_1 main_while0b_v43 main_while0b_v44 (subf : (⟨S8x16384x96, .f32⟩ : BufTy).Contents (Elt F) → (⟨S8x16384x96, .f32⟩ : BufTy).Contents (Elt F) → (⟨S8x16384x96, .f32⟩ : BufTy).Contents (Elt F)),
    StableHlo.binary main_while0b_v44 main_while0b_v44 main_while0b_v45 (mulf : (⟨S8x16384x96, .f32⟩ : BufTy).Contents (Elt F) → (⟨S8x16384x96, .f32⟩ : BufTy).Contents (Elt F) → (⟨S8x16384x96, .f32⟩ : BufTy).Contents (Elt F)),
    StableHlo.nullary main_while0b_cst_20 (constant S_ .f32 0x00000000#32),
    StableHlo.binary main_while0b_v45 main_while0b_cst_20 main_while0b_v46 ((fun x v => Host.reduceAdd x v reducesTo_S8x16384x96_S8x16384_d2 h_S_) : (⟨S8x16384x96, .f32⟩ : BufTy).Contents (Elt F) → (⟨S_, .f32⟩ : BufTy).Contents (Elt F) → (⟨S8x16384, .f32⟩ : BufTy).Contents (Elt F)),
    StableHlo.unary main_while0b_v46 main_while0b_v47 (Host.sqrt : (⟨S8x16384, .f32⟩ : BufTy).Contents (Elt F) → (⟨S8x16384, .f32⟩ : BufTy).Contents (Elt F)),
    StableHlo.unary main_while0b_v47 main_while0b_v48 (Host.negf : (⟨S8x16384, .f32⟩ : BufTy).Contents (Elt F) → (⟨S8x16384, .f32⟩ : BufTy).Contents (Elt F)),
    StableHlo.nullary main_while0b_cst_21 (constant S_ .f32 0x41A00000#32),
    StableHlo.unary main_while0b_cst_21 main_while0b_v49 (broadcastInDim S8x16384 ![] bcast_S_S8x16384 : (⟨S_, .f32⟩ : BufTy).Contents (Elt F) → (⟨S8x16384, .f32⟩ : BufTy).Contents (Elt F)),
    StableHlo.binary main_while0b_v48 main_while0b_v49 main_while0b_v50 (Host.divf : (⟨S8x16384, .f32⟩ : BufTy).Contents (Elt F) → (⟨S8x16384, .f32⟩ : BufTy).Contents (Elt F) → (⟨S8x16384, .f32⟩ : BufTy).Contents (Elt F)) ]

/-- The body's operations 49 … 63 of 85. -/
abbrev trip_w2 : List (HloOp τ sig (Elt F)) :=
  [ StableHlo.unary main_while0b_v50 main_while0b_v51 (Host.exp : (⟨S8x16384, .f32⟩ : BufTy).Contents (Elt F) → (⟨S8x16384, .f32⟩ : BufTy).Contents (Elt F)),
    StableHlo.nullary main_while0b_cst_22 (constant S_ .f32 0x00000000#32),
    StableHlo.binary main_while0b_v51 main_while0b_cst_22 main_while0b_v52 ((fun x v => Host.reduceAdd x v reducesTo_S8x16384_S8_d1 h_S_) : (⟨S8x16384, .f32⟩ : BufTy).Contents (Elt F) → (⟨S_, .f32⟩ : BufTy).Contents (Elt F) → (⟨S8, .f32⟩ : BufTy).Contents (Elt F)),
    StableHlo.unary main_while0b_v52 main_while0b_v53 (broadcastInDim S8x1 ![0] bcast_S8_S8x1_0 : (⟨S8, .f32⟩ : BufTy).Contents (Elt F) → (⟨S8x1, .f32⟩ : BufTy).Contents (Elt F)),
    StableHlo.unary main_while0b_v53 main_while0b_v54 (broadcastInDim S8x16384 ![0, 1] bcast_S8x1_S8x16384_0_1 : (⟨S8x1, .f32⟩ : BufTy).Contents (Elt F) → (⟨S8x16384, .f32⟩ : BufTy).Contents (Elt F)),
    StableHlo.binary main_while0b_v51 main_while0b_v54 main_while0b_v55 (Host.divf : (⟨S8x16384, .f32⟩ : BufTy).Contents (Elt F) → (⟨S8x16384, .f32⟩ : BufTy).Contents (Elt F) → (⟨S8x16384, .f32⟩ : BufTy).Contents (Elt F)),
    StableHlo.unary main_while0b_v55 main_while0b_v56 (broadcastInDim S8x16384x1 ![0, 1] bcast_S8x16384_S8x16384x1_0_1 : (⟨S8x16384, .f32⟩ : BufTy).Contents (Elt F) → (⟨S8x16384x1, .f32⟩ : BufTy).Contents (Elt F)),
    StableHlo.unary main_while0b_v56 main_while0b_v57 (broadcastInDim S8x16384x96 ![0, 1, 2] bcast_S8x16384x1_S8x16384x96_0_1_2 : (⟨S8x16384x1, .f32⟩ : BufTy).Contents (Elt F) → (⟨S8x16384x96, .f32⟩ : BufTy).Contents (Elt F)),
    StableHlo.binary main_v9_1 main_while0b_v57 main_while0b_v58 (mulf : (⟨S8x16384x96, .f32⟩ : BufTy).Contents (Elt F) → (⟨S8x16384x96, .f32⟩ : BufTy).Contents (Elt F) → (⟨S8x16384x96, .f32⟩ : BufTy).Contents (Elt F)),
    StableHlo.nullary main_while0b_cst_23 (constant S_ .f32 0x00000000#32),
    StableHlo.binary main_while0b_v58 main_while0b_cst_23 main_while0b_v59 ((fun x v => Host.reduceAdd x v reducesTo_S8x16384x96_S8x96_d1 h_S_) : (⟨S8x16384x96, .f32⟩ : BufTy).Contents (Elt F) → (⟨S_, .f32⟩ : BufTy).Contents (Elt F) → (⟨S8x96, .f32⟩ : BufTy).Contents (Elt F)),
    StableHlo.nullary main_while0b_cst_24 (constant S_ .f32 0x3F800000#32),
    StableHlo.unary main_while0b_cst_24 main_while0b_v60 (broadcastInDim S8x16384 ![] bcast_S_S8x16384 : (⟨S_, .f32⟩ : BufTy).Contents (Elt F) → (⟨S8x16384, .f32⟩ : BufTy).Contents (Elt F)),
    StableHlo.binary main_while0b_v60 main_while0b_v51 main_while0b_v61 (subf : (⟨S8x16384, .f32⟩ : BufTy).Contents (Elt F) → (⟨S8x16384, .f32⟩ : BufTy).Contents (Elt F) → (⟨S8x16384, .f32⟩ : BufTy).Contents (Elt F)),
    StableHlo.binary main_while0b_v61 main_v9_4 main_while0b_v62 (mulf : (⟨S8x16384, .f32⟩ : BufTy).Contents (Elt F) → (⟨S8x16384, .f32⟩ : BufTy).Contents (Elt F) → (⟨S8x16384, .f32⟩ : BufTy).Contents (Elt F)) ]

/-- The body's operations 64 … 68 of 85. -/
abbrev trip_w3 : List (HloOp τ sig (Elt F)) :=
  [ StableHlo.TRef.nullary (.of main_while0b_call0_v0 : StableHlo.TRef sig ⟨S8x16384, .i32⟩) (iotaInDim S8x16384 32 1),
    StableHlo.TRef.nullary (.of main_while0b_call0_cst : StableHlo.TRef sig ⟨S_, .f32⟩) (constant S_ .f32 0xFF800000#32),
    StableHlo.TRef.nullary (.of main_while0b_call0_c : StableHlo.TRef sig ⟨S_, .i32⟩) (constantI S_ 32 0#32),
    StableHlo.TRef.quaternary (.of main_while0b_v62 : StableHlo.TRef sig ⟨S8x16384, .f32⟩) (.of main_while0b_call0_v0 : StableHlo.TRef sig ⟨S8x16384, .i32⟩) (.of main_while0b_call0_cst : StableHlo.TRef sig ⟨S_, .f32⟩) (.of main_while0b_call0_c : StableHlo.TRef sig ⟨S_, .i32⟩) (.of main_while0b_call0_v1_0 : StableHlo.TRef sig ⟨S8, .f32⟩) (fun x y u v j => (Host.argReduce reducer_argmax_f32_i32 x y u v reducesTo_S8x16384_S8_d1 h_S_ j).1),
    StableHlo.TRef.quaternary (.of main_while0b_v62 : StableHlo.TRef sig ⟨S8x16384, .f32⟩) (.of main_while0b_call0_v0 : StableHlo.TRef sig ⟨S8x16384, .i32⟩) (.of main_while0b_call0_cst : StableHlo.TRef sig ⟨S_, .f32⟩) (.of main_while0b_call0_c : StableHlo.TRef sig ⟨S_, .i32⟩) (.of main_while0b_v63 : StableHlo.TRef sig ⟨S8, .i32⟩) (fun x y u v j => (Host.argReduce reducer_argmax_f32_i32 x y u v reducesTo_S8x16384_S8_d1 h_S_ j).2) ]

/-- The body's operations 69 … 69 of 85. -/
abbrev trip_w4 : List (HloOp τ sig (Elt F)) :=
  [ StableHlo.unary main_while0b_v63 main_while0b_v64 (broadcastInDim S8x1 ![0] bcast_S8_S8x1_0 : (⟨S8, .i32⟩ : BufTy).Contents (Elt F) → (⟨S8x1, .i32⟩ : BufTy).Contents (Elt F)) ]

/-- The body's operations 70 … 73 of 85. -/
abbrev trip_w5 : List (HloOp τ sig (Elt F)) :=
  [ StableHlo.TRef.unary (.of main_while0b_v59 : StableHlo.TRef sig ⟨S8x96, .f32⟩) (.of main_while0b_call1_v0 : StableHlo.TRef sig ⟨S1x8x96, .f32⟩) (broadcastInDim S1x8x96 ![1, 2] bcast_S8x96_S1x8x96_1_2),
    StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.binaryIndexed (.of main_v9_6 : StableHlo.TRef sig ⟨S8x8x96, .f32⟩) (.of main_while0b_call1_v0 : StableHlo.TRef sig ⟨S1x8x96, .f32⟩) ![(.of main_v9_2 : StableHlo.TRef sig ⟨S_, .i32⟩), (.of main_while0b_call1_c : StableHlo.TRef sig ⟨S_, .i32⟩), (.of main_while0b_call1_c_0 : StableHlo.TRef sig ⟨S_, .i32⟩)] (.of main_while0b_v65 : StableHlo.TRef sig ⟨S8x8x96, .f32⟩) (fun x u i => Host.dynamicUpdateSlice x u (fun k => (i k (Shape.Idx.first h_S_)).toInt) updateFits_S8x8x96_S1x8x96) ]

/-- The body's operations 74 … 77 of 85. -/
abbrev trip_w6 : List (HloOp τ sig (Elt F)) :=
  [ StableHlo.TRef.unary (.of main_while0b_v51 : StableHlo.TRef sig ⟨S8x16384, .f32⟩) (.of main_while0b_call2_v0 : StableHlo.TRef sig ⟨S1x8x16384, .f32⟩) (broadcastInDim S1x8x16384 ![1, 2] bcast_S8x16384_S1x8x16384_1_2),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.binaryIndexed (.of main_v9_7 : StableHlo.TRef sig ⟨S8x8x16384, .f32⟩) (.of main_while0b_call2_v0 : StableHlo.TRef sig ⟨S1x8x16384, .f32⟩) ![(.of main_v9_2 : StableHlo.TRef sig ⟨S_, .i32⟩), (.of main_while0b_call2_c : StableHlo.TRef sig ⟨S_, .i32⟩), (.of main_while0b_call2_c_0 : StableHlo.TRef sig ⟨S_, .i32⟩)] (.of main_while0b_v66 : StableHlo.TRef sig ⟨S8x8x16384, .f32⟩) (fun x u i => Host.dynamicUpdateSlice x u (fun k => (i k (Shape.Idx.first h_S_)).toInt) updateFits_S8x8x16384_S1x8x16384) ]

set_option maxRecDepth 5000 in
/-- `while0Ops0` is its windows in order. -/
theorem while0Ops0_cut : (while0Ops0 : List (HloOp τ sig (Elt F))) = trip_w0 ++ (trip_w1 ++ (trip_w2)) := rfl
set_option maxRecDepth 5000 in
/-- `while0Ops0_1` is its windows in order. -/
theorem while0Ops0_1_cut : (while0Ops0_1 : List (HloOp τ sig (Elt F))) = trip_w3 := rfl
set_option maxRecDepth 5000 in
/-- `while0Ops0_2` is its windows in order. -/
theorem while0Ops0_2_cut : (while0Ops0_2 : List (HloOp τ sig (Elt F))) = trip_w4 := rfl
set_option maxRecDepth 5000 in
/-- `while0Ops0_3` is its windows in order. -/
theorem while0Ops0_3_cut : (while0Ops0_3 : List (HloOp τ sig (Elt F))) = trip_w5 := rfl
set_option maxRecDepth 5000 in
/-- `while0Ops0_4` is its windows in order. -/
theorem while0Ops0_4_cut : (while0Ops0_4 : List (HloOp τ sig (Elt F))) = trip_w6 := rfl

set_option maxRecDepth 8192 in
/-- `main_while0b_v44`'s composed term of the carried buffers (named: it is used 2 times). -/
def res_main_while0b_v44 (V0 : Valuation τ sig (Elt F)) : (Proc.devRef .tc main_while0b_v44 : DevRef τ sig).ty.Contents (Elt F) :=
  subf (V0 (Proc.devRef .tc main_v9_1)) (broadcastInDim S8x16384x96 ![0, 1, 2] bcast_S8x1x96_S8x16384x96_0_1_2 (Host.gather gather_S8x16384x96_S8x1x2_S8x1x96_2_01_n_n_01_2_1196 (V0 (Proc.devRef .tc main_v9_1)) (concatenate S8x1x2 2 [⟨S8x1x1, (broadcastInDim S8x1x1 ![0, 1] bcast_S8x1_S8x1x1_0_1 (select (cmpi .slt (V0 (Proc.devRef .tc main_v9_0)) (broadcastInDim S8x1 ![] bcast_S_S8x1 (constantI S_ 32 0#32))) (addi (V0 (Proc.devRef .tc main_v9_0)) (broadcastInDim S8x1 ![] bcast_S_S8x1 (constantI S_ 32 8#32))) (V0 (Proc.devRef .tc main_v9_0))))⟩, ⟨S8x1x1, (broadcastInDim S8x1x1 ![0, 1] bcast_S8x1_S8x1x1_0_1 (select (cmpi .slt (V0 (Proc.devRef .tc main_v9_3)) (broadcastInDim S8x1 ![] bcast_S_S8x1 (constantI S_ 32 0#32))) (addi (V0 (Proc.devRef .tc main_v9_3)) (broadcastInDim S8x1 ![] bcast_S_S8x1 (constantI S_ 32 16384#32))) (V0 (Proc.devRef .tc main_v9_3))))⟩] concatenates_S8x1x1_S8x1x1_S8x1x2_d2)))

set_option maxRecDepth 8192 in
/-- `main_while0b_v51`'s composed term of the carried buffers (named: it is used 4 times). -/
def res_main_while0b_v51 (V0 : Valuation τ sig (Elt F)) : (Proc.devRef .tc main_while0b_v51 : DevRef τ sig).ty.Contents (Elt F) :=
  Host.exp (Host.divf (Host.negf (Host.sqrt (Host.reduceAdd (mulf (res_main_while0b_v44 V0) (res_main_while0b_v44 V0)) (constant S_ .f32 0x00000000#32) reducesTo_S8x16384x96_S8x16384_d2 h_S_))) (broadcastInDim S8x16384 ![] bcast_S_S8x16384 (constant S_ .f32 0x41A00000#32)))

set_option maxRecDepth 8192 in
/-- `main_while0b_v62`'s composed term of the carried buffers (named: it is used 3 times). -/
def res_main_while0b_v62 (V0 : Valuation τ sig (Elt F)) : (Proc.devRef .tc main_while0b_v62 : DevRef τ sig).ty.Contents (Elt F) :=
  mulf (subf (broadcastInDim S8x16384 ![] bcast_S_S8x16384 (constant S_ .f32 0x3F800000#32)) (res_main_while0b_v51 V0)) (V0 (Proc.devRef .tc main_v9_4))

set_option maxRecDepth 8192 in
/-- `main_while0b_call0_v0`'s composed term of the carried buffers (named: it is used 2 times). -/
def res_main_while0b_call0_v0 (V0 : Valuation τ sig (Elt F)) : (Proc.devRef .tc main_while0b_call0_v0 : DevRef τ sig).ty.Contents (Elt F) :=
  iotaInDim S8x16384 32 1

set_option maxRecDepth 8192 in
/-- `main_while0b_call0_cst`'s composed term of the carried buffers (named: it is used 2 times). -/
def res_main_while0b_call0_cst (V0 : Valuation τ sig (Elt F)) : (Proc.devRef .tc main_while0b_call0_cst : DevRef τ sig).ty.Contents (Elt F) :=
  constant S_ .f32 0xFF800000#32

set_option maxRecDepth 8192 in
/-- `main_while0b_call0_c`'s composed term of the carried buffers (named: it is used 2 times). -/
def res_main_while0b_call0_c (V0 : Valuation τ sig (Elt F)) : (Proc.devRef .tc main_while0b_call0_c : DevRef τ sig).ty.Contents (Elt F) :=
  constantI S_ 32 0#32

/-- The device's buffer contents before the body's first window. -/
def val0 (V0 : Valuation τ sig (Elt F)) : Valuation τ sig (Elt F) := V0
theorem val0_main_v9_0 (V0 : Valuation τ sig (Elt F)) : val0 V0 (no_index (Proc.devRef .tc main_v9_0)) = V0 (Proc.devRef .tc main_v9_0) := rfl
theorem val0_main_v9_3 (V0 : Valuation τ sig (Elt F)) : val0 V0 (no_index (Proc.devRef .tc main_v9_3)) = V0 (Proc.devRef .tc main_v9_3) := rfl
theorem val0_main_v9_1 (V0 : Valuation τ sig (Elt F)) : val0 V0 (no_index (Proc.devRef .tc main_v9_1)) = V0 (Proc.devRef .tc main_v9_1) := rfl
theorem val0_main_v9_5 (V0 : Valuation τ sig (Elt F)) : val0 V0 (no_index (Proc.devRef .tc main_v9_5)) = V0 (Proc.devRef .tc main_v9_5) := rfl
theorem val0_main_v9_4 (V0 : Valuation τ sig (Elt F)) : val0 V0 (no_index (Proc.devRef .tc main_v9_4)) = V0 (Proc.devRef .tc main_v9_4) := rfl
theorem val0_main_v9_6 (V0 : Valuation τ sig (Elt F)) : val0 V0 (no_index (Proc.devRef .tc main_v9_6)) = V0 (Proc.devRef .tc main_v9_6) := rfl
theorem val0_main_v9_2 (V0 : Valuation τ sig (Elt F)) : val0 V0 (no_index (Proc.devRef .tc main_v9_2)) = V0 (Proc.devRef .tc main_v9_2) := rfl
theorem val0_main_v9_7 (V0 : Valuation τ sig (Elt F)) : val0 V0 (no_index (Proc.devRef .tc main_v9_7)) = V0 (Proc.devRef .tc main_v9_7) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_c_11, main_while0b_v14, main_while0b_v15, main_while0b_c_12, main_while0b_v16, main_while0b_v17, main_while0b_v18, main_while0b_c_13, main_while0b_v19, main_while0b_v20, main_while0b_c_14, main_while0b_v21, main_while0b_v22, main_while0b_v23, main_while0b_v24, main_while0b_v25, main_while0b_v26, main_while0b_v27, main_while0b_c_15, main_while0b_v28, main_while0b_v29, main_while0b_c_16, main_while0b_v30, main_while0b_v31]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v9_0 (V0 : Valuation τ sig (Elt F)) : val1 V0 (no_index (Proc.devRef .tc main_v9_0)) = V0 (Proc.devRef .tc main_v9_0) :=
  (val1_keep V0 main_v9_0 (by decide)).trans (val0_main_v9_0 V0)
theorem val1_main_v9_3 (V0 : Valuation τ sig (Elt F)) : val1 V0 (no_index (Proc.devRef .tc main_v9_3)) = V0 (Proc.devRef .tc main_v9_3) :=
  (val1_keep V0 main_v9_3 (by decide)).trans (val0_main_v9_3 V0)
theorem val1_main_v9_1 (V0 : Valuation τ sig (Elt F)) : val1 V0 (no_index (Proc.devRef .tc main_v9_1)) = V0 (Proc.devRef .tc main_v9_1) :=
  (val1_keep V0 main_v9_1 (by decide)).trans (val0_main_v9_1 V0)
theorem val1_main_v9_5 (V0 : Valuation τ sig (Elt F)) : val1 V0 (no_index (Proc.devRef .tc main_v9_5)) = V0 (Proc.devRef .tc main_v9_5) :=
  (val1_keep V0 main_v9_5 (by decide)).trans (val0_main_v9_5 V0)
theorem val1_main_v9_4 (V0 : Valuation τ sig (Elt F)) : val1 V0 (no_index (Proc.devRef .tc main_v9_4)) = V0 (Proc.devRef .tc main_v9_4) :=
  (val1_keep V0 main_v9_4 (by decide)).trans (val0_main_v9_4 V0)
theorem val1_main_v9_6 (V0 : Valuation τ sig (Elt F)) : val1 V0 (no_index (Proc.devRef .tc main_v9_6)) = V0 (Proc.devRef .tc main_v9_6) :=
  (val1_keep V0 main_v9_6 (by decide)).trans (val0_main_v9_6 V0)
theorem val1_main_v9_2 (V0 : Valuation τ sig (Elt F)) : val1 V0 (no_index (Proc.devRef .tc main_v9_2)) = V0 (Proc.devRef .tc main_v9_2) :=
  (val1_keep V0 main_v9_2 (by decide)).trans (val0_main_v9_2 V0)
theorem val1_main_v9_7 (V0 : Valuation τ sig (Elt F)) : val1 V0 (no_index (Proc.devRef .tc main_v9_7)) = V0 (Proc.devRef .tc main_v9_7) :=
  (val1_keep V0 main_v9_7 (by decide)).trans (val0_main_v9_7 V0)
set_option maxRecDepth 8192 in
set_option maxHeartbeats 2000000 in
theorem val1_main_while0b_v27 (V0 : Valuation τ sig (Elt F)) : val1 V0 (no_index (Proc.devRef .tc main_while0b_v27)) = Host.gather gather_S8x16384x96_S8x1x2_S8x1x96_2_01_n_n_01_2_1196 (V0 (Proc.devRef .tc main_v9_1)) (concatenate S8x1x2 2 [⟨S8x1x1, (broadcastInDim S8x1x1 ![0, 1] bcast_S8x1_S8x1x1_0_1 (select (cmpi .slt (V0 (Proc.devRef .tc main_v9_0)) (broadcastInDim S8x1 ![] bcast_S_S8x1 (constantI S_ 32 0#32))) (addi (V0 (Proc.devRef .tc main_v9_0)) (broadcastInDim S8x1 ![] bcast_S_S8x1 (constantI S_ 32 8#32))) (V0 (Proc.devRef .tc main_v9_0))))⟩, ⟨S8x1x1, (broadcastInDim S8x1x1 ![0, 1] bcast_S8x1_S8x1x1_0_1 (select (cmpi .slt (V0 (Proc.devRef .tc main_v9_3)) (broadcastInDim S8x1 ![] bcast_S_S8x1 (constantI S_ 32 0#32))) (addi (V0 (Proc.devRef .tc main_v9_3)) (broadcastInDim S8x1 ![] bcast_S_S8x1 (constantI S_ 32 16384#32))) (V0 (Proc.devRef .tc main_v9_3))))⟩] concatenates_S8x1x1_S8x1x1_S8x1x2_d2) := by
  unfold val1
  simp only [trip_w0]
  after_results_entrywise [val0_main_v9_3, val0_main_v9_0, val0_main_v9_1, cast_eq]
set_option maxRecDepth 8192 in
set_option maxHeartbeats 2000000 in
theorem val1_main_while0b_v29 (V0 : Valuation τ sig (Elt F)) : val1 V0 (no_index (Proc.devRef .tc main_while0b_v29)) = cmpi .slt (V0 (Proc.devRef .tc main_v9_0)) (broadcastInDim S8x1 ![] bcast_S_S8x1 (constantI S_ 32 0#32)) := by
  unfold val1
  simp only [trip_w0]
  after_results_entrywise [val0_main_v9_0, cast_eq]
set_option maxRecDepth 8192 in
set_option maxHeartbeats 2000000 in
theorem val1_main_while0b_v31 (V0 : Valuation τ sig (Elt F)) : val1 V0 (no_index (Proc.devRef .tc main_while0b_v31)) = addi (V0 (Proc.devRef .tc main_v9_0)) (broadcastInDim S8x1 ![] bcast_S_S8x1 (constantI S_ 32 8#32)) := by
  unfold val1
  simp only [trip_w0]
  after_results_entrywise [val0_main_v9_0, cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_v32, main_while0b_c_17, main_while0b_v33, main_while0b_v34, main_while0b_c_18, main_while0b_v35, main_while0b_v36, main_while0b_v37, main_while0b_v38, main_while0b_v39, main_while0b_v40, main_while0b_cst_19, main_while0b_v41, main_while0b_v42, main_while0b_v43, main_while0b_v44, main_while0b_v45, main_while0b_cst_20, main_while0b_v46, main_while0b_v47, main_while0b_v48, main_while0b_cst_21, main_while0b_v49, main_while0b_v50]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v9_0 (V0 : Valuation τ sig (Elt F)) : val2 V0 (no_index (Proc.devRef .tc main_v9_0)) = V0 (Proc.devRef .tc main_v9_0) :=
  (val2_keep V0 main_v9_0 (by decide)).trans (val1_main_v9_0 V0)
theorem val2_main_v9_3 (V0 : Valuation τ sig (Elt F)) : val2 V0 (no_index (Proc.devRef .tc main_v9_3)) = V0 (Proc.devRef .tc main_v9_3) :=
  (val2_keep V0 main_v9_3 (by decide)).trans (val1_main_v9_3 V0)
theorem val2_main_v9_1 (V0 : Valuation τ sig (Elt F)) : val2 V0 (no_index (Proc.devRef .tc main_v9_1)) = V0 (Proc.devRef .tc main_v9_1) :=
  (val2_keep V0 main_v9_1 (by decide)).trans (val1_main_v9_1 V0)
theorem val2_main_v9_5 (V0 : Valuation τ sig (Elt F)) : val2 V0 (no_index (Proc.devRef .tc main_v9_5)) = V0 (Proc.devRef .tc main_v9_5) :=
  (val2_keep V0 main_v9_5 (by decide)).trans (val1_main_v9_5 V0)
theorem val2_main_v9_4 (V0 : Valuation τ sig (Elt F)) : val2 V0 (no_index (Proc.devRef .tc main_v9_4)) = V0 (Proc.devRef .tc main_v9_4) :=
  (val2_keep V0 main_v9_4 (by decide)).trans (val1_main_v9_4 V0)
theorem val2_main_v9_6 (V0 : Valuation τ sig (Elt F)) : val2 V0 (no_index (Proc.devRef .tc main_v9_6)) = V0 (Proc.devRef .tc main_v9_6) :=
  (val2_keep V0 main_v9_6 (by decide)).trans (val1_main_v9_6 V0)
theorem val2_main_v9_2 (V0 : Valuation τ sig (Elt F)) : val2 V0 (no_index (Proc.devRef .tc main_v9_2)) = V0 (Proc.devRef .tc main_v9_2) :=
  (val2_keep V0 main_v9_2 (by decide)).trans (val1_main_v9_2 V0)
theorem val2_main_v9_7 (V0 : Valuation τ sig (Elt F)) : val2 V0 (no_index (Proc.devRef .tc main_v9_7)) = V0 (Proc.devRef .tc main_v9_7) :=
  (val2_keep V0 main_v9_7 (by decide)).trans (val1_main_v9_7 V0)
set_option maxRecDepth 8192 in
set_option maxHeartbeats 2000000 in
theorem val2_main_while0b_v42 (V0 : Valuation τ sig (Elt F)) : val2 V0 (no_index (Proc.devRef .tc main_while0b_v42)) = Host.scatterAdd scatter_S8x16384_S8x1x2_S8x1_n_01_01_2 (V0 (Proc.devRef .tc main_v9_5)) (concatenate S8x1x2 2 [⟨S8x1x1, (broadcastInDim S8x1x1 ![0, 1] bcast_S8x1_S8x1x1_0_1 (select (cmpi .slt (V0 (Proc.devRef .tc main_v9_0)) (broadcastInDim S8x1 ![] bcast_S_S8x1 (constantI S_ 32 0#32))) (addi (V0 (Proc.devRef .tc main_v9_0)) (broadcastInDim S8x1 ![] bcast_S_S8x1 (constantI S_ 32 8#32))) (V0 (Proc.devRef .tc main_v9_0))))⟩, ⟨S8x1x1, (broadcastInDim S8x1x1 ![0, 1] bcast_S8x1_S8x1x1_0_1 (select (cmpi .slt (V0 (Proc.devRef .tc main_v9_3)) (broadcastInDim S8x1 ![] bcast_S_S8x1 (constantI S_ 32 0#32))) (addi (V0 (Proc.devRef .tc main_v9_3)) (broadcastInDim S8x1 ![] bcast_S_S8x1 (constantI S_ 32 16384#32))) (V0 (Proc.devRef .tc main_v9_3))))⟩] concatenates_S8x1x1_S8x1x1_S8x1x2_d2) (broadcastInDim S8x1 ![] bcast_S_S8x1 (constant S_ .f32 0x3F800000#32)) := by
  unfold val2
  simp only [trip_w1]
  after_results_entrywise [val1_main_v9_3, val1_main_v9_0, val1_main_while0b_v31, val1_main_while0b_v29, val1_main_v9_5, cast_eq]
set_option maxRecDepth 8192 in
set_option maxHeartbeats 2000000 in
theorem val2_main_while0b_v50 (V0 : Valuation τ sig (Elt F)) : val2 V0 (no_index (Proc.devRef .tc main_while0b_v50)) = Host.divf (Host.negf (Host.sqrt (Host.reduceAdd (mulf (res_main_while0b_v44 V0) (res_main_while0b_v44 V0)) (constant S_ .f32 0x00000000#32) reducesTo_S8x16384x96_S8x16384_d2 h_S_))) (broadcastInDim S8x16384 ![] bcast_S_S8x16384 (constant S_ .f32 0x41A00000#32)) := by
  unfold val2
  simp only [trip_w1]
  after_results_entrywise [val1_main_while0b_v27, val1_main_v9_1, res_main_while0b_v44, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_v51, main_while0b_cst_22, main_while0b_v52, main_while0b_v53, main_while0b_v54, main_while0b_v55, main_while0b_v56, main_while0b_v57, main_while0b_v58, main_while0b_cst_23, main_while0b_v59, main_while0b_cst_24, main_while0b_v60, main_while0b_v61, main_while0b_v62]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v9_0 (V0 : Valuation τ sig (Elt F)) : val3 V0 (no_index (Proc.devRef .tc main_v9_0)) = V0 (Proc.devRef .tc main_v9_0) :=
  (val3_keep V0 main_v9_0 (by decide)).trans (val2_main_v9_0 V0)
theorem val3_main_v9_3 (V0 : Valuation τ sig (Elt F)) : val3 V0 (no_index (Proc.devRef .tc main_v9_3)) = V0 (Proc.devRef .tc main_v9_3) :=
  (val3_keep V0 main_v9_3 (by decide)).trans (val2_main_v9_3 V0)
theorem val3_main_v9_1 (V0 : Valuation τ sig (Elt F)) : val3 V0 (no_index (Proc.devRef .tc main_v9_1)) = V0 (Proc.devRef .tc main_v9_1) :=
  (val3_keep V0 main_v9_1 (by decide)).trans (val2_main_v9_1 V0)
theorem val3_main_v9_5 (V0 : Valuation τ sig (Elt F)) : val3 V0 (no_index (Proc.devRef .tc main_v9_5)) = V0 (Proc.devRef .tc main_v9_5) :=
  (val3_keep V0 main_v9_5 (by decide)).trans (val2_main_v9_5 V0)
theorem val3_main_v9_4 (V0 : Valuation τ sig (Elt F)) : val3 V0 (no_index (Proc.devRef .tc main_v9_4)) = V0 (Proc.devRef .tc main_v9_4) :=
  (val3_keep V0 main_v9_4 (by decide)).trans (val2_main_v9_4 V0)
theorem val3_main_v9_6 (V0 : Valuation τ sig (Elt F)) : val3 V0 (no_index (Proc.devRef .tc main_v9_6)) = V0 (Proc.devRef .tc main_v9_6) :=
  (val3_keep V0 main_v9_6 (by decide)).trans (val2_main_v9_6 V0)
theorem val3_main_v9_2 (V0 : Valuation τ sig (Elt F)) : val3 V0 (no_index (Proc.devRef .tc main_v9_2)) = V0 (Proc.devRef .tc main_v9_2) :=
  (val3_keep V0 main_v9_2 (by decide)).trans (val2_main_v9_2 V0)
theorem val3_main_v9_7 (V0 : Valuation τ sig (Elt F)) : val3 V0 (no_index (Proc.devRef .tc main_v9_7)) = V0 (Proc.devRef .tc main_v9_7) :=
  (val3_keep V0 main_v9_7 (by decide)).trans (val2_main_v9_7 V0)
theorem val3_main_while0b_v42 (V0 : Valuation τ sig (Elt F)) : val3 V0 (no_index (Proc.devRef .tc main_while0b_v42)) = Host.scatterAdd scatter_S8x16384_S8x1x2_S8x1_n_01_01_2 (V0 (Proc.devRef .tc main_v9_5)) (concatenate S8x1x2 2 [⟨S8x1x1, (broadcastInDim S8x1x1 ![0, 1] bcast_S8x1_S8x1x1_0_1 (select (cmpi .slt (V0 (Proc.devRef .tc main_v9_0)) (broadcastInDim S8x1 ![] bcast_S_S8x1 (constantI S_ 32 0#32))) (addi (V0 (Proc.devRef .tc main_v9_0)) (broadcastInDim S8x1 ![] bcast_S_S8x1 (constantI S_ 32 8#32))) (V0 (Proc.devRef .tc main_v9_0))))⟩, ⟨S8x1x1, (broadcastInDim S8x1x1 ![0, 1] bcast_S8x1_S8x1x1_0_1 (select (cmpi .slt (V0 (Proc.devRef .tc main_v9_3)) (broadcastInDim S8x1 ![] bcast_S_S8x1 (constantI S_ 32 0#32))) (addi (V0 (Proc.devRef .tc main_v9_3)) (broadcastInDim S8x1 ![] bcast_S_S8x1 (constantI S_ 32 16384#32))) (V0 (Proc.devRef .tc main_v9_3))))⟩] concatenates_S8x1x1_S8x1x1_S8x1x2_d2) (broadcastInDim S8x1 ![] bcast_S_S8x1 (constant S_ .f32 0x3F800000#32)) :=
  (val3_keep V0 main_while0b_v42 (by decide)).trans (val2_main_while0b_v42 V0)
set_option maxRecDepth 8192 in
set_option maxHeartbeats 1500000 in
theorem val3_main_while0b_v51 (V0 : Valuation τ sig (Elt F)) : val3 V0 (no_index (Proc.devRef .tc main_while0b_v51)) = res_main_while0b_v51 V0 := by
  unfold val3
  simp only [trip_w2]
  after_results_entrywise [val2_main_while0b_v50, res_main_while0b_v51, cast_eq]
set_option maxRecDepth 8192 in
set_option maxHeartbeats 1500000 in
theorem val3_main_while0b_v59 (V0 : Valuation τ sig (Elt F)) : val3 V0 (no_index (Proc.devRef .tc main_while0b_v59)) = Host.reduceAdd (mulf (V0 (Proc.devRef .tc main_v9_1)) (broadcastInDim S8x16384x96 ![0, 1, 2] bcast_S8x16384x1_S8x16384x96_0_1_2 (broadcastInDim S8x16384x1 ![0, 1] bcast_S8x16384_S8x16384x1_0_1 (Host.divf (res_main_while0b_v51 V0) (broadcastInDim S8x16384 ![0, 1] bcast_S8x1_S8x16384_0_1 (broadcastInDim S8x1 ![0] bcast_S8_S8x1_0 (Host.reduceAdd (res_main_while0b_v51 V0) (constant S_ .f32 0x00000000#32) reducesTo_S8x16384_S8_d1 h_S_))))))) (constant S_ .f32 0x00000000#32) reducesTo_S8x16384x96_S8x96_d1 h_S_ := by
  unfold val3
  simp only [trip_w2]
  after_results_entrywise [val2_main_while0b_v50, val2_main_v9_1, res_main_while0b_v51, cast_eq]
set_option maxRecDepth 8192 in
set_option maxHeartbeats 1500000 in
theorem val3_main_while0b_v62 (V0 : Valuation τ sig (Elt F)) : val3 V0 (no_index (Proc.devRef .tc main_while0b_v62)) = res_main_while0b_v62 V0 := by
  unfold val3
  simp only [trip_w2]
  after_results_entrywise [val2_main_v9_4, val2_main_while0b_v50, res_main_while0b_v51, res_main_while0b_v62, cast_eq]

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while0b_call0_v0, main_while0b_call0_cst, main_while0b_call0_c, main_while0b_call0_v1_0, main_while0b_v63]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v9_0 (V0 : Valuation τ sig (Elt F)) : val4 V0 (no_index (Proc.devRef .tc main_v9_0)) = V0 (Proc.devRef .tc main_v9_0) :=
  (val4_keep V0 main_v9_0 (by decide)).trans (val3_main_v9_0 V0)
theorem val4_main_v9_3 (V0 : Valuation τ sig (Elt F)) : val4 V0 (no_index (Proc.devRef .tc main_v9_3)) = V0 (Proc.devRef .tc main_v9_3) :=
  (val4_keep V0 main_v9_3 (by decide)).trans (val3_main_v9_3 V0)
theorem val4_main_v9_1 (V0 : Valuation τ sig (Elt F)) : val4 V0 (no_index (Proc.devRef .tc main_v9_1)) = V0 (Proc.devRef .tc main_v9_1) :=
  (val4_keep V0 main_v9_1 (by decide)).trans (val3_main_v9_1 V0)
theorem val4_main_v9_5 (V0 : Valuation τ sig (Elt F)) : val4 V0 (no_index (Proc.devRef .tc main_v9_5)) = V0 (Proc.devRef .tc main_v9_5) :=
  (val4_keep V0 main_v9_5 (by decide)).trans (val3_main_v9_5 V0)
theorem val4_main_v9_4 (V0 : Valuation τ sig (Elt F)) : val4 V0 (no_index (Proc.devRef .tc main_v9_4)) = V0 (Proc.devRef .tc main_v9_4) :=
  (val4_keep V0 main_v9_4 (by decide)).trans (val3_main_v9_4 V0)
theorem val4_main_v9_6 (V0 : Valuation τ sig (Elt F)) : val4 V0 (no_index (Proc.devRef .tc main_v9_6)) = V0 (Proc.devRef .tc main_v9_6) :=
  (val4_keep V0 main_v9_6 (by decide)).trans (val3_main_v9_6 V0)
theorem val4_main_v9_2 (V0 : Valuation τ sig (Elt F)) : val4 V0 (no_index (Proc.devRef .tc main_v9_2)) = V0 (Proc.devRef .tc main_v9_2) :=
  (val4_keep V0 main_v9_2 (by decide)).trans (val3_main_v9_2 V0)
theorem val4_main_v9_7 (V0 : Valuation τ sig (Elt F)) : val4 V0 (no_index (Proc.devRef .tc main_v9_7)) = V0 (Proc.devRef .tc main_v9_7) :=
  (val4_keep V0 main_v9_7 (by decide)).trans (val3_main_v9_7 V0)
theorem val4_main_while0b_v42 (V0 : Valuation τ sig (Elt F)) : val4 V0 (no_index (Proc.devRef .tc main_while0b_v42)) = Host.scatterAdd scatter_S8x16384_S8x1x2_S8x1_n_01_01_2 (V0 (Proc.devRef .tc main_v9_5)) (concatenate S8x1x2 2 [⟨S8x1x1, (broadcastInDim S8x1x1 ![0, 1] bcast_S8x1_S8x1x1_0_1 (select (cmpi .slt (V0 (Proc.devRef .tc main_v9_0)) (broadcastInDim S8x1 ![] bcast_S_S8x1 (constantI S_ 32 0#32))) (addi (V0 (Proc.devRef .tc main_v9_0)) (broadcastInDim S8x1 ![] bcast_S_S8x1 (constantI S_ 32 8#32))) (V0 (Proc.devRef .tc main_v9_0))))⟩, ⟨S8x1x1, (broadcastInDim S8x1x1 ![0, 1] bcast_S8x1_S8x1x1_0_1 (select (cmpi .slt (V0 (Proc.devRef .tc main_v9_3)) (broadcastInDim S8x1 ![] bcast_S_S8x1 (constantI S_ 32 0#32))) (addi (V0 (Proc.devRef .tc main_v9_3)) (broadcastInDim S8x1 ![] bcast_S_S8x1 (constantI S_ 32 16384#32))) (V0 (Proc.devRef .tc main_v9_3))))⟩] concatenates_S8x1x1_S8x1x1_S8x1x2_d2) (broadcastInDim S8x1 ![] bcast_S_S8x1 (constant S_ .f32 0x3F800000#32)) :=
  (val4_keep V0 main_while0b_v42 (by decide)).trans (val3_main_while0b_v42 V0)
theorem val4_main_while0b_v51 (V0 : Valuation τ sig (Elt F)) : val4 V0 (no_index (Proc.devRef .tc main_while0b_v51)) = res_main_while0b_v51 V0 :=
  (val4_keep V0 main_while0b_v51 (by decide)).trans (val3_main_while0b_v51 V0)
theorem val4_main_while0b_v59 (V0 : Valuation τ sig (Elt F)) : val4 V0 (no_index (Proc.devRef .tc main_while0b_v59)) = Host.reduceAdd (mulf (V0 (Proc.devRef .tc main_v9_1)) (broadcastInDim S8x16384x96 ![0, 1, 2] bcast_S8x16384x1_S8x16384x96_0_1_2 (broadcastInDim S8x16384x1 ![0, 1] bcast_S8x16384_S8x16384x1_0_1 (Host.divf (res_main_while0b_v51 V0) (broadcastInDim S8x16384 ![0, 1] bcast_S8x1_S8x16384_0_1 (broadcastInDim S8x1 ![0] bcast_S8_S8x1_0 (Host.reduceAdd (res_main_while0b_v51 V0) (constant S_ .f32 0x00000000#32) reducesTo_S8x16384_S8_d1 h_S_))))))) (constant S_ .f32 0x00000000#32) reducesTo_S8x16384x96_S8x96_d1 h_S_ :=
  (val4_keep V0 main_while0b_v59 (by decide)).trans (val3_main_while0b_v59 V0)
theorem val4_main_while0b_v62 (V0 : Valuation τ sig (Elt F)) : val4 V0 (no_index (Proc.devRef .tc main_while0b_v62)) = res_main_while0b_v62 V0 :=
  (val4_keep V0 main_while0b_v62 (by decide)).trans (val3_main_while0b_v62 V0)
set_option maxRecDepth 8192 in
theorem val4_main_while0b_v63 (V0 : Valuation τ sig (Elt F)) : val4 V0 (no_index (Proc.devRef .tc main_while0b_v63)) = (fun k => (Host.argReduce reducer_argmax_f32_i32 (res_main_while0b_v62 V0) (res_main_while0b_call0_v0 V0) (res_main_while0b_call0_cst V0) (res_main_while0b_call0_c V0) reducesTo_S8x16384_S8_d1 h_S_ k).2) := by
  unfold val4
  simp only [trip_w3]
  after_results_entrywise [val3_main_while0b_v62, res_main_while0b_call0_v0, res_main_while0b_call0_cst, res_main_while0b_call0_c, cast_eq]

/-- The device's buffer contents after the body's first 5 windows. -/
def val5 (V0 : Valuation τ sig (Elt F)) : Valuation τ sig (Elt F) := after trip_w4 (val4 V0)
/-- The buffers that window `trip_w4`'s operations write. -/
abbrev trip_w4_W : List (Ref sig .tc) := [main_while0b_v64]
set_option maxRecDepth 8192 in
theorem trip_w4_writes : (trip_w4 : List (HloOp τ sig (Elt F))).Forall fun op => op.writes ⊆ (trip_w4_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v9_0 (V0 : Valuation τ sig (Elt F)) : val5 V0 (no_index (Proc.devRef .tc main_v9_0)) = V0 (Proc.devRef .tc main_v9_0) :=
  (val5_keep V0 main_v9_0 (by decide)).trans (val4_main_v9_0 V0)
theorem val5_main_v9_3 (V0 : Valuation τ sig (Elt F)) : val5 V0 (no_index (Proc.devRef .tc main_v9_3)) = V0 (Proc.devRef .tc main_v9_3) :=
  (val5_keep V0 main_v9_3 (by decide)).trans (val4_main_v9_3 V0)
theorem val5_main_v9_1 (V0 : Valuation τ sig (Elt F)) : val5 V0 (no_index (Proc.devRef .tc main_v9_1)) = V0 (Proc.devRef .tc main_v9_1) :=
  (val5_keep V0 main_v9_1 (by decide)).trans (val4_main_v9_1 V0)
theorem val5_main_v9_5 (V0 : Valuation τ sig (Elt F)) : val5 V0 (no_index (Proc.devRef .tc main_v9_5)) = V0 (Proc.devRef .tc main_v9_5) :=
  (val5_keep V0 main_v9_5 (by decide)).trans (val4_main_v9_5 V0)
theorem val5_main_v9_4 (V0 : Valuation τ sig (Elt F)) : val5 V0 (no_index (Proc.devRef .tc main_v9_4)) = V0 (Proc.devRef .tc main_v9_4) :=
  (val5_keep V0 main_v9_4 (by decide)).trans (val4_main_v9_4 V0)
theorem val5_main_v9_6 (V0 : Valuation τ sig (Elt F)) : val5 V0 (no_index (Proc.devRef .tc main_v9_6)) = V0 (Proc.devRef .tc main_v9_6) :=
  (val5_keep V0 main_v9_6 (by decide)).trans (val4_main_v9_6 V0)
theorem val5_main_v9_2 (V0 : Valuation τ sig (Elt F)) : val5 V0 (no_index (Proc.devRef .tc main_v9_2)) = V0 (Proc.devRef .tc main_v9_2) :=
  (val5_keep V0 main_v9_2 (by decide)).trans (val4_main_v9_2 V0)
theorem val5_main_v9_7 (V0 : Valuation τ sig (Elt F)) : val5 V0 (no_index (Proc.devRef .tc main_v9_7)) = V0 (Proc.devRef .tc main_v9_7) :=
  (val5_keep V0 main_v9_7 (by decide)).trans (val4_main_v9_7 V0)
theorem val5_main_while0b_v42 (V0 : Valuation τ sig (Elt F)) : val5 V0 (no_index (Proc.devRef .tc main_while0b_v42)) = Host.scatterAdd scatter_S8x16384_S8x1x2_S8x1_n_01_01_2 (V0 (Proc.devRef .tc main_v9_5)) (concatenate S8x1x2 2 [⟨S8x1x1, (broadcastInDim S8x1x1 ![0, 1] bcast_S8x1_S8x1x1_0_1 (select (cmpi .slt (V0 (Proc.devRef .tc main_v9_0)) (broadcastInDim S8x1 ![] bcast_S_S8x1 (constantI S_ 32 0#32))) (addi (V0 (Proc.devRef .tc main_v9_0)) (broadcastInDim S8x1 ![] bcast_S_S8x1 (constantI S_ 32 8#32))) (V0 (Proc.devRef .tc main_v9_0))))⟩, ⟨S8x1x1, (broadcastInDim S8x1x1 ![0, 1] bcast_S8x1_S8x1x1_0_1 (select (cmpi .slt (V0 (Proc.devRef .tc main_v9_3)) (broadcastInDim S8x1 ![] bcast_S_S8x1 (constantI S_ 32 0#32))) (addi (V0 (Proc.devRef .tc main_v9_3)) (broadcastInDim S8x1 ![] bcast_S_S8x1 (constantI S_ 32 16384#32))) (V0 (Proc.devRef .tc main_v9_3))))⟩] concatenates_S8x1x1_S8x1x1_S8x1x2_d2) (broadcastInDim S8x1 ![] bcast_S_S8x1 (constant S_ .f32 0x3F800000#32)) :=
  (val5_keep V0 main_while0b_v42 (by decide)).trans (val4_main_while0b_v42 V0)
theorem val5_main_while0b_v51 (V0 : Valuation τ sig (Elt F)) : val5 V0 (no_index (Proc.devRef .tc main_while0b_v51)) = res_main_while0b_v51 V0 :=
  (val5_keep V0 main_while0b_v51 (by decide)).trans (val4_main_while0b_v51 V0)
theorem val5_main_while0b_v59 (V0 : Valuation τ sig (Elt F)) : val5 V0 (no_index (Proc.devRef .tc main_while0b_v59)) = Host.reduceAdd (mulf (V0 (Proc.devRef .tc main_v9_1)) (broadcastInDim S8x16384x96 ![0, 1, 2] bcast_S8x16384x1_S8x16384x96_0_1_2 (broadcastInDim S8x16384x1 ![0, 1] bcast_S8x16384_S8x16384x1_0_1 (Host.divf (res_main_while0b_v51 V0) (broadcastInDim S8x16384 ![0, 1] bcast_S8x1_S8x16384_0_1 (broadcastInDim S8x1 ![0] bcast_S8_S8x1_0 (Host.reduceAdd (res_main_while0b_v51 V0) (constant S_ .f32 0x00000000#32) reducesTo_S8x16384_S8_d1 h_S_))))))) (constant S_ .f32 0x00000000#32) reducesTo_S8x16384x96_S8x96_d1 h_S_ :=
  (val5_keep V0 main_while0b_v59 (by decide)).trans (val4_main_while0b_v59 V0)
theorem val5_main_while0b_v62 (V0 : Valuation τ sig (Elt F)) : val5 V0 (no_index (Proc.devRef .tc main_while0b_v62)) = res_main_while0b_v62 V0 :=
  (val5_keep V0 main_while0b_v62 (by decide)).trans (val4_main_while0b_v62 V0)
set_option maxRecDepth 8192 in
theorem val5_main_while0b_v64 (V0 : Valuation τ sig (Elt F)) : val5 V0 (no_index (Proc.devRef .tc main_while0b_v64)) = broadcastInDim S8x1 ![0] bcast_S8_S8x1_0 ((fun k => (Host.argReduce reducer_argmax_f32_i32 (res_main_while0b_v62 V0) (res_main_while0b_call0_v0 V0) (res_main_while0b_call0_cst V0) (res_main_while0b_call0_c V0) reducesTo_S8x16384_S8_d1 h_S_ k).2)) := by
  unfold val5
  simp only [trip_w4]
  after_results_entrywise [val4_main_while0b_v63, cast_eq]

/-- The device's buffer contents after the body's first 6 windows. -/
def val6 (V0 : Valuation τ sig (Elt F)) : Valuation τ sig (Elt F) := after trip_w5 (val5 V0)
/-- The buffers that window `trip_w5`'s operations write. -/
abbrev trip_w5_W : List (Ref sig .tc) := [main_while0b_call1_v0, main_while0b_call1_c, main_while0b_call1_c_0, main_while0b_v65]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v9_0 (V0 : Valuation τ sig (Elt F)) : val6 V0 (no_index (Proc.devRef .tc main_v9_0)) = V0 (Proc.devRef .tc main_v9_0) :=
  (val6_keep V0 main_v9_0 (by decide)).trans (val5_main_v9_0 V0)
theorem val6_main_v9_3 (V0 : Valuation τ sig (Elt F)) : val6 V0 (no_index (Proc.devRef .tc main_v9_3)) = V0 (Proc.devRef .tc main_v9_3) :=
  (val6_keep V0 main_v9_3 (by decide)).trans (val5_main_v9_3 V0)
theorem val6_main_v9_1 (V0 : Valuation τ sig (Elt F)) : val6 V0 (no_index (Proc.devRef .tc main_v9_1)) = V0 (Proc.devRef .tc main_v9_1) :=
  (val6_keep V0 main_v9_1 (by decide)).trans (val5_main_v9_1 V0)
theorem val6_main_v9_5 (V0 : Valuation τ sig (Elt F)) : val6 V0 (no_index (Proc.devRef .tc main_v9_5)) = V0 (Proc.devRef .tc main_v9_5) :=
  (val6_keep V0 main_v9_5 (by decide)).trans (val5_main_v9_5 V0)
theorem val6_main_v9_4 (V0 : Valuation τ sig (Elt F)) : val6 V0 (no_index (Proc.devRef .tc main_v9_4)) = V0 (Proc.devRef .tc main_v9_4) :=
  (val6_keep V0 main_v9_4 (by decide)).trans (val5_main_v9_4 V0)
theorem val6_main_v9_6 (V0 : Valuation τ sig (Elt F)) : val6 V0 (no_index (Proc.devRef .tc main_v9_6)) = V0 (Proc.devRef .tc main_v9_6) :=
  (val6_keep V0 main_v9_6 (by decide)).trans (val5_main_v9_6 V0)
theorem val6_main_v9_2 (V0 : Valuation τ sig (Elt F)) : val6 V0 (no_index (Proc.devRef .tc main_v9_2)) = V0 (Proc.devRef .tc main_v9_2) :=
  (val6_keep V0 main_v9_2 (by decide)).trans (val5_main_v9_2 V0)
theorem val6_main_v9_7 (V0 : Valuation τ sig (Elt F)) : val6 V0 (no_index (Proc.devRef .tc main_v9_7)) = V0 (Proc.devRef .tc main_v9_7) :=
  (val6_keep V0 main_v9_7 (by decide)).trans (val5_main_v9_7 V0)
theorem val6_main_while0b_v42 (V0 : Valuation τ sig (Elt F)) : val6 V0 (no_index (Proc.devRef .tc main_while0b_v42)) = Host.scatterAdd scatter_S8x16384_S8x1x2_S8x1_n_01_01_2 (V0 (Proc.devRef .tc main_v9_5)) (concatenate S8x1x2 2 [⟨S8x1x1, (broadcastInDim S8x1x1 ![0, 1] bcast_S8x1_S8x1x1_0_1 (select (cmpi .slt (V0 (Proc.devRef .tc main_v9_0)) (broadcastInDim S8x1 ![] bcast_S_S8x1 (constantI S_ 32 0#32))) (addi (V0 (Proc.devRef .tc main_v9_0)) (broadcastInDim S8x1 ![] bcast_S_S8x1 (constantI S_ 32 8#32))) (V0 (Proc.devRef .tc main_v9_0))))⟩, ⟨S8x1x1, (broadcastInDim S8x1x1 ![0, 1] bcast_S8x1_S8x1x1_0_1 (select (cmpi .slt (V0 (Proc.devRef .tc main_v9_3)) (broadcastInDim S8x1 ![] bcast_S_S8x1 (constantI S_ 32 0#32))) (addi (V0 (Proc.devRef .tc main_v9_3)) (broadcastInDim S8x1 ![] bcast_S_S8x1 (constantI S_ 32 16384#32))) (V0 (Proc.devRef .tc main_v9_3))))⟩] concatenates_S8x1x1_S8x1x1_S8x1x2_d2) (broadcastInDim S8x1 ![] bcast_S_S8x1 (constant S_ .f32 0x3F800000#32)) :=
  (val6_keep V0 main_while0b_v42 (by decide)).trans (val5_main_while0b_v42 V0)
theorem val6_main_while0b_v51 (V0 : Valuation τ sig (Elt F)) : val6 V0 (no_index (Proc.devRef .tc main_while0b_v51)) = res_main_while0b_v51 V0 :=
  (val6_keep V0 main_while0b_v51 (by decide)).trans (val5_main_while0b_v51 V0)
theorem val6_main_while0b_v62 (V0 : Valuation τ sig (Elt F)) : val6 V0 (no_index (Proc.devRef .tc main_while0b_v62)) = res_main_while0b_v62 V0 :=
  (val6_keep V0 main_while0b_v62 (by decide)).trans (val5_main_while0b_v62 V0)
theorem val6_main_while0b_v64 (V0 : Valuation τ sig (Elt F)) : val6 V0 (no_index (Proc.devRef .tc main_while0b_v64)) = broadcastInDim S8x1 ![0] bcast_S8_S8x1_0 ((fun k => (Host.argReduce reducer_argmax_f32_i32 (res_main_while0b_v62 V0) (res_main_while0b_call0_v0 V0) (res_main_while0b_call0_cst V0) (res_main_while0b_call0_c V0) reducesTo_S8x16384_S8_d1 h_S_ k).2)) :=
  (val6_keep V0 main_while0b_v64 (by decide)).trans (val5_main_while0b_v64 V0)
set_option maxRecDepth 8192 in
theorem val6_main_while0b_v65 (V0 : Valuation τ sig (Elt F)) : val6 V0 (no_index (Proc.devRef .tc main_while0b_v65)) = Host.dynamicUpdateSlice (V0 (Proc.devRef .tc main_v9_6)) (broadcastInDim S1x8x96 ![1, 2] bcast_S8x96_S1x8x96_1_2 (Host.reduceAdd (mulf (V0 (Proc.devRef .tc main_v9_1)) (broadcastInDim S8x16384x96 ![0, 1, 2] bcast_S8x16384x1_S8x16384x96_0_1_2 (broadcastInDim S8x16384x1 ![0, 1] bcast_S8x16384_S8x16384x1_0_1 (Host.divf (res_main_while0b_v51 V0) (broadcastInDim S8x16384 ![0, 1] bcast_S8x1_S8x16384_0_1 (broadcastInDim S8x1 ![0] bcast_S8_S8x1_0 (Host.reduceAdd (res_main_while0b_v51 V0) (constant S_ .f32 0x00000000#32) reducesTo_S8x16384_S8_d1 h_S_))))))) (constant S_ .f32 0x00000000#32) reducesTo_S8x16384x96_S8x96_d1 h_S_)) (fun k => (((![V0 (Proc.devRef .tc main_v9_2), constantI S_ 32 0#32, constantI S_ 32 0#32] : Fin 3 → (⟨S_, .i32⟩ : BufTy).Contents (Elt F))) k (Shape.Idx.first h_S_)).toInt) updateFits_S8x8x96_S1x8x96 := by
  unfold val6
  simp only [trip_w5]
  after_results_entrywise [val5_main_v9_2, val5_main_while0b_v59, val5_main_v9_6, cast_eq]

/-- The device's buffer contents after the body's first 7 windows. -/
def val7 (V0 : Valuation τ sig (Elt F)) : Valuation τ sig (Elt F) := after trip_w6 (val6 V0)
/-- The buffers that window `trip_w6`'s operations write. -/
abbrev trip_w6_W : List (Ref sig .tc) := [main_while0b_call2_v0, main_while0b_call2_c, main_while0b_call2_c_0, main_while0b_v66]
set_option maxRecDepth 8192 in
theorem trip_w6_writes : (trip_w6 : List (HloOp τ sig (Elt F))).Forall fun op => op.writes ⊆ (trip_w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v9_0 (V0 : Valuation τ sig (Elt F)) : val7 V0 (no_index (Proc.devRef .tc main_v9_0)) = V0 (Proc.devRef .tc main_v9_0) :=
  (val7_keep V0 main_v9_0 (by decide)).trans (val6_main_v9_0 V0)
theorem val7_main_v9_3 (V0 : Valuation τ sig (Elt F)) : val7 V0 (no_index (Proc.devRef .tc main_v9_3)) = V0 (Proc.devRef .tc main_v9_3) :=
  (val7_keep V0 main_v9_3 (by decide)).trans (val6_main_v9_3 V0)
theorem val7_main_v9_1 (V0 : Valuation τ sig (Elt F)) : val7 V0 (no_index (Proc.devRef .tc main_v9_1)) = V0 (Proc.devRef .tc main_v9_1) :=
  (val7_keep V0 main_v9_1 (by decide)).trans (val6_main_v9_1 V0)
theorem val7_main_v9_5 (V0 : Valuation τ sig (Elt F)) : val7 V0 (no_index (Proc.devRef .tc main_v9_5)) = V0 (Proc.devRef .tc main_v9_5) :=
  (val7_keep V0 main_v9_5 (by decide)).trans (val6_main_v9_5 V0)
theorem val7_main_v9_4 (V0 : Valuation τ sig (Elt F)) : val7 V0 (no_index (Proc.devRef .tc main_v9_4)) = V0 (Proc.devRef .tc main_v9_4) :=
  (val7_keep V0 main_v9_4 (by decide)).trans (val6_main_v9_4 V0)
theorem val7_main_v9_6 (V0 : Valuation τ sig (Elt F)) : val7 V0 (no_index (Proc.devRef .tc main_v9_6)) = V0 (Proc.devRef .tc main_v9_6) :=
  (val7_keep V0 main_v9_6 (by decide)).trans (val6_main_v9_6 V0)
theorem val7_main_v9_2 (V0 : Valuation τ sig (Elt F)) : val7 V0 (no_index (Proc.devRef .tc main_v9_2)) = V0 (Proc.devRef .tc main_v9_2) :=
  (val7_keep V0 main_v9_2 (by decide)).trans (val6_main_v9_2 V0)
theorem val7_main_v9_7 (V0 : Valuation τ sig (Elt F)) : val7 V0 (no_index (Proc.devRef .tc main_v9_7)) = V0 (Proc.devRef .tc main_v9_7) :=
  (val7_keep V0 main_v9_7 (by decide)).trans (val6_main_v9_7 V0)
theorem val7_main_while0b_v42 (V0 : Valuation τ sig (Elt F)) : val7 V0 (no_index (Proc.devRef .tc main_while0b_v42)) = Host.scatterAdd scatter_S8x16384_S8x1x2_S8x1_n_01_01_2 (V0 (Proc.devRef .tc main_v9_5)) (concatenate S8x1x2 2 [⟨S8x1x1, (broadcastInDim S8x1x1 ![0, 1] bcast_S8x1_S8x1x1_0_1 (select (cmpi .slt (V0 (Proc.devRef .tc main_v9_0)) (broadcastInDim S8x1 ![] bcast_S_S8x1 (constantI S_ 32 0#32))) (addi (V0 (Proc.devRef .tc main_v9_0)) (broadcastInDim S8x1 ![] bcast_S_S8x1 (constantI S_ 32 8#32))) (V0 (Proc.devRef .tc main_v9_0))))⟩, ⟨S8x1x1, (broadcastInDim S8x1x1 ![0, 1] bcast_S8x1_S8x1x1_0_1 (select (cmpi .slt (V0 (Proc.devRef .tc main_v9_3)) (broadcastInDim S8x1 ![] bcast_S_S8x1 (constantI S_ 32 0#32))) (addi (V0 (Proc.devRef .tc main_v9_3)) (broadcastInDim S8x1 ![] bcast_S_S8x1 (constantI S_ 32 16384#32))) (V0 (Proc.devRef .tc main_v9_3))))⟩] concatenates_S8x1x1_S8x1x1_S8x1x2_d2) (broadcastInDim S8x1 ![] bcast_S_S8x1 (constant S_ .f32 0x3F800000#32)) :=
  (val7_keep V0 main_while0b_v42 (by decide)).trans (val6_main_while0b_v42 V0)
theorem val7_main_while0b_v62 (V0 : Valuation τ sig (Elt F)) : val7 V0 (no_index (Proc.devRef .tc main_while0b_v62)) = res_main_while0b_v62 V0 :=
  (val7_keep V0 main_while0b_v62 (by decide)).trans (val6_main_while0b_v62 V0)
theorem val7_main_while0b_v64 (V0 : Valuation τ sig (Elt F)) : val7 V0 (no_index (Proc.devRef .tc main_while0b_v64)) = broadcastInDim S8x1 ![0] bcast_S8_S8x1_0 ((fun k => (Host.argReduce reducer_argmax_f32_i32 (res_main_while0b_v62 V0) (res_main_while0b_call0_v0 V0) (res_main_while0b_call0_cst V0) (res_main_while0b_call0_c V0) reducesTo_S8x16384_S8_d1 h_S_ k).2)) :=
  (val7_keep V0 main_while0b_v64 (by decide)).trans (val6_main_while0b_v64 V0)
theorem val7_main_while0b_v65 (V0 : Valuation τ sig (Elt F)) : val7 V0 (no_index (Proc.devRef .tc main_while0b_v65)) = Host.dynamicUpdateSlice (V0 (Proc.devRef .tc main_v9_6)) (broadcastInDim S1x8x96 ![1, 2] bcast_S8x96_S1x8x96_1_2 (Host.reduceAdd (mulf (V0 (Proc.devRef .tc main_v9_1)) (broadcastInDim S8x16384x96 ![0, 1, 2] bcast_S8x16384x1_S8x16384x96_0_1_2 (broadcastInDim S8x16384x1 ![0, 1] bcast_S8x16384_S8x16384x1_0_1 (Host.divf (res_main_while0b_v51 V0) (broadcastInDim S8x16384 ![0, 1] bcast_S8x1_S8x16384_0_1 (broadcastInDim S8x1 ![0] bcast_S8_S8x1_0 (Host.reduceAdd (res_main_while0b_v51 V0) (constant S_ .f32 0x00000000#32) reducesTo_S8x16384_S8_d1 h_S_))))))) (constant S_ .f32 0x00000000#32) reducesTo_S8x16384x96_S8x96_d1 h_S_)) (fun k => (((![V0 (Proc.devRef .tc main_v9_2), constantI S_ 32 0#32, constantI S_ 32 0#32] : Fin 3 → (⟨S_, .i32⟩ : BufTy).Contents (Elt F))) k (Shape.Idx.first h_S_)).toInt) updateFits_S8x8x96_S1x8x96 :=
  (val7_keep V0 main_while0b_v65 (by decide)).trans (val6_main_while0b_v65 V0)
set_option maxRecDepth 8192 in
theorem val7_main_while0b_v66 (V0 : Valuation τ sig (Elt F)) : val7 V0 (no_index (Proc.devRef .tc main_while0b_v66)) = Host.dynamicUpdateSlice (V0 (Proc.devRef .tc main_v9_7)) (broadcastInDim S1x8x16384 ![1, 2] bcast_S8x16384_S1x8x16384_1_2 (res_main_while0b_v51 V0)) (fun k => (((![V0 (Proc.devRef .tc main_v9_2), constantI S_ 32 0#32, constantI S_ 32 0#32] : Fin 3 → (⟨S_, .i32⟩ : BufTy).Contents (Elt F))) k (Shape.Idx.first h_S_)).toInt) updateFits_S8x8x16384_S1x8x16384 := by
  unfold val7
  simp only [trip_w6]
  after_results_entrywise [val6_main_v9_2, val6_main_while0b_v51, val6_main_v9_7, cast_eq]

set_option maxRecDepth 8192 in
/-- The body's stretches before `while0Ops0_5`, from any contents: their windows in order. -/
theorem trip_windows (V0 : Valuation τ sig (Elt F)) : after while0Ops0_4 (after while0Ops0_3 (after while0Ops0_2 (after while0Ops0_1 (after while0Ops0 (V0))))) = val7 V0 := by
  simp only [while0Ops0_cut, while0Ops0_1_cut, while0Ops0_2_cut, while0Ops0_3_cut, while0Ops0_4_cut, after_append]
  rfl

set_option maxRecDepth 8192 in
set_option maxHeartbeats 2000000 in
/-- `main_v9_0` after one trip's body, from any contents. -/
theorem trip_main_v9_0 (V0 : Valuation τ sig (Elt F)) : afterL bodyI V0 (no_index (Proc.devRef .tc main_v9_0)) = V0 (Proc.devRef .tc main_v9_0) := by
  simp only [bodyI, afterL_cons, afterL_nil, trip_windows]
  after_results
  all_goals (try simp only [val7_main_while0b_v64, val7_main_while0b_v62, val7_main_while0b_v42, val7_main_while0b_v65, val7_main_while0b_v66, val7_main_v9_0, val7_main_v9_1, val7_main_v9_2, val7_main_v9_3, val7_main_v9_4, val7_main_v9_5, val7_main_v9_6, val7_main_v9_7]) <;> rfl
set_option maxRecDepth 8192 in
set_option maxHeartbeats 2000000 in
/-- `main_v9_1` after one trip's body, from any contents. -/
theorem trip_main_v9_1 (V0 : Valuation τ sig (Elt F)) : afterL bodyI V0 (no_index (Proc.devRef .tc main_v9_1)) = V0 (Proc.devRef .tc main_v9_1) := by
  simp only [bodyI, afterL_cons, afterL_nil, trip_windows]
  after_results
  all_goals (try simp only [val7_main_while0b_v64, val7_main_while0b_v62, val7_main_while0b_v42, val7_main_while0b_v65, val7_main_while0b_v66, val7_main_v9_0, val7_main_v9_1, val7_main_v9_2, val7_main_v9_3, val7_main_v9_4, val7_main_v9_5, val7_main_v9_6, val7_main_v9_7]) <;> rfl
set_option maxRecDepth 8192 in
set_option maxHeartbeats 2000000 in
/-- `main_v9_2` after one trip's body, from any contents. -/
theorem trip_main_v9_2 (V0 : Valuation τ sig (Elt F)) : afterL bodyI V0 (no_index (Proc.devRef .tc main_v9_2)) = id (addi (V0 (Proc.devRef .tc main_v9_2)) (constantI S_ 32 1#32)) := by
  simp only [bodyI, afterL_cons, afterL_nil, trip_windows]
  after_results
  all_goals (try simp only [val7_main_while0b_v64, val7_main_while0b_v62, val7_main_while0b_v42, val7_main_while0b_v65, val7_main_while0b_v66, val7_main_v9_0, val7_main_v9_1, val7_main_v9_2, val7_main_v9_3, val7_main_v9_4, val7_main_v9_5, val7_main_v9_6, val7_main_v9_7]) <;> rfl
set_option maxRecDepth 8192 in
set_option maxHeartbeats 2000000 in
/-- `main_v9_3` after one trip's body, from any contents. -/
theorem trip_main_v9_3 (V0 : Valuation τ sig (Elt F)) : afterL bodyI V0 (no_index (Proc.devRef .tc main_v9_3)) = id (broadcastInDim S8x1 ![0] bcast_S8_S8x1_0 ((fun k => (Host.argReduce reducer_argmax_f32_i32 (res_main_while0b_v62 V0) (res_main_while0b_call0_v0 V0) (res_main_while0b_call0_cst V0) (res_main_while0b_call0_c V0) reducesTo_S8x16384_S8_d1 h_S_ k).2))) := by
  simp only [bodyI, afterL_cons, afterL_nil, trip_windows]
  after_results
  all_goals (try simp only [val7_main_while0b_v64, val7_main_while0b_v62, val7_main_while0b_v42, val7_main_while0b_v65, val7_main_while0b_v66, val7_main_v9_0, val7_main_v9_1, val7_main_v9_2, val7_main_v9_3, val7_main_v9_4, val7_main_v9_5, val7_main_v9_6, val7_main_v9_7]) <;> rfl
set_option maxRecDepth 8192 in
set_option maxHeartbeats 2000000 in
/-- `main_v9_4` after one trip's body, from any contents. -/
theorem trip_main_v9_4 (V0 : Valuation τ sig (Elt F)) : afterL bodyI V0 (no_index (Proc.devRef .tc main_v9_4)) = id (res_main_while0b_v62 V0) := by
  simp only [bodyI, afterL_cons, afterL_nil, trip_windows]
  after_results
  all_goals (try simp only [val7_main_while0b_v64, val7_main_while0b_v62, val7_main_while0b_v42, val7_main_while0b_v65, val7_main_while0b_v66, val7_main_v9_0, val7_main_v9_1, val7_main_v9_2, val7_main_v9_3, val7_main_v9_4, val7_main_v9_5, val7_main_v9_6, val7_main_v9_7]) <;> rfl
set_option maxRecDepth 8192 in
set_option maxHeartbeats 2000000 in
/-- `main_v9_5` after one trip's body, from any contents. -/
theorem trip_main_v9_5 (V0 : Valuation τ sig (Elt F)) : afterL bodyI V0 (no_index (Proc.devRef .tc main_v9_5)) = id (Host.scatterAdd scatter_S8x16384_S8x1x2_S8x1_n_01_01_2 (V0 (Proc.devRef .tc main_v9_5)) (concatenate S8x1x2 2 [⟨S8x1x1, (broadcastInDim S8x1x1 ![0, 1] bcast_S8x1_S8x1x1_0_1 (select (cmpi .slt (V0 (Proc.devRef .tc main_v9_0)) (broadcastInDim S8x1 ![] bcast_S_S8x1 (constantI S_ 32 0#32))) (addi (V0 (Proc.devRef .tc main_v9_0)) (broadcastInDim S8x1 ![] bcast_S_S8x1 (constantI S_ 32 8#32))) (V0 (Proc.devRef .tc main_v9_0))))⟩, ⟨S8x1x1, (broadcastInDim S8x1x1 ![0, 1] bcast_S8x1_S8x1x1_0_1 (select (cmpi .slt (V0 (Proc.devRef .tc main_v9_3)) (broadcastInDim S8x1 ![] bcast_S_S8x1 (constantI S_ 32 0#32))) (addi (V0 (Proc.devRef .tc main_v9_3)) (broadcastInDim S8x1 ![] bcast_S_S8x1 (constantI S_ 32 16384#32))) (V0 (Proc.devRef .tc main_v9_3))))⟩] concatenates_S8x1x1_S8x1x1_S8x1x2_d2) (broadcastInDim S8x1 ![] bcast_S_S8x1 (constant S_ .f32 0x3F800000#32))) := by
  simp only [bodyI, afterL_cons, afterL_nil, trip_windows]
  after_results
  all_goals (try simp only [val7_main_while0b_v64, val7_main_while0b_v62, val7_main_while0b_v42, val7_main_while0b_v65, val7_main_while0b_v66, val7_main_v9_0, val7_main_v9_1, val7_main_v9_2, val7_main_v9_3, val7_main_v9_4, val7_main_v9_5, val7_main_v9_6, val7_main_v9_7]) <;> rfl
set_option maxRecDepth 8192 in
set_option maxHeartbeats 2000000 in
/-- `main_v9_6` after one trip's body, from any contents. -/
theorem trip_main_v9_6 (V0 : Valuation τ sig (Elt F)) : afterL bodyI V0 (no_index (Proc.devRef .tc main_v9_6)) = id (Host.dynamicUpdateSlice (V0 (Proc.devRef .tc main_v9_6)) (broadcastInDim S1x8x96 ![1, 2] bcast_S8x96_S1x8x96_1_2 (Host.reduceAdd (mulf (V0 (Proc.devRef .tc main_v9_1)) (broadcastInDim S8x16384x96 ![0, 1, 2] bcast_S8x16384x1_S8x16384x96_0_1_2 (broadcastInDim S8x16384x1 ![0, 1] bcast_S8x16384_S8x16384x1_0_1 (Host.divf (res_main_while0b_v51 V0) (broadcastInDim S8x16384 ![0, 1] bcast_S8x1_S8x16384_0_1 (broadcastInDim S8x1 ![0] bcast_S8_S8x1_0 (Host.reduceAdd (res_main_while0b_v51 V0) (constant S_ .f32 0x00000000#32) reducesTo_S8x16384_S8_d1 h_S_))))))) (constant S_ .f32 0x00000000#32) reducesTo_S8x16384x96_S8x96_d1 h_S_)) (fun k => (((![V0 (Proc.devRef .tc main_v9_2), constantI S_ 32 0#32, constantI S_ 32 0#32] : Fin 3 → (⟨S_, .i32⟩ : BufTy).Contents (Elt F))) k (Shape.Idx.first h_S_)).toInt) updateFits_S8x8x96_S1x8x96) := by
  simp only [bodyI, afterL_cons, afterL_nil, trip_windows]
  after_results
  all_goals (try simp only [val7_main_while0b_v64, val7_main_while0b_v62, val7_main_while0b_v42, val7_main_while0b_v65, val7_main_while0b_v66, val7_main_v9_0, val7_main_v9_1, val7_main_v9_2, val7_main_v9_3, val7_main_v9_4, val7_main_v9_5, val7_main_v9_6, val7_main_v9_7]) <;> rfl
set_option maxRecDepth 8192 in
set_option maxHeartbeats 2000000 in
/-- `main_v9_7` after one trip's body, from any contents. -/
theorem trip_main_v9_7 (V0 : Valuation τ sig (Elt F)) : afterL bodyI V0 (no_index (Proc.devRef .tc main_v9_7)) = id (Host.dynamicUpdateSlice (V0 (Proc.devRef .tc main_v9_7)) (broadcastInDim S1x8x16384 ![1, 2] bcast_S8x16384_S1x8x16384_1_2 (res_main_while0b_v51 V0)) (fun k => (((![V0 (Proc.devRef .tc main_v9_2), constantI S_ 32 0#32, constantI S_ 32 0#32] : Fin 3 → (⟨S_, .i32⟩ : BufTy).Contents (Elt F))) k (Shape.Idx.first h_S_)).toInt) updateFits_S8x8x16384_S1x8x16384) := by
  simp only [bodyI, afterL_cons, afterL_nil, trip_windows]
  after_results
  all_goals (try simp only [val7_main_while0b_v64, val7_main_while0b_v62, val7_main_while0b_v42, val7_main_while0b_v65, val7_main_while0b_v66, val7_main_v9_0, val7_main_v9_1, val7_main_v9_2, val7_main_v9_3, val7_main_v9_4, val7_main_v9_5, val7_main_v9_6, val7_main_v9_7]) <;> rfl

/-- The loop's carried buffers. -/
abbrev carriedRefs : List (Ref sig .tc) := [main_v9_0, main_v9_1, main_v9_2, main_v9_3, main_v9_4, main_v9_5, main_v9_6, main_v9_7]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v44_congr {V0 V0' : Valuation τ sig (Elt F)} (h : Agree V0 V0') : res_main_while0b_v44 V0 = res_main_while0b_v44 V0' := by
  unfold res_main_while0b_v44
  rw [h main_v9_1 (by decide), h main_v9_0 (by decide), h main_v9_3 (by decide)]
set_option maxRecDepth 8192 in
theorem res_main_while0b_v51_congr {V0 V0' : Valuation τ sig (Elt F)} (h : Agree V0 V0') : res_main_while0b_v51 V0 = res_main_while0b_v51 V0' := by
  unfold res_main_while0b_v51
  rw [res_main_while0b_v44_congr h]
set_option maxRecDepth 8192 in
theorem res_main_while0b_v62_congr {V0 V0' : Valuation τ sig (Elt F)} (h : Agree V0 V0') : res_main_while0b_v62 V0 = res_main_while0b_v62 V0' := by
  unfold res_main_while0b_v62
  rw [res_main_while0b_v51_congr h, h main_v9_4 (by decide)]
set_option maxRecDepth 8192 in
theorem res_main_while0b_call0_v0_congr {V0 V0' : Valuation τ sig (Elt F)} (h : Agree V0 V0') : res_main_while0b_call0_v0 V0 = res_main_while0b_call0_v0 V0' := by
  unfold res_main_while0b_call0_v0
  rfl
set_option maxRecDepth 8192 in
theorem res_main_while0b_call0_cst_congr {V0 V0' : Valuation τ sig (Elt F)} (h : Agree V0 V0') : res_main_while0b_call0_cst V0 = res_main_while0b_call0_cst V0' := by
  unfold res_main_while0b_call0_cst
  rfl
set_option maxRecDepth 8192 in
theorem res_main_while0b_call0_c_congr {V0 V0' : Valuation τ sig (Elt F)} (h : Agree V0 V0') : res_main_while0b_call0_c V0 = res_main_while0b_call0_c V0' := by
  unfold res_main_while0b_call0_c
  rfl

set_option maxRecDepth 8192 in
/-- `main_v9_2` after one trip, of the contents before it. -/
def step_main_v9_2 (V0 : Valuation τ sig (Elt F)) : (Proc.devRef .tc main_v9_2 : DevRef τ sig).ty.Contents (Elt F) :=
  id (addi (V0 (Proc.devRef .tc main_v9_2)) (constantI S_ 32 1#32))
set_option maxRecDepth 8192 in
theorem step_main_v9_2_congr {V0 V0' : Valuation τ sig (Elt F)} (h : Agree V0 V0') : step_main_v9_2 V0 = step_main_v9_2 V0' := by
  unfold step_main_v9_2
  rw [h main_v9_2 (by decide)]
set_option maxRecDepth 8192 in
/-- `main_v9_3` after one trip, of the contents before it. -/
def step_main_v9_3 (V0 : Valuation τ sig (Elt F)) : (Proc.devRef .tc main_v9_3 : DevRef τ sig).ty.Contents (Elt F) :=
  id (broadcastInDim S8x1 ![0] bcast_S8_S8x1_0 ((fun k => (Host.argReduce reducer_argmax_f32_i32 (res_main_while0b_v62 V0) (res_main_while0b_call0_v0 V0) (res_main_while0b_call0_cst V0) (res_main_while0b_call0_c V0) reducesTo_S8x16384_S8_d1 h_S_ k).2)))
set_option maxRecDepth 8192 in
theorem step_main_v9_3_congr {V0 V0' : Valuation τ sig (Elt F)} (h : Agree V0 V0') : step_main_v9_3 V0 = step_main_v9_3 V0' := by
  unfold step_main_v9_3
  rw [res_main_while0b_v62_congr h, res_main_while0b_call0_v0_congr h, res_main_while0b_call0_cst_congr h, res_main_while0b_call0_c_congr h]
set_option maxRecDepth 8192 in
/-- `main_v9_4` after one trip, of the contents before it. -/
def step_main_v9_4 (V0 : Valuation τ sig (Elt F)) : (Proc.devRef .tc main_v9_4 : DevRef τ sig).ty.Contents (Elt F) :=
  id (res_main_while0b_v62 V0)
set_option maxRecDepth 8192 in
theorem step_main_v9_4_congr {V0 V0' : Valuation τ sig (Elt F)} (h : Agree V0 V0') : step_main_v9_4 V0 = step_main_v9_4 V0' := by
  unfold step_main_v9_4
  rw [res_main_while0b_v62_congr h]
set_option maxRecDepth 8192 in
/-- `main_v9_5` after one trip, of the contents before it. -/
def step_main_v9_5 (V0 : Valuation τ sig (Elt F)) : (Proc.devRef .tc main_v9_5 : DevRef τ sig).ty.Contents (Elt F) :=
  id (Host.scatterAdd scatter_S8x16384_S8x1x2_S8x1_n_01_01_2 (V0 (Proc.devRef .tc main_v9_5)) (concatenate S8x1x2 2 [⟨S8x1x1, (broadcastInDim S8x1x1 ![0, 1] bcast_S8x1_S8x1x1_0_1 (select (cmpi .slt (V0 (Proc.devRef .tc main_v9_0)) (broadcastInDim S8x1 ![] bcast_S_S8x1 (constantI S_ 32 0#32))) (addi (V0 (Proc.devRef .tc main_v9_0)) (broadcastInDim S8x1 ![] bcast_S_S8x1 (constantI S_ 32 8#32))) (V0 (Proc.devRef .tc main_v9_0))))⟩, ⟨S8x1x1, (broadcastInDim S8x1x1 ![0, 1] bcast_S8x1_S8x1x1_0_1 (select (cmpi .slt (V0 (Proc.devRef .tc main_v9_3)) (broadcastInDim S8x1 ![] bcast_S_S8x1 (constantI S_ 32 0#32))) (addi (V0 (Proc.devRef .tc main_v9_3)) (broadcastInDim S8x1 ![] bcast_S_S8x1 (constantI S_ 32 16384#32))) (V0 (Proc.devRef .tc main_v9_3))))⟩] concatenates_S8x1x1_S8x1x1_S8x1x2_d2) (broadcastInDim S8x1 ![] bcast_S_S8x1 (constant S_ .f32 0x3F800000#32)))
set_option maxRecDepth 8192 in
theorem step_main_v9_5_congr {V0 V0' : Valuation τ sig (Elt F)} (h : Agree V0 V0') : step_main_v9_5 V0 = step_main_v9_5 V0' := by
  unfold step_main_v9_5
  rw [h main_v9_5 (by decide), h main_v9_0 (by decide), h main_v9_3 (by decide)]
set_option maxRecDepth 8192 in
/-- `main_v9_6` after one trip, of the contents before it. -/
def step_main_v9_6 (V0 : Valuation τ sig (Elt F)) : (Proc.devRef .tc main_v9_6 : DevRef τ sig).ty.Contents (Elt F) :=
  id (Host.dynamicUpdateSlice (V0 (Proc.devRef .tc main_v9_6)) (broadcastInDim S1x8x96 ![1, 2] bcast_S8x96_S1x8x96_1_2 (Host.reduceAdd (mulf (V0 (Proc.devRef .tc main_v9_1)) (broadcastInDim S8x16384x96 ![0, 1, 2] bcast_S8x16384x1_S8x16384x96_0_1_2 (broadcastInDim S8x16384x1 ![0, 1] bcast_S8x16384_S8x16384x1_0_1 (Host.divf (res_main_while0b_v51 V0) (broadcastInDim S8x16384 ![0, 1] bcast_S8x1_S8x16384_0_1 (broadcastInDim S8x1 ![0] bcast_S8_S8x1_0 (Host.reduceAdd (res_main_while0b_v51 V0) (constant S_ .f32 0x00000000#32) reducesTo_S8x16384_S8_d1 h_S_))))))) (constant S_ .f32 0x00000000#32) reducesTo_S8x16384x96_S8x96_d1 h_S_)) (fun k => (((![V0 (Proc.devRef .tc main_v9_2), constantI S_ 32 0#32, constantI S_ 32 0#32] : Fin 3 → (⟨S_, .i32⟩ : BufTy).Contents (Elt F))) k (Shape.Idx.first h_S_)).toInt) updateFits_S8x8x96_S1x8x96)
set_option maxRecDepth 8192 in
theorem step_main_v9_6_congr {V0 V0' : Valuation τ sig (Elt F)} (h : Agree V0 V0') : step_main_v9_6 V0 = step_main_v9_6 V0' := by
  unfold step_main_v9_6
  rw [res_main_while0b_v51_congr h, h main_v9_6 (by decide), h main_v9_1 (by decide), h main_v9_2 (by decide)]
set_option maxRecDepth 8192 in
/-- `main_v9_7` after one trip, of the contents before it. -/
def step_main_v9_7 (V0 : Valuation τ sig (Elt F)) : (Proc.devRef .tc main_v9_7 : DevRef τ sig).ty.Contents (Elt F) :=
  id (Host.dynamicUpdateSlice (V0 (Proc.devRef .tc main_v9_7)) (broadcastInDim S1x8x16384 ![1, 2] bcast_S8x16384_S1x8x16384_1_2 (res_main_while0b_v51 V0)) (fun k => (((![V0 (Proc.devRef .tc main_v9_2), constantI S_ 32 0#32, constantI S_ 32 0#32] : Fin 3 → (⟨S_, .i32⟩ : BufTy).Contents (Elt F))) k (Shape.Idx.first h_S_)).toInt) updateFits_S8x8x16384_S1x8x16384)
set_option maxRecDepth 8192 in
theorem step_main_v9_7_congr {V0 V0' : Valuation τ sig (Elt F)} (h : Agree V0 V0') : step_main_v9_7 V0 = step_main_v9_7 V0' := by
  unfold step_main_v9_7
  rw [res_main_while0b_v51_congr h, h main_v9_7 (by decide), h main_v9_2 (by decide)]

/-- ONE TRIP on the carried buffers: the buffers the body writes step, everything else is as it was. -/
def STEP (V0 : Valuation τ sig (Elt F)) : Valuation τ sig (Elt F) :=
  Function.update (Function.update (Function.update (Function.update (Function.update (Function.update (V0) (Proc.devRef .tc main_v9_2) (step_main_v9_2 V0)) (Proc.devRef .tc main_v9_3) (step_main_v9_3 V0)) (Proc.devRef .tc main_v9_4) (step_main_v9_4 V0)) (Proc.devRef .tc main_v9_5) (step_main_v9_5 V0)) (Proc.devRef .tc main_v9_6) (step_main_v9_6 V0)) (Proc.devRef .tc main_v9_7) (step_main_v9_7 V0)

theorem STEP_main_v9_0 (V0 : Valuation τ sig (Elt F)) : STEP V0 (Proc.devRef .tc main_v9_0) = V0 (Proc.devRef .tc main_v9_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v9_1 (V0 : Valuation τ sig (Elt F)) : STEP V0 (Proc.devRef .tc main_v9_1) = V0 (Proc.devRef .tc main_v9_1) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v9_2 (V0 : Valuation τ sig (Elt F)) : STEP V0 (Proc.devRef .tc main_v9_2) = step_main_v9_2 V0 := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_self]
theorem STEP_main_v9_3 (V0 : Valuation τ sig (Elt F)) : STEP V0 (Proc.devRef .tc main_v9_3) = step_main_v9_3 V0 := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_self]
theorem STEP_main_v9_4 (V0 : Valuation τ sig (Elt F)) : STEP V0 (Proc.devRef .tc main_v9_4) = step_main_v9_4 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v9_5 (V0 : Valuation τ sig (Elt F)) : STEP V0 (Proc.devRef .tc main_v9_5) = step_main_v9_5 V0 := by
  unfold STEP; rw [Function.update_of_ne (devRef_ne_of_ne (by decide))]; rw [Function.update_of_ne (devRef_ne_of_ne (by decide))]; rw [Function.update_self]
theorem STEP_main_v9_6 (V0 : Valuation τ sig (Elt F)) : STEP V0 (Proc.devRef .tc main_v9_6) = step_main_v9_6 V0 := by
  unfold STEP; rw [Function.update_of_ne (devRef_ne_of_ne (by decide))]; rw [Function.update_self]
theorem STEP_main_v9_7 (V0 : Valuation τ sig (Elt F)) : STEP V0 (Proc.devRef .tc main_v9_7) = step_main_v9_7 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v9_0 (after condOps X)).trans ((hc main_v9_0 (by decide)).trans (STEP_main_v9_0 X).symm)
  · exact (trip_main_v9_1 (after condOps X)).trans ((hc main_v9_1 (by decide)).trans (STEP_main_v9_1 X).symm)
  · exact (trip_main_v9_2 (after condOps X)).trans ((step_main_v9_2_congr hc).trans (STEP_main_v9_2 X).symm)
  · exact (trip_main_v9_3 (after condOps X)).trans ((step_main_v9_3_congr hc).trans (STEP_main_v9_3 X).symm)
  · exact (trip_main_v9_4 (after condOps X)).trans ((step_main_v9_4_congr hc).trans (STEP_main_v9_4 X).symm)
  · exact (trip_main_v9_5 (after condOps X)).trans ((step_main_v9_5_congr hc).trans (STEP_main_v9_5 X).symm)
  · exact (trip_main_v9_6 (after condOps X)).trans ((step_main_v9_6_congr hc).trans (STEP_main_v9_6 X).symm)
  · exact (trip_main_v9_7 (after condOps X)).trans ((step_main_v9_7_congr hc).trans (STEP_main_v9_7 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v9_0, STEP_main_v9_0]; exact h main_v9_0 (by decide)
  · rw [STEP_main_v9_1, STEP_main_v9_1]; exact h main_v9_1 (by decide)
  · rw [STEP_main_v9_2, STEP_main_v9_2]; exact step_main_v9_2_congr h
  · rw [STEP_main_v9_3, STEP_main_v9_3]; exact step_main_v9_3_congr h
  · rw [STEP_main_v9_4, STEP_main_v9_4]; exact step_main_v9_4_congr h
  · rw [STEP_main_v9_5, STEP_main_v9_5]; exact step_main_v9_5_congr h
  · rw [STEP_main_v9_6, STEP_main_v9_6]; exact step_main_v9_6_congr h
  · rw [STEP_main_v9_7, STEP_main_v9_7]; exact step_main_v9_7_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

theorem keep_main_arg0_hostOps0 (V : Valuation τ sig (Elt F)) : after hostOps0 V (Proc.devRef .tc main_arg0) = V (Proc.devRef .tc main_arg0) :=
  after_of_writes_sub hostOps0 V hostOps0_writes (by decide +kernel)
theorem keep_main_arg0_condOps (V : Valuation τ sig (Elt F)) : after condOps V (Proc.devRef .tc main_arg0) = V (Proc.devRef .tc main_arg0) :=
  after_of_writes_sub condOps V condOps_writes (by decide +kernel)
theorem keep_main_arg0_while0Ops0 (V : Valuation τ sig (Elt F)) : after while0Ops0 V (Proc.devRef .tc main_arg0) = V (Proc.devRef .tc main_arg0) :=
  after_of_writes_sub while0Ops0 V while0Ops0_writes (by decide +kernel)
theorem keep_main_arg0_while0Ops0_1 (V : Valuation τ sig (Elt F)) : after while0Ops0_1 V (Proc.devRef .tc main_arg0) = V (Proc.devRef .tc main_arg0) :=
  after_of_writes_sub while0Ops0_1 V while0Ops0_1_writes (by decide +kernel)
theorem keep_main_arg0_while0Ops0_2 (V : Valuation τ sig (Elt F)) : after while0Ops0_2 V (Proc.devRef .tc main_arg0) = V (Proc.devRef .tc main_arg0) :=
  after_of_writes_sub while0Ops0_2 V while0Ops0_2_writes (by decide +kernel)
theorem keep_main_arg0_while0Ops0_3 (V : Valuation τ sig (Elt F)) : after while0Ops0_3 V (Proc.devRef .tc main_arg0) = V (Proc.devRef .tc main_arg0) :=
  after_of_writes_sub while0Ops0_3 V while0Ops0_3_writes (by decide +kernel)
theorem keep_main_arg0_while0Ops0_4 (V : Valuation τ sig (Elt F)) : after while0Ops0_4 V (Proc.devRef .tc main_arg0) = V (Proc.devRef .tc main_arg0) :=
  after_of_writes_sub while0Ops0_4 V while0Ops0_4_writes (by decide +kernel)
theorem keep_main_arg0_while0Ops0_5 (V : Valuation τ sig (Elt F)) : after while0Ops0_5 V (Proc.devRef .tc main_arg0) = V (Proc.devRef .tc main_arg0) :=
  after_of_writes_sub while0Ops0_5 V while0Ops0_5_writes (by decide +kernel)
theorem keep_main_arg0_hostOps0_1 (V : Valuation τ sig (Elt F)) : after hostOps0_1 V (Proc.devRef .tc main_arg0) = V (Proc.devRef .tc main_arg0) :=
  after_of_writes_sub hostOps0_1 V hostOps0_1_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0]
  | k + 1 => by
    rw [show atK m (k + 1) c = afterL bodyI (after condOps (atK m k c)) from rfl]
    simp only [afterL_cons, afterL_nil]
    rw [keep_main_arg0_while0Ops0_5, keep_main_arg0_while0Ops0_4, keep_main_arg0_while0Ops0_3, keep_main_arg0_while0Ops0_2, keep_main_arg0_while0Ops0_1, keep_main_arg0_while0Ops0, keep_main_arg0_condOps, atK_main_arg0 c k]

theorem keep_main_arg1_hostOps0 (V : Valuation τ sig (Elt F)) : after hostOps0 V (Proc.devRef .tc main_arg1) = V (Proc.devRef .tc main_arg1) :=
  after_of_writes_sub hostOps0 V hostOps0_writes (by decide +kernel)
theorem keep_main_arg1_condOps (V : Valuation τ sig (Elt F)) : after condOps V (Proc.devRef .tc main_arg1) = V (Proc.devRef .tc main_arg1) :=
  after_of_writes_sub condOps V condOps_writes (by decide +kernel)
theorem keep_main_arg1_while0Ops0 (V : Valuation τ sig (Elt F)) : after while0Ops0 V (Proc.devRef .tc main_arg1) = V (Proc.devRef .tc main_arg1) :=
  after_of_writes_sub while0Ops0 V while0Ops0_writes (by decide +kernel)
theorem keep_main_arg1_while0Ops0_1 (V : Valuation τ sig (Elt F)) : after while0Ops0_1 V (Proc.devRef .tc main_arg1) = V (Proc.devRef .tc main_arg1) :=
  after_of_writes_sub while0Ops0_1 V while0Ops0_1_writes (by decide +kernel)
theorem keep_main_arg1_while0Ops0_2 (V : Valuation τ sig (Elt F)) : after while0Ops0_2 V (Proc.devRef .tc main_arg1) = V (Proc.devRef .tc main_arg1) :=
  after_of_writes_sub while0Ops0_2 V while0Ops0_2_writes (by decide +kernel)
theorem keep_main_arg1_while0Ops0_3 (V : Valuation τ sig (Elt F)) : after while0Ops0_3 V (Proc.devRef .tc main_arg1) = V (Proc.devRef .tc main_arg1) :=
  after_of_writes_sub while0Ops0_3 V while0Ops0_3_writes (by decide +kernel)
theorem keep_main_arg1_while0Ops0_4 (V : Valuation τ sig (Elt F)) : after while0Ops0_4 V (Proc.devRef .tc main_arg1) = V (Proc.devRef .tc main_arg1) :=
  after_of_writes_sub while0Ops0_4 V while0Ops0_4_writes (by decide +kernel)
theorem keep_main_arg1_while0Ops0_5 (V : Valuation τ sig (Elt F)) : after while0Ops0_5 V (Proc.devRef .tc main_arg1) = V (Proc.devRef .tc main_arg1) :=
  after_of_writes_sub while0Ops0_5 V while0Ops0_5_writes (by decide +kernel)
theorem keep_main_arg1_hostOps0_1 (V : Valuation τ sig (Elt F)) : after hostOps0_1 V (Proc.devRef .tc main_arg1) = V (Proc.devRef .tc main_arg1) :=
  after_of_writes_sub hostOps0_1 V hostOps0_1_writes (by decide +kernel)
/-- The argument `main_arg1` is written by nothing: it holds its launch contents before every condition. -/
theorem atK_main_arg1 (c : Dev nD) : ∀ k, atK m k c (Proc.devRef .tc main_arg1) = m ((c.tc : Thread nD τ).loc main_arg1)
  | 0 => by
    rw [show atK m 0 c = entryContents preI m c from rfl]
    simp only [entryContents, afterL_cons, afterL_nil]
    rw [keep_main_arg1_hostOps0]
  | k + 1 => by
    rw [show atK m (k + 1) c = afterL bodyI (after condOps (atK m k c)) from rfl]
    simp only [afterL_cons, afterL_nil]
    rw [keep_main_arg1_while0Ops0_5, keep_main_arg1_while0Ops0_4, keep_main_arg1_while0Ops0_3, keep_main_arg1_while0Ops0_2, keep_main_arg1_while0Ops0_1, keep_main_arg1_while0Ops0, keep_main_arg1_condOps, atK_main_arg1 c k]

/-! ## After the loop -/

/-- The operations after the loop do not write `main_arg0`. -/
theorem post_keeps_main_arg0 (V0 : Valuation τ sig (Elt F)) : afterL postI V0 (Proc.devRef .tc main_arg0) = V0 (Proc.devRef .tc main_arg0) := by
  simp only [postI, afterL_cons, afterL_nil]
  rw [keep_main_arg0_hostOps0_1]
/-- The operations after the loop do not write `main_arg1`. -/
theorem post_keeps_main_arg1 (V0 : Valuation τ sig (Elt F)) : afterL postI V0 (Proc.devRef .tc main_arg1) = V0 (Proc.devRef .tc main_arg1) := by
  simp only [postI, afterL_cons, afterL_nil]
  rw [keep_main_arg1_hostOps0_1]
/-- `STEP` iterated on the loop's entry leaves the argument `main_arg0` as the launch has it. -/
theorem iter_main_arg0 (c : Dev nD) : ∀ k, (STEP^[k] (entryContents preI m c)) (Proc.devRef .tc main_arg0) = m ((c.tc : Thread nD τ).loc main_arg0)
  | 0 => by rw [Function.iterate_zero, id_eq, ← atTrip_zero condOps bodyI (entryContents preI m)]; exact atK_main_arg0 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg0 c k
/-- `STEP` iterated on the loop's entry leaves the argument `main_arg1` as the launch has it. -/
theorem iter_main_arg1 (c : Dev nD) : ∀ k, (STEP^[k] (entryContents preI m c)) (Proc.devRef .tc main_arg1) = m ((c.tc : Thread nD τ).loc main_arg1)
  | 0 => by rw [Function.iterate_zero, id_eq, ← atTrip_zero condOps bodyI (entryContents preI m)]; exact atK_main_arg1 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg1 c k
set_option maxRecDepth 8192 in
/-- `main_v10`, which the operations after the loop make, of the contents they start from. -/
def out_main_v10 (V0 : Valuation τ sig (Elt F)) : (Proc.devRef .tc main_v10 : DevRef τ sig).ty.Contents (Elt F) :=
  transpose S8x8x96 [1, 0, 2] (V0 (Proc.devRef .tc main_v9_6)) transposes_S8x8x96_S8x8x96_1_0_2
set_option maxRecDepth 8192 in
set_option maxHeartbeats 2000000 in
theorem post_main_v10 (V0 : Valuation τ sig (Elt F)) : afterL postI V0 (no_index (Proc.devRef .tc main_v10)) = out_main_v10 V0 := by
  unfold out_main_v10
  simp only [postI, afterL_cons, afterL_nil, hostOps0_1]
  after_results_entrywise []
set_option maxRecDepth 8192 in
theorem out_main_v10_congr {V0 V0' : Valuation τ sig (Elt F)} (h : Agree V0 V0') : out_main_v10 V0 = out_main_v10 V0' := by
  unfold out_main_v10
  rw [h main_v9_6 (by decide)]
set_option maxRecDepth 8192 in
/-- `main_v12`, which the operations after the loop make, of the contents they start from. -/
def out_main_v12 (V0 : Valuation τ sig (Elt F)) : (Proc.devRef .tc main_v12 : DevRef τ sig).ty.Contents (Elt F) :=
  shapeCast _ (transpose S8x8x16384 [1, 0, 2] (V0 (Proc.devRef .tc main_v9_7)) transposes_S8x8x16384_S8x8x16384_1_0_2) shapeCasts_S8x8x16384_S8x8x128x128
set_option maxRecDepth 8192 in
set_option maxHeartbeats 2000000 in
theorem post_main_v12 (V0 : Valuation τ sig (Elt F)) : afterL postI V0 (no_index (Proc.devRef .tc main_v12)) = out_main_v12 V0 := by
  unfold out_main_v12
  simp only [postI, afterL_cons, afterL_nil, hostOps0_1]
  after_results_entrywise []
set_option maxRecDepth 8192 in
theorem out_main_v12_congr {V0 V0' : Valuation τ sig (Elt F)} (h : Agree V0 V0') : out_main_v12 V0 = out_main_v12 V0' := by
  unfold out_main_v12
  rw [h main_v9_7 (by decide)]
set_option maxRecDepth 8192 in
/-- `main_v13`, which the operations after the loop make, of the contents they start from. -/
def out_main_v13 (V0 : Valuation τ sig (Elt F)) : (Proc.devRef .tc main_v13 : DevRef τ sig).ty.Contents (Elt F) :=
  shapeCast _ (V0 (Proc.devRef .tc main_v9_5)) shapeCasts_S8x16384_S8x1x128x128
set_option maxRecDepth 8192 in
set_option maxHeartbeats 2000000 in
theorem post_main_v13 (V0 : Valuation τ sig (Elt F)) : afterL postI V0 (no_index (Proc.devRef .tc main_v13)) = out_main_v13 V0 := by
  unfold out_main_v13
  simp only [postI, afterL_cons, afterL_nil, hostOps0_1]
  after_results_entrywise []
set_option maxRecDepth 8192 in
theorem out_main_v13_congr {V0 V0' : Valuation τ sig (Elt F)} (h : Agree V0 V0') : out_main_v13 V0 = out_main_v13 V0' := by
  unfold out_main_v13
  rw [h main_v9_5 (by decide)]
/-- THE RUN: on every device, for any float values, from any memory with zero counters, every weakly fair execution
    of @main terminates with each result at its component of `STEP` iterated 8 times on the loop's entry (`step_‹buffer›`
    says what one trip makes of each carried buffer), or, for a result the operations after the loop make, at `out_‹result›` of that, and every argument unchanged. -/
theorem run : θ_run (defs (F := F)) (onTc (τ := τ) (main (F := F))) ⟨m, fun _ => 0, ρ⟩ fun r => ∀ c : Dev nD,
      r.2.mem ((c.tc : Thread nD τ).loc main_v10) = out_main_v10 (STEP^[8] (entryContents preI m c))
      ∧ r.2.mem ((c.tc : Thread nD τ).loc main_v12) = out_main_v12 (STEP^[8] (entryContents preI m c))
      ∧ r.2.mem ((c.tc : Thread nD τ).loc main_v13) = out_main_v13 (STEP^[8] (entryContents preI m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v10 rfl).trans ((post_main_v10 _).trans (out_main_v10_congr (fun j hj => (cond_keeps _ j hj).trans (atK_agree m c 8 j hj)))),
      (h c main_v12 rfl).trans ((post_main_v12 _).trans (out_main_v12_congr (fun j hj => (cond_keeps _ j hj).trans (atK_agree m c 8 j hj)))),
      (h c main_v13 rfl).trans ((post_main_v13 _).trans (out_main_v13_congr (fun j hj => (cond_keeps _ j hj).trans (atK_agree m c 8 j hj)))),
      (h c main_arg0 rfl).trans ((post_keeps_main_arg0 _).trans ((keep_main_arg0_condOps _).trans (atK_main_arg0 m c 8))),
      (h c main_arg1 rfl).trans ((post_keeps_main_arg1 _).trans ((keep_main_arg1_condOps _).trans (atK_main_arg1 m c 8)))⟩) (run_fold m ρ)

end Cert.ReferenceIdeal.Value

end
-- ==== Proof.RefStepRun.lean ====
/- The run of the reference over the plain functions of `RefStep`: the buffers that a trip carries hold a state, one
   trip takes it to `step` of it, and the results are read off the eighth state (`run_iter`). -/
module

public import proofs.«01_k».proof.Proof.RefTrip
public import proofs.«01_k».proof.Proof.RefStep

@[expose] public section

set_option maxRecDepth 65536

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v9_3) = s.main_v9_3
  f_4 : V0 (Proc.devRef .tc main_v9_4) = s.main_v9_4
  f_5 : V0 (Proc.devRef .tc main_v9_5) = s.main_v9_5
  f_6 : V0 (Proc.devRef .tc main_v9_6) = s.main_v9_6
  f_7 : V0 (Proc.devRef .tc main_v9_7) = s.main_v9_7
  f_1 : V0 (Proc.devRef .tc main_v9_1) = s.main_v9_1
  n_2 : V0 (Proc.devRef .tc main_v9_2) = constantI S_ 32 (BitVec.ofNat 32 j)
  k_0 : V0 (Proc.devRef .tc main_v9_0) = Cert.ReferenceIdeal.Step.K_main_v3 (F := F)

variable {V0 s j}

set_option maxRecDepth 8192 in
theorem al_0 (h : Holds V0 s j) : (constantI S_ 32 0#32 : (Proc.devRef .tc main_while0b_c_11 : DevRef τ sig).ty.Contents (Elt F)) = Cert.ReferenceIdeal.Step.b0 j s := by
  unfold Cert.ReferenceIdeal.Step.b0
  rfl
set_option maxRecDepth 8192 in
theorem al_1 (h : Holds V0 s j) : (broadcastInDim S8x1 ![] bcast_S_S8x1 (constantI S_ 32 0#32) : (Proc.devRef .tc main_while0b_v14 : DevRef τ sig).ty.Contents (Elt F)) = Cert.ReferenceIdeal.Step.b1 j s := by
  unfold Cert.ReferenceIdeal.Step.b1
  rw [← al_0 h]
  try rfl
set_option maxRecDepth 8192 in
theorem al_2 (h : Holds V0 s j) : (cmpi .slt (V0 (Proc.devRef .tc main_v9_0)) (broadcastInDim S8x1 ![] bcast_S_S8x1 (constantI S_ 32 0#32)) : (Proc.devRef .tc main_while0b_v15 : DevRef τ sig).ty.Contents (Elt F)) = Cert.ReferenceIdeal.Step.b2 j s := by
  unfold Cert.ReferenceIdeal.Step.b2
  rw [← al_1 h, h.k_0]
  try rfl
set_option maxRecDepth 8192 in
theorem al_3 (h : Holds V0 s j) : (constantI S_ 32 8#32 : (Proc.devRef .tc main_while0b_c_12 : DevRef τ sig).ty.Contents (Elt F)) = Cert.ReferenceIdeal.Step.b3 j s := by
  unfold Cert.ReferenceIdeal.Step.b3
  rfl
set_option maxRecDepth 8192 in
theorem al_4 (h : Holds V0 s j) : (broadcastInDim S8x1 ![] bcast_S_S8x1 (constantI S_ 32 8#32) : (Proc.devRef .tc main_while0b_v16 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (addi (V0 (Proc.devRef .tc main_v9_0)) (broadcastInDim S8x1 ![] bcast_S_S8x1 (constantI S_ 32 8#32)) : (Proc.devRef .tc main_while0b_v17 : DevRef τ sig).ty.Contents (Elt F)) = Cert.ReferenceIdeal.Step.b5 j s := by
  unfold Cert.ReferenceIdeal.Step.b5
  rw [← al_4 h, h.k_0]
  try rfl
set_option maxRecDepth 8192 in
theorem al_6 (h : Holds V0 s j) : (select (cmpi .slt (V0 (Proc.devRef .tc main_v9_0)) (broadcastInDim S8x1 ![] bcast_S_S8x1 (constantI S_ 32 0#32))) (addi (V0 (Proc.devRef .tc main_v9_0)) (broadcastInDim S8x1 ![] bcast_S_S8x1 (constantI S_ 32 8#32))) (V0 (Proc.devRef .tc main_v9_0)) : (Proc.devRef .tc main_while0b_v18 : DevRef τ sig).ty.Contents (Elt F)) = Cert.ReferenceIdeal.Step.b6 j s := by
  unfold Cert.ReferenceIdeal.Step.b6
  rw [← al_2 h, ← al_5 h, h.k_0]
  try rfl
set_option maxRecDepth 8192 in
theorem al_7 (h : Holds V0 s j) : (constantI S_ 32 0#32 : (Proc.devRef .tc main_while0b_c_13 : DevRef τ sig).ty.Contents (Elt F)) = Cert.ReferenceIdeal.Step.b7 j s := by
  unfold Cert.ReferenceIdeal.Step.b7
  rfl
set_option maxRecDepth 8192 in
theorem al_8 (h : Holds V0 s j) : (broadcastInDim S8x1 ![] bcast_S_S8x1 (constantI S_ 32 0#32) : (Proc.devRef .tc main_while0b_v19 : DevRef τ sig).ty.Contents (Elt F)) = Cert.ReferenceIdeal.Step.b8 j s := by
  unfold Cert.ReferenceIdeal.Step.b8
  rw [← al_7 h]
  try rfl
set_option maxRecDepth 8192 in
theorem al_9 (h : Holds V0 s j) : (cmpi .slt (V0 (Proc.devRef .tc main_v9_3)) (broadcastInDim S8x1 ![] bcast_S_S8x1 (constantI S_ 32 0#32)) : (Proc.devRef .tc main_while0b_v20 : DevRef τ sig).ty.Contents (Elt F)) = Cert.ReferenceIdeal.Step.b9 j s := by
  unfold Cert.ReferenceIdeal.Step.b9
  rw [← al_8 h, h.f_3]
  try rfl
set_option maxRecDepth 8192 in
theorem al_10 (h : Holds V0 s j) : (constantI S_ 32 16384#32 : (Proc.devRef .tc main_while0b_c_14 : DevRef τ sig).ty.Contents (Elt F)) = Cert.ReferenceIdeal.Step.b10 j s := by
  unfold Cert.ReferenceIdeal.Step.b10
  rfl
set_option maxRecDepth 8192 in
theorem al_11 (h : Holds V0 s j) : (broadcastInDim S8x1 ![] bcast_S_S8x1 (constantI S_ 32 16384#32) : (Proc.devRef .tc main_while0b_v21 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (addi (V0 (Proc.devRef .tc main_v9_3)) (broadcastInDim S8x1 ![] bcast_S_S8x1 (constantI S_ 32 16384#32)) : (Proc.devRef .tc main_while0b_v22 : DevRef τ sig).ty.Contents (Elt F)) = Cert.ReferenceIdeal.Step.b12 j s := by
  unfold Cert.ReferenceIdeal.Step.b12
  rw [← al_11 h, h.f_3]
  try rfl
set_option maxRecDepth 8192 in
theorem al_13 (h : Holds V0 s j) : (select (cmpi .slt (V0 (Proc.devRef .tc main_v9_3)) (broadcastInDim S8x1 ![] bcast_S_S8x1 (constantI S_ 32 0#32))) (addi (V0 (Proc.devRef .tc main_v9_3)) (broadcastInDim S8x1 ![] bcast_S_S8x1 (constantI S_ 32 16384#32))) (V0 (Proc.devRef .tc main_v9_3)) : (Proc.devRef .tc main_while0b_v23 : DevRef τ sig).ty.Contents (Elt F)) = Cert.ReferenceIdeal.Step.b13 j s := by
  unfold Cert.ReferenceIdeal.Step.b13
  rw [← al_9 h, ← al_12 h, h.f_3]
  try rfl
set_option maxRecDepth 8192 in
theorem al_14 (h : Holds V0 s j) : (broadcastInDim S8x1x1 ![0, 1] bcast_S8x1_S8x1x1_0_1 (select (cmpi .slt (V0 (Proc.devRef .tc main_v9_0)) (broadcastInDim S8x1 ![] bcast_S_S8x1 (constantI S_ 32 0#32))) (addi (V0 (Proc.devRef .tc main_v9_0)) (broadcastInDim S8x1 ![] bcast_S_S8x1 (constantI S_ 32 8#32))) (V0 (Proc.devRef .tc main_v9_0))) : (Proc.devRef .tc main_while0b_v24 : DevRef τ sig).ty.Contents (Elt F)) = Cert.ReferenceIdeal.Step.b14 j s := by
  unfold Cert.ReferenceIdeal.Step.b14
  rw [← al_6 h]
  try rfl
set_option maxRecDepth 8192 in
theorem al_15 (h : Holds V0 s j) : (broadcastInDim S8x1x1 ![0, 1] bcast_S8x1_S8x1x1_0_1 (select (cmpi .slt (V0 (Proc.devRef .tc main_v9_3)) (broadcastInDim S8x1 ![] bcast_S_S8x1 (constantI S_ 32 0#32))) (addi (V0 (Proc.devRef .tc main_v9_3)) (broadcastInDim S8x1 ![] bcast_S_S8x1 (constantI S_ 32 16384#32))) (V0 (Proc.devRef .tc main_v9_3))) : (Proc.devRef .tc main_while0b_v25 : DevRef τ sig).ty.Contents (Elt F)) = Cert.ReferenceIdeal.Step.b15 j s := by
  unfold Cert.ReferenceIdeal.Step.b15
  rw [← al_13 h]
  try rfl
set_option maxRecDepth 8192 in
theorem al_16 (h : Holds V0 s j) : (concatenate S8x1x2 2 [⟨S8x1x1, (broadcastInDim S8x1x1 ![0, 1] bcast_S8x1_S8x1x1_0_1 (select (cmpi .slt (V0 (Proc.devRef .tc main_v9_0)) (broadcastInDim S8x1 ![] bcast_S_S8x1 (constantI S_ 32 0#32))) (addi (V0 (Proc.devRef .tc main_v9_0)) (broadcastInDim S8x1 ![] bcast_S_S8x1 (constantI S_ 32 8#32))) (V0 (Proc.devRef .tc main_v9_0))))⟩, ⟨S8x1x1, (broadcastInDim S8x1x1 ![0, 1] bcast_S8x1_S8x1x1_0_1 (select (cmpi .slt (V0 (Proc.devRef .tc main_v9_3)) (broadcastInDim S8x1 ![] bcast_S_S8x1 (constantI S_ 32 0#32))) (addi (V0 (Proc.devRef .tc main_v9_3)) (broadcastInDim S8x1 ![] bcast_S_S8x1 (constantI S_ 32 16384#32))) (V0 (Proc.devRef .tc main_v9_3))))⟩] concatenates_S8x1x1_S8x1x1_S8x1x2_d2 : (Proc.devRef .tc main_while0b_v26 : DevRef τ sig).ty.Contents (Elt F)) = Cert.ReferenceIdeal.Step.b16 j s := by
  unfold Cert.ReferenceIdeal.Step.b16
  rw [← al_14 h, ← al_15 h]
  try rfl
set_option maxRecDepth 8192 in
theorem al_17 (h : Holds V0 s j) : (Host.gather gather_S8x16384x96_S8x1x2_S8x1x96_2_01_n_n_01_2_1196 (V0 (Proc.devRef .tc main_v9_1)) (concatenate S8x1x2 2 [⟨S8x1x1, (broadcastInDim S8x1x1 ![0, 1] bcast_S8x1_S8x1x1_0_1 (select (cmpi .slt (V0 (Proc.devRef .tc main_v9_0)) (broadcastInDim S8x1 ![] bcast_S_S8x1 (constantI S_ 32 0#32))) (addi (V0 (Proc.devRef .tc main_v9_0)) (broadcastInDim S8x1 ![] bcast_S_S8x1 (constantI S_ 32 8#32))) (V0 (Proc.devRef .tc main_v9_0))))⟩, ⟨S8x1x1, (broadcastInDim S8x1x1 ![0, 1] bcast_S8x1_S8x1x1_0_1 (select (cmpi .slt (V0 (Proc.devRef .tc main_v9_3)) (broadcastInDim S8x1 ![] bcast_S_S8x1 (constantI S_ 32 0#32))) (addi (V0 (Proc.devRef .tc main_v9_3)) (broadcastInDim S8x1 ![] bcast_S_S8x1 (constantI S_ 32 16384#32))) (V0 (Proc.devRef .tc main_v9_3))))⟩] concatenates_S8x1x1_S8x1x1_S8x1x2_d2) : (Proc.devRef .tc main_while0b_v27 : DevRef τ sig).ty.Contents (Elt F)) = Cert.ReferenceIdeal.Step.b17 j s := by
  unfold Cert.ReferenceIdeal.Step.b17
  rw [← al_16 h, h.f_1]
  try rfl
set_option maxRecDepth 8192 in
theorem al_18 (h : Holds V0 s j) : (constantI S_ 32 0#32 : (Proc.devRef .tc main_while0b_c_15 : DevRef τ sig).ty.Contents (Elt F)) = Cert.ReferenceIdeal.Step.b18 j s := by
  unfold Cert.ReferenceIdeal.Step.b18
  rfl
set_option maxRecDepth 8192 in
theorem al_19 (h : Holds V0 s j) : (broadcastInDim S8x1 ![] bcast_S_S8x1 (constantI S_ 32 0#32) : (Proc.devRef .tc main_while0b_v28 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (cmpi .slt (V0 (Proc.devRef .tc main_v9_0)) (broadcastInDim S8x1 ![] bcast_S_S8x1 (constantI S_ 32 0#32)) : (Proc.devRef .tc main_while0b_v29 : DevRef τ sig).ty.Contents (Elt F)) = Cert.ReferenceIdeal.Step.b20 j s := by
  unfold Cert.ReferenceIdeal.Step.b20
  rw [← al_19 h, h.k_0]
  try rfl
set_option maxRecDepth 8192 in
theorem al_21 (h : Holds V0 s j) : (constantI S_ 32 8#32 : (Proc.devRef .tc main_while0b_c_16 : DevRef τ sig).ty.Contents (Elt F)) = Cert.ReferenceIdeal.Step.b21 j s := by
  unfold Cert.ReferenceIdeal.Step.b21
  rfl
set_option maxRecDepth 8192 in
theorem al_22 (h : Holds V0 s j) : (broadcastInDim S8x1 ![] bcast_S_S8x1 (constantI S_ 32 8#32) : (Proc.devRef .tc main_while0b_v30 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (addi (V0 (Proc.devRef .tc main_v9_0)) (broadcastInDim S8x1 ![] bcast_S_S8x1 (constantI S_ 32 8#32)) : (Proc.devRef .tc main_while0b_v31 : DevRef τ sig).ty.Contents (Elt F)) = Cert.ReferenceIdeal.Step.b23 j s := by
  unfold Cert.ReferenceIdeal.Step.b23
  rw [← al_22 h, h.k_0]
  try rfl
set_option maxRecDepth 8192 in
theorem al_24 (h : Holds V0 s j) : (select (cmpi .slt (V0 (Proc.devRef .tc main_v9_0)) (broadcastInDim S8x1 ![] bcast_S_S8x1 (constantI S_ 32 0#32))) (addi (V0 (Proc.devRef .tc main_v9_0)) (broadcastInDim S8x1 ![] bcast_S_S8x1 (constantI S_ 32 8#32))) (V0 (Proc.devRef .tc main_v9_0)) : (Proc.devRef .tc main_while0b_v32 : DevRef τ sig).ty.Contents (Elt F)) = Cert.ReferenceIdeal.Step.b24 j s := by
  unfold Cert.ReferenceIdeal.Step.b24
  rw [← al_20 h, ← al_23 h, h.k_0]
  try rfl
set_option maxRecDepth 8192 in
theorem al_25 (h : Holds V0 s j) : (constantI S_ 32 0#32 : (Proc.devRef .tc main_while0b_c_17 : DevRef τ sig).ty.Contents (Elt F)) = Cert.ReferenceIdeal.Step.b25 j s := by
  unfold Cert.ReferenceIdeal.Step.b25
  rfl
set_option maxRecDepth 8192 in
theorem al_26 (h : Holds V0 s j) : (broadcastInDim S8x1 ![] bcast_S_S8x1 (constantI S_ 32 0#32) : (Proc.devRef .tc main_while0b_v33 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (cmpi .slt (V0 (Proc.devRef .tc main_v9_3)) (broadcastInDim S8x1 ![] bcast_S_S8x1 (constantI S_ 32 0#32)) : (Proc.devRef .tc main_while0b_v34 : DevRef τ sig).ty.Contents (Elt F)) = Cert.ReferenceIdeal.Step.b27 j s := by
  unfold Cert.ReferenceIdeal.Step.b27
  rw [← al_26 h, h.f_3]
  try rfl
set_option maxRecDepth 8192 in
theorem al_28 (h : Holds V0 s j) : (constantI S_ 32 16384#32 : (Proc.devRef .tc main_while0b_c_18 : DevRef τ sig).ty.Contents (Elt F)) = Cert.ReferenceIdeal.Step.b28 j s := by
  unfold Cert.ReferenceIdeal.Step.b28
  rfl
set_option maxRecDepth 8192 in
theorem al_29 (h : Holds V0 s j) : (broadcastInDim S8x1 ![] bcast_S_S8x1 (constantI S_ 32 16384#32) : (Proc.devRef .tc main_while0b_v35 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (addi (V0 (Proc.devRef .tc main_v9_3)) (broadcastInDim S8x1 ![] bcast_S_S8x1 (constantI S_ 32 16384#32)) : (Proc.devRef .tc main_while0b_v36 : DevRef τ sig).ty.Contents (Elt F)) = Cert.ReferenceIdeal.Step.b30 j s := by
  unfold Cert.ReferenceIdeal.Step.b30
  rw [← al_29 h, h.f_3]
  try rfl
set_option maxRecDepth 8192 in
theorem al_31 (h : Holds V0 s j) : (select (cmpi .slt (V0 (Proc.devRef .tc main_v9_3)) (broadcastInDim S8x1 ![] bcast_S_S8x1 (constantI S_ 32 0#32))) (addi (V0 (Proc.devRef .tc main_v9_3)) (broadcastInDim S8x1 ![] bcast_S_S8x1 (constantI S_ 32 16384#32))) (V0 (Proc.devRef .tc main_v9_3)) : (Proc.devRef .tc main_while0b_v37 : DevRef τ sig).ty.Contents (Elt F)) = Cert.ReferenceIdeal.Step.b31 j s := by
  unfold Cert.ReferenceIdeal.Step.b31
  rw [← al_27 h, ← al_30 h, h.f_3]
  try rfl
set_option maxRecDepth 8192 in
theorem al_32 (h : Holds V0 s j) : (broadcastInDim S8x1x1 ![0, 1] bcast_S8x1_S8x1x1_0_1 (select (cmpi .slt (V0 (Proc.devRef .tc main_v9_0)) (broadcastInDim S8x1 ![] bcast_S_S8x1 (constantI S_ 32 0#32))) (addi (V0 (Proc.devRef .tc main_v9_0)) (broadcastInDim S8x1 ![] bcast_S_S8x1 (constantI S_ 32 8#32))) (V0 (Proc.devRef .tc main_v9_0))) : (Proc.devRef .tc main_while0b_v38 : DevRef τ sig).ty.Contents (Elt F)) = Cert.ReferenceIdeal.Step.b32 j s := by
  unfold Cert.ReferenceIdeal.Step.b32
  rw [← al_24 h]
  try rfl
set_option maxRecDepth 8192 in
theorem al_33 (h : Holds V0 s j) : (broadcastInDim S8x1x1 ![0, 1] bcast_S8x1_S8x1x1_0_1 (select (cmpi .slt (V0 (Proc.devRef .tc main_v9_3)) (broadcastInDim S8x1 ![] bcast_S_S8x1 (constantI S_ 32 0#32))) (addi (V0 (Proc.devRef .tc main_v9_3)) (broadcastInDim S8x1 ![] bcast_S_S8x1 (constantI S_ 32 16384#32))) (V0 (Proc.devRef .tc main_v9_3))) : (Proc.devRef .tc main_while0b_v39 : DevRef τ sig).ty.Contents (Elt F)) = Cert.ReferenceIdeal.Step.b33 j s := by
  unfold Cert.ReferenceIdeal.Step.b33
  rw [← al_31 h]
  try rfl
set_option maxRecDepth 8192 in
theorem al_34 (h : Holds V0 s j) : (concatenate S8x1x2 2 [⟨S8x1x1, (broadcastInDim S8x1x1 ![0, 1] bcast_S8x1_S8x1x1_0_1 (select (cmpi .slt (V0 (Proc.devRef .tc main_v9_0)) (broadcastInDim S8x1 ![] bcast_S_S8x1 (constantI S_ 32 0#32))) (addi (V0 (Proc.devRef .tc main_v9_0)) (broadcastInDim S8x1 ![] bcast_S_S8x1 (constantI S_ 32 8#32))) (V0 (Proc.devRef .tc main_v9_0))))⟩, ⟨S8x1x1, (broadcastInDim S8x1x1 ![0, 1] bcast_S8x1_S8x1x1_0_1 (select (cmpi .slt (V0 (Proc.devRef .tc main_v9_3)) (broadcastInDim S8x1 ![] bcast_S_S8x1 (constantI S_ 32 0#32))) (addi (V0 (Proc.devRef .tc main_v9_3)) (broadcastInDim S8x1 ![] bcast_S_S8x1 (constantI S_ 32 16384#32))) (V0 (Proc.devRef .tc main_v9_3))))⟩] concatenates_S8x1x1_S8x1x1_S8x1x2_d2 : (Proc.devRef .tc main_while0b_v40 : DevRef τ sig).ty.Contents (Elt F)) = Cert.ReferenceIdeal.Step.b34 j s := by
  unfold Cert.ReferenceIdeal.Step.b34
  rw [← al_32 h, ← al_33 h]
  try rfl
set_option maxRecDepth 8192 in
theorem al_35 (h : Holds V0 s j) : (constant S_ .f32 0x3F800000#32 : (Proc.devRef .tc main_while0b_cst_19 : DevRef τ sig).ty.Contents (Elt F)) = Cert.ReferenceIdeal.Step.b35 j s := by
  unfold Cert.ReferenceIdeal.Step.b35
  rfl
set_option maxRecDepth 8192 in
theorem al_36 (h : Holds V0 s j) : (broadcastInDim S8x1 ![] bcast_S_S8x1 (constant S_ .f32 0x3F800000#32) : (Proc.devRef .tc main_while0b_v41 : DevRef τ sig).ty.Contents (Elt F)) = Cert.ReferenceIdeal.Step.b36 j s := by
  unfold Cert.ReferenceIdeal.Step.b36
  rw [← al_35 h]
  try rfl
set_option maxRecDepth 8192 in
theorem al_37 (h : Holds V0 s j) : (Host.scatterAdd scatter_S8x16384_S8x1x2_S8x1_n_01_01_2 (V0 (Proc.devRef .tc main_v9_5)) (concatenate S8x1x2 2 [⟨S8x1x1, (broadcastInDim S8x1x1 ![0, 1] bcast_S8x1_S8x1x1_0_1 (select (cmpi .slt (V0 (Proc.devRef .tc main_v9_0)) (broadcastInDim S8x1 ![] bcast_S_S8x1 (constantI S_ 32 0#32))) (addi (V0 (Proc.devRef .tc main_v9_0)) (broadcastInDim S8x1 ![] bcast_S_S8x1 (constantI S_ 32 8#32))) (V0 (Proc.devRef .tc main_v9_0))))⟩, ⟨S8x1x1, (broadcastInDim S8x1x1 ![0, 1] bcast_S8x1_S8x1x1_0_1 (select (cmpi .slt (V0 (Proc.devRef .tc main_v9_3)) (broadcastInDim S8x1 ![] bcast_S_S8x1 (constantI S_ 32 0#32))) (addi (V0 (Proc.devRef .tc main_v9_3)) (broadcastInDim S8x1 ![] bcast_S_S8x1 (constantI S_ 32 16384#32))) (V0 (Proc.devRef .tc main_v9_3))))⟩] concatenates_S8x1x1_S8x1x1_S8x1x2_d2) (broadcastInDim S8x1 ![] bcast_S_S8x1 (constant S_ .f32 0x3F800000#32)) : (Proc.devRef .tc main_while0b_v42 : DevRef τ sig).ty.Contents (Elt F)) = Cert.ReferenceIdeal.Step.b37 j s := by
  unfold Cert.ReferenceIdeal.Step.b37
  rw [← al_34 h, ← al_36 h, h.f_5]
  try rfl
set_option maxRecDepth 8192 in
theorem al_38 (h : Holds V0 s j) : (broadcastInDim S8x16384x96 ![0, 1, 2] bcast_S8x1x96_S8x16384x96_0_1_2 (Host.gather gather_S8x16384x96_S8x1x2_S8x1x96_2_01_n_n_01_2_1196 (V0 (Proc.devRef .tc main_v9_1)) (concatenate S8x1x2 2 [⟨S8x1x1, (broadcastInDim S8x1x1 ![0, 1] bcast_S8x1_S8x1x1_0_1 (select (cmpi .slt (V0 (Proc.devRef .tc main_v9_0)) (broadcastInDim S8x1 ![] bcast_S_S8x1 (constantI S_ 32 0#32))) (addi (V0 (Proc.devRef .tc main_v9_0)) (broadcastInDim S8x1 ![] bcast_S_S8x1 (constantI S_ 32 8#32))) (V0 (Proc.devRef .tc main_v9_0))))⟩, ⟨S8x1x1, (broadcastInDim S8x1x1 ![0, 1] bcast_S8x1_S8x1x1_0_1 (select (cmpi .slt (V0 (Proc.devRef .tc main_v9_3)) (broadcastInDim S8x1 ![] bcast_S_S8x1 (constantI S_ 32 0#32))) (addi (V0 (Proc.devRef .tc main_v9_3)) (broadcastInDim S8x1 ![] bcast_S_S8x1 (constantI S_ 32 16384#32))) (V0 (Proc.devRef .tc main_v9_3))))⟩] concatenates_S8x1x1_S8x1x1_S8x1x2_d2)) : (Proc.devRef .tc main_while0b_v43 : DevRef τ sig).ty.Contents (Elt F)) = Cert.ReferenceIdeal.Step.b38 j s := by
  unfold Cert.ReferenceIdeal.Step.b38
  rw [← al_17 h]
  try rfl
set_option maxRecDepth 8192 in
theorem al_39 (h : Holds V0 s j) : (res_main_while0b_v44 V0 : (Proc.devRef .tc main_while0b_v44 : DevRef τ sig).ty.Contents (Elt F)) = Cert.ReferenceIdeal.Step.b39 j s := by
  unfold res_main_while0b_v44 Cert.ReferenceIdeal.Step.b39
  rw [← al_38 h, h.f_1]
  try rfl
set_option maxRecDepth 8192 in
theorem al_40 (h : Holds V0 s j) : (mulf (res_main_while0b_v44 V0) (res_main_while0b_v44 V0) : (Proc.devRef .tc main_while0b_v45 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (constant S_ .f32 0x00000000#32 : (Proc.devRef .tc main_while0b_cst_20 : DevRef τ sig).ty.Contents (Elt F)) = Cert.ReferenceIdeal.Step.b41 j s := by
  unfold Cert.ReferenceIdeal.Step.b41
  rfl
set_option maxRecDepth 8192 in
theorem al_42 (h : Holds V0 s j) : (Host.reduceAdd (mulf (res_main_while0b_v44 V0) (res_main_while0b_v44 V0)) (constant S_ .f32 0x00000000#32) reducesTo_S8x16384x96_S8x16384_d2 h_S_ : (Proc.devRef .tc main_while0b_v46 : DevRef τ sig).ty.Contents (Elt F)) = Cert.ReferenceIdeal.Step.b42 j s := by
  unfold Cert.ReferenceIdeal.Step.b42
  rw [← al_40 h, ← al_41 h]
  try rfl
set_option maxRecDepth 8192 in
theorem al_43 (h : Holds V0 s j) : (Host.sqrt (Host.reduceAdd (mulf (res_main_while0b_v44 V0) (res_main_while0b_v44 V0)) (constant S_ .f32 0x00000000#32) reducesTo_S8x16384x96_S8x16384_d2 h_S_) : (Proc.devRef .tc main_while0b_v47 : DevRef τ sig).ty.Contents (Elt F)) = Cert.ReferenceIdeal.Step.b43 j s := by
  unfold Cert.ReferenceIdeal.Step.b43
  rw [← al_42 h]
  try rfl
set_option maxRecDepth 8192 in
theorem al_44 (h : Holds V0 s j) : (Host.negf (Host.sqrt (Host.reduceAdd (mulf (res_main_while0b_v44 V0) (res_main_while0b_v44 V0)) (constant S_ .f32 0x00000000#32) reducesTo_S8x16384x96_S8x16384_d2 h_S_)) : (Proc.devRef .tc main_while0b_v48 : DevRef τ sig).ty.Contents (Elt F)) = Cert.ReferenceIdeal.Step.b44 j s := by
  unfold Cert.ReferenceIdeal.Step.b44
  rw [← al_43 h]
  try rfl
set_option maxRecDepth 8192 in
theorem al_45 (h : Holds V0 s j) : (constant S_ .f32 0x41A00000#32 : (Proc.devRef .tc main_while0b_cst_21 : DevRef τ sig).ty.Contents (Elt F)) = Cert.ReferenceIdeal.Step.b45 j s := by
  unfold Cert.ReferenceIdeal.Step.b45
  rfl
set_option maxRecDepth 8192 in
theorem al_46 (h : Holds V0 s j) : (broadcastInDim S8x16384 ![] bcast_S_S8x16384 (constant S_ .f32 0x41A00000#32) : (Proc.devRef .tc main_while0b_v49 : DevRef τ sig).ty.Contents (Elt F)) = Cert.ReferenceIdeal.Step.b46 j s := by
  unfold Cert.ReferenceIdeal.Step.b46
  rw [← al_45 h]
  try rfl
set_option maxRecDepth 8192 in
theorem al_47 (h : Holds V0 s j) : (Host.divf (Host.negf (Host.sqrt (Host.reduceAdd (mulf (res_main_while0b_v44 V0) (res_main_while0b_v44 V0)) (constant S_ .f32 0x00000000#32) reducesTo_S8x16384x96_S8x16384_d2 h_S_))) (broadcastInDim S8x16384 ![] bcast_S_S8x16384 (constant S_ .f32 0x41A00000#32)) : (Proc.devRef .tc main_while0b_v50 : DevRef τ sig).ty.Contents (Elt F)) = Cert.ReferenceIdeal.Step.b47 j s := by
  unfold Cert.ReferenceIdeal.Step.b47
  rw [← al_44 h, ← al_46 h]
  try rfl
set_option maxRecDepth 8192 in
theorem al_48 (h : Holds V0 s j) : (res_main_while0b_v51 V0 : (Proc.devRef .tc main_while0b_v51 : DevRef τ sig).ty.Contents (Elt F)) = Cert.ReferenceIdeal.Step.b48 j s := by
  unfold res_main_while0b_v51 Cert.ReferenceIdeal.Step.b48
  rw [← al_47 h]
  try rfl
set_option maxRecDepth 8192 in
theorem al_49 (h : Holds V0 s j) : (constant S_ .f32 0x00000000#32 : (Proc.devRef .tc main_while0b_cst_22 : DevRef τ sig).ty.Contents (Elt F)) = Cert.ReferenceIdeal.Step.b49 j s := by
  unfold Cert.ReferenceIdeal.Step.b49
  rfl
set_option maxRecDepth 8192 in
theorem al_50 (h : Holds V0 s j) : (Host.reduceAdd (res_main_while0b_v51 V0) (constant S_ .f32 0x00000000#32) reducesTo_S8x16384_S8_d1 h_S_ : (Proc.devRef .tc main_while0b_v52 : DevRef τ sig).ty.Contents (Elt F)) = Cert.ReferenceIdeal.Step.b50 j s := by
  unfold Cert.ReferenceIdeal.Step.b50
  rw [← al_48 h, ← al_49 h]
  try rfl
set_option maxRecDepth 8192 in
theorem al_51 (h : Holds V0 s j) : (broadcastInDim S8x1 ![0] bcast_S8_S8x1_0 (Host.reduceAdd (res_main_while0b_v51 V0) (constant S_ .f32 0x00000000#32) reducesTo_S8x16384_S8_d1 h_S_) : (Proc.devRef .tc main_while0b_v53 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (broadcastInDim S8x16384 ![0, 1] bcast_S8x1_S8x16384_0_1 (broadcastInDim S8x1 ![0] bcast_S8_S8x1_0 (Host.reduceAdd (res_main_while0b_v51 V0) (constant S_ .f32 0x00000000#32) reducesTo_S8x16384_S8_d1 h_S_)) : (Proc.devRef .tc main_while0b_v54 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (Host.divf (res_main_while0b_v51 V0) (broadcastInDim S8x16384 ![0, 1] bcast_S8x1_S8x16384_0_1 (broadcastInDim S8x1 ![0] bcast_S8_S8x1_0 (Host.reduceAdd (res_main_while0b_v51 V0) (constant S_ .f32 0x00000000#32) reducesTo_S8x16384_S8_d1 h_S_))) : (Proc.devRef .tc main_while0b_v55 : DevRef τ sig).ty.Contents (Elt F)) = Cert.ReferenceIdeal.Step.b53 j s := by
  unfold Cert.ReferenceIdeal.Step.b53
  rw [← al_48 h, ← al_52 h]
  try rfl
set_option maxRecDepth 8192 in
theorem al_54 (h : Holds V0 s j) : (broadcastInDim S8x16384x1 ![0, 1] bcast_S8x16384_S8x16384x1_0_1 (Host.divf (res_main_while0b_v51 V0) (broadcastInDim S8x16384 ![0, 1] bcast_S8x1_S8x16384_0_1 (broadcastInDim S8x1 ![0] bcast_S8_S8x1_0 (Host.reduceAdd (res_main_while0b_v51 V0) (constant S_ .f32 0x00000000#32) reducesTo_S8x16384_S8_d1 h_S_)))) : (Proc.devRef .tc main_while0b_v56 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (broadcastInDim S8x16384x96 ![0, 1, 2] bcast_S8x16384x1_S8x16384x96_0_1_2 (broadcastInDim S8x16384x1 ![0, 1] bcast_S8x16384_S8x16384x1_0_1 (Host.divf (res_main_while0b_v51 V0) (broadcastInDim S8x16384 ![0, 1] bcast_S8x1_S8x16384_0_1 (broadcastInDim S8x1 ![0] bcast_S8_S8x1_0 (Host.reduceAdd (res_main_while0b_v51 V0) (constant S_ .f32 0x00000000#32) reducesTo_S8x16384_S8_d1 h_S_))))) : (Proc.devRef .tc main_while0b_v57 : DevRef τ sig).ty.Contents (Elt F)) = Cert.ReferenceIdeal.Step.b55 j s := by
  unfold Cert.ReferenceIdeal.Step.b55
  rw [← al_54 h]
  try rfl
set_option maxRecDepth 8192 in
theorem al_56 (h : Holds V0 s j) : (mulf (V0 (Proc.devRef .tc main_v9_1)) (broadcastInDim S8x16384x96 ![0, 1, 2] bcast_S8x16384x1_S8x16384x96_0_1_2 (broadcastInDim S8x16384x1 ![0, 1] bcast_S8x16384_S8x16384x1_0_1 (Host.divf (res_main_while0b_v51 V0) (broadcastInDim S8x16384 ![0, 1] bcast_S8x1_S8x16384_0_1 (broadcastInDim S8x1 ![0] bcast_S8_S8x1_0 (Host.reduceAdd (res_main_while0b_v51 V0) (constant S_ .f32 0x00000000#32) reducesTo_S8x16384_S8_d1 h_S_)))))) : (Proc.devRef .tc main_while0b_v58 : DevRef τ sig).ty.Contents (Elt F)) = Cert.ReferenceIdeal.Step.b56 j s := by
  unfold Cert.ReferenceIdeal.Step.b56
  rw [← al_55 h, h.f_1]
  try rfl
set_option maxRecDepth 8192 in
theorem al_57 (h : Holds V0 s j) : (constant S_ .f32 0x00000000#32 : (Proc.devRef .tc main_while0b_cst_23 : DevRef τ sig).ty.Contents (Elt F)) = Cert.ReferenceIdeal.Step.b57 j s := by
  unfold Cert.ReferenceIdeal.Step.b57
  rfl
set_option maxRecDepth 8192 in
theorem al_58 (h : Holds V0 s j) : (Host.reduceAdd (mulf (V0 (Proc.devRef .tc main_v9_1)) (broadcastInDim S8x16384x96 ![0, 1, 2] bcast_S8x16384x1_S8x16384x96_0_1_2 (broadcastInDim S8x16384x1 ![0, 1] bcast_S8x16384_S8x16384x1_0_1 (Host.divf (res_main_while0b_v51 V0) (broadcastInDim S8x16384 ![0, 1] bcast_S8x1_S8x16384_0_1 (broadcastInDim S8x1 ![0] bcast_S8_S8x1_0 (Host.reduceAdd (res_main_while0b_v51 V0) (constant S_ .f32 0x00000000#32) reducesTo_S8x16384_S8_d1 h_S_))))))) (constant S_ .f32 0x00000000#32) reducesTo_S8x16384x96_S8x96_d1 h_S_ : (Proc.devRef .tc main_while0b_v59 : DevRef τ sig).ty.Contents (Elt F)) = Cert.ReferenceIdeal.Step.b58 j s := by
  unfold Cert.ReferenceIdeal.Step.b58
  rw [← al_56 h, ← al_57 h]
  try rfl
set_option maxRecDepth 8192 in
theorem al_59 (h : Holds V0 s j) : (constant S_ .f32 0x3F800000#32 : (Proc.devRef .tc main_while0b_cst_24 : DevRef τ sig).ty.Contents (Elt F)) = Cert.ReferenceIdeal.Step.b59 j s := by
  unfold Cert.ReferenceIdeal.Step.b59
  rfl
set_option maxRecDepth 8192 in
theorem al_60 (h : Holds V0 s j) : (broadcastInDim S8x16384 ![] bcast_S_S8x16384 (constant S_ .f32 0x3F800000#32) : (Proc.devRef .tc main_while0b_v60 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (subf (broadcastInDim S8x16384 ![] bcast_S_S8x16384 (constant S_ .f32 0x3F800000#32)) (res_main_while0b_v51 V0) : (Proc.devRef .tc main_while0b_v61 : DevRef τ sig).ty.Contents (Elt F)) = Cert.ReferenceIdeal.Step.b61 j s := by
  unfold Cert.ReferenceIdeal.Step.b61
  rw [← al_60 h, ← al_48 h]
  try rfl
set_option maxRecDepth 8192 in
theorem al_62 (h : Holds V0 s j) : (res_main_while0b_v62 V0 : (Proc.devRef .tc main_while0b_v62 : DevRef τ sig).ty.Contents (Elt F)) = Cert.ReferenceIdeal.Step.b62 j s := by
  unfold res_main_while0b_v62 Cert.ReferenceIdeal.Step.b62
  rw [← al_61 h, h.f_4]
  try rfl
set_option maxRecDepth 8192 in
theorem al_63 (h : Holds V0 s j) : (res_main_while0b_call0_v0 V0 : (Proc.devRef .tc main_while0b_call0_v0 : DevRef τ sig).ty.Contents (Elt F)) = Cert.ReferenceIdeal.Step.b63 j s := by
  unfold res_main_while0b_call0_v0 Cert.ReferenceIdeal.Step.b63
  rfl
set_option maxRecDepth 8192 in
theorem al_64 (h : Holds V0 s j) : (res_main_while0b_call0_cst V0 : (Proc.devRef .tc main_while0b_call0_cst : DevRef τ sig).ty.Contents (Elt F)) = Cert.ReferenceIdeal.Step.b64 j s := by
  unfold res_main_while0b_call0_cst Cert.ReferenceIdeal.Step.b64
  rfl
set_option maxRecDepth 8192 in
theorem al_65 (h : Holds V0 s j) : (res_main_while0b_call0_c V0 : (Proc.devRef .tc main_while0b_call0_c : DevRef τ sig).ty.Contents (Elt F)) = Cert.ReferenceIdeal.Step.b65 j s := by
  unfold res_main_while0b_call0_c Cert.ReferenceIdeal.Step.b65
  rfl
set_option maxRecDepth 8192 in
theorem al_66 (h : Holds V0 s j) : ((fun k => (Host.argReduce reducer_argmax_f32_i32 (res_main_while0b_v62 V0) (res_main_while0b_call0_v0 V0) (res_main_while0b_call0_cst V0) (res_main_while0b_call0_c V0) reducesTo_S8x16384_S8_d1 h_S_ k).1) : (Proc.devRef .tc main_while0b_call0_v1_0 : DevRef τ sig).ty.Contents (Elt F)) = Cert.ReferenceIdeal.Step.b66 j s := by
  unfold Cert.ReferenceIdeal.Step.b66
  rw [← al_62 h, ← al_63 h, ← al_64 h, ← al_65 h]
  try rfl
set_option maxRecDepth 8192 in
theorem al_67 (h : Holds V0 s j) : ((fun k => (Host.argReduce reducer_argmax_f32_i32 (res_main_while0b_v62 V0) (res_main_while0b_call0_v0 V0) (res_main_while0b_call0_cst V0) (res_main_while0b_call0_c V0) reducesTo_S8x16384_S8_d1 h_S_ k).2) : (Proc.devRef .tc main_while0b_v63 : DevRef τ sig).ty.Contents (Elt F)) = Cert.ReferenceIdeal.Step.b67 j s := by
  unfold Cert.ReferenceIdeal.Step.b67
  rw [← al_62 h, ← al_63 h, ← al_64 h, ← al_65 h]
  try rfl
set_option maxRecDepth 8192 in
theorem al_68 (h : Holds V0 s j) : (broadcastInDim S8x1 ![0] bcast_S8_S8x1_0 ((fun k => (Host.argReduce reducer_argmax_f32_i32 (res_main_while0b_v62 V0) (res_main_while0b_call0_v0 V0) (res_main_while0b_call0_cst V0) (res_main_while0b_call0_c V0) reducesTo_S8x16384_S8_d1 h_S_ k).2)) : (Proc.devRef .tc main_while0b_v64 : DevRef τ sig).ty.Contents (Elt F)) = Cert.ReferenceIdeal.Step.b68 j s := by
  unfold Cert.ReferenceIdeal.Step.b68
  rw [← al_67 h]
  try rfl
set_option maxRecDepth 8192 in
theorem al_69 (h : Holds V0 s j) : (broadcastInDim S1x8x96 ![1, 2] bcast_S8x96_S1x8x96_1_2 (Host.reduceAdd (mulf (V0 (Proc.devRef .tc main_v9_1)) (broadcastInDim S8x16384x96 ![0, 1, 2] bcast_S8x16384x1_S8x16384x96_0_1_2 (broadcastInDim S8x16384x1 ![0, 1] bcast_S8x16384_S8x16384x1_0_1 (Host.divf (res_main_while0b_v51 V0) (broadcastInDim S8x16384 ![0, 1] bcast_S8x1_S8x16384_0_1 (broadcastInDim S8x1 ![0] bcast_S8_S8x1_0 (Host.reduceAdd (res_main_while0b_v51 V0) (constant S_ .f32 0x00000000#32) reducesTo_S8x16384_S8_d1 h_S_))))))) (constant S_ .f32 0x00000000#32) reducesTo_S8x16384x96_S8x96_d1 h_S_) : (Proc.devRef .tc main_while0b_call1_v0 : DevRef τ sig).ty.Contents (Elt F)) = Cert.ReferenceIdeal.Step.b69 j s := by
  unfold Cert.ReferenceIdeal.Step.b69
  rw [← al_58 h]
  try rfl
set_option maxRecDepth 8192 in
theorem al_70 (h : Holds V0 s j) : (constantI S_ 32 0#32 : (Proc.devRef .tc main_while0b_call1_c : DevRef τ sig).ty.Contents (Elt F)) = Cert.ReferenceIdeal.Step.b70 j s := by
  unfold Cert.ReferenceIdeal.Step.b70
  rfl
set_option maxRecDepth 8192 in
theorem al_71 (h : Holds V0 s j) : (constantI S_ 32 0#32 : (Proc.devRef .tc main_while0b_call1_c_0 : DevRef τ sig).ty.Contents (Elt F)) = Cert.ReferenceIdeal.Step.b71 j s := by
  unfold Cert.ReferenceIdeal.Step.b71
  rfl
set_option maxRecDepth 8192 in
theorem al_72 (h : Holds V0 s j) : (Host.dynamicUpdateSlice (V0 (Proc.devRef .tc main_v9_6)) (broadcastInDim S1x8x96 ![1, 2] bcast_S8x96_S1x8x96_1_2 (Host.reduceAdd (mulf (V0 (Proc.devRef .tc main_v9_1)) (broadcastInDim S8x16384x96 ![0, 1, 2] bcast_S8x16384x1_S8x16384x96_0_1_2 (broadcastInDim S8x16384x1 ![0, 1] bcast_S8x16384_S8x16384x1_0_1 (Host.divf (res_main_while0b_v51 V0) (broadcastInDim S8x16384 ![0, 1] bcast_S8x1_S8x16384_0_1 (broadcastInDim S8x1 ![0] bcast_S8_S8x1_0 (Host.reduceAdd (res_main_while0b_v51 V0) (constant S_ .f32 0x00000000#32) reducesTo_S8x16384_S8_d1 h_S_))))))) (constant S_ .f32 0x00000000#32) reducesTo_S8x16384x96_S8x96_d1 h_S_)) (fun k => (((![V0 (Proc.devRef .tc main_v9_2), constantI S_ 32 0#32, constantI S_ 32 0#32] : Fin 3 → (⟨S_, .i32⟩ : BufTy).Contents (Elt F))) k (Shape.Idx.first h_S_)).toInt) updateFits_S8x8x96_S1x8x96 : (Proc.devRef .tc main_while0b_v65 : DevRef τ sig).ty.Contents (Elt F)) = Cert.ReferenceIdeal.Step.b72 j s := by
  unfold Cert.ReferenceIdeal.Step.b72
  rw [← al_69 h, ← al_70 h, ← al_71 h, h.f_6, h.n_2]
  try rfl
set_option maxRecDepth 8192 in
theorem al_73 (h : Holds V0 s j) : (broadcastInDim S1x8x16384 ![1, 2] bcast_S8x16384_S1x8x16384_1_2 (res_main_while0b_v51 V0) : (Proc.devRef .tc main_while0b_call2_v0 : DevRef τ sig).ty.Contents (Elt F)) = Cert.ReferenceIdeal.Step.b73 j s := by
  unfold Cert.ReferenceIdeal.Step.b73
  rw [← al_48 h]
  try rfl
set_option maxRecDepth 8192 in
theorem al_74 (h : Holds V0 s j) : (constantI S_ 32 0#32 : (Proc.devRef .tc main_while0b_call2_c : DevRef τ sig).ty.Contents (Elt F)) = Cert.ReferenceIdeal.Step.b74 j s := by
  unfold Cert.ReferenceIdeal.Step.b74
  rfl
set_option maxRecDepth 8192 in
theorem al_75 (h : Holds V0 s j) : (constantI S_ 32 0#32 : (Proc.devRef .tc main_while0b_call2_c_0 : DevRef τ sig).ty.Contents (Elt F)) = Cert.ReferenceIdeal.Step.b75 j s := by
  unfold Cert.ReferenceIdeal.Step.b75
  rfl
set_option maxRecDepth 8192 in
theorem al_76 (h : Holds V0 s j) : (Host.dynamicUpdateSlice (V0 (Proc.devRef .tc main_v9_7)) (broadcastInDim S1x8x16384 ![1, 2] bcast_S8x16384_S1x8x16384_1_2 (res_main_while0b_v51 V0)) (fun k => (((![V0 (Proc.devRef .tc main_v9_2), constantI S_ 32 0#32, constantI S_ 32 0#32] : Fin 3 → (⟨S_, .i32⟩ : BufTy).Contents (Elt F))) k (Shape.Idx.first h_S_)).toInt) updateFits_S8x8x16384_S1x8x16384 : (Proc.devRef .tc main_while0b_v66 : DevRef τ sig).ty.Contents (Elt F)) = Cert.ReferenceIdeal.Step.b76 j s := by
  unfold Cert.ReferenceIdeal.Step.b76
  rw [← al_73 h, ← al_74 h, ← al_75 h, h.f_7, h.n_2]
  try rfl

/-! One trip's step of the carried values is `step`, field by field; a counter steps to the next number. -/

theorem step_3 (h : Holds V0 s j) : step_main_v9_3 V0 = (step j s).main_v9_3 := by
  unfold step_main_v9_3
  rw [Cert.ReferenceIdeal.Step.step_main_v9_3]
  exact al_68 h
theorem step_4 (h : Holds V0 s j) : step_main_v9_4 V0 = (step j s).main_v9_4 := by
  unfold step_main_v9_4
  rw [Cert.ReferenceIdeal.Step.step_main_v9_4]
  exact al_62 h
theorem step_5 (h : Holds V0 s j) : step_main_v9_5 V0 = (step j s).main_v9_5 := by
  unfold step_main_v9_5
  rw [Cert.ReferenceIdeal.Step.step_main_v9_5]
  exact al_37 h
theorem step_6 (h : Holds V0 s j) : step_main_v9_6 V0 = (step j s).main_v9_6 := by
  unfold step_main_v9_6
  rw [Cert.ReferenceIdeal.Step.step_main_v9_6]
  exact al_72 h
theorem step_7 (h : Holds V0 s j) : step_main_v9_7 V0 = (step j s).main_v9_7 := by
  unfold step_main_v9_7
  rw [Cert.ReferenceIdeal.Step.step_main_v9_7]
  exact al_76 h
theorem step_2 (h : Holds V0 s j) : step_main_v9_2 V0 = constantI S_ 32 (BitVec.ofNat 32 (j + 1)) := by
  unfold step_main_v9_2
  rw [h.n_2]
  funext i
  show BitVec.ofNat 32 j + 1#32 = BitVec.ofNat 32 (j + 1)
  simp only [BitVec.ofNat_add]

set_option maxRecDepth 8192 in
theorem out_main_v10_holds (h : Holds V0 s j) : out_main_v10 V0 = Cert.ReferenceIdeal.Step.R_main_v10 s := by
  unfold out_main_v10 Cert.ReferenceIdeal.Step.R_main_v10
  rw [h.f_6]
  try rfl

set_option maxRecDepth 8192 in
theorem out_main_v12_holds (h : Holds V0 s j) : out_main_v12 V0 = Cert.ReferenceIdeal.Step.R_main_v12 s := by
  unfold out_main_v12 Cert.ReferenceIdeal.Step.R_main_v12
  rw [h.f_7]
  try rfl

set_option maxRecDepth 8192 in
theorem out_main_v13_holds (h : Holds V0 s j) : out_main_v13 V0 = Cert.ReferenceIdeal.Step.R_main_v13 s := by
  unfold out_main_v13 Cert.ReferenceIdeal.Step.R_main_v13
  rw [h.f_5]
  try rfl

/-- One trip keeps the valuation holding: `step` of the state, the same set-up values, the next number. -/
theorem holds_step (h : Holds V0 s j) : Holds (STEP V0) (step j s) (j + 1) where
  f_3 := (STEP_main_v9_3 V0).trans (step_3 h)
  f_4 := (STEP_main_v9_4 V0).trans (step_4 h)
  f_5 := (STEP_main_v9_5 V0).trans (step_5 h)
  f_6 := (STEP_main_v9_6 V0).trans (step_6 h)
  f_7 := (STEP_main_v9_7 V0).trans (step_7 h)
  n_2 := (STEP_main_v9_2 V0).trans (step_2 h)
  k_0 := (STEP_main_v9_0 V0).trans h.k_0
  f_1 := ((STEP_main_v9_1 V0).trans h.f_1).trans (Cert.ReferenceIdeal.Step.step_main_v9_1 j s).symm

/-- The state the first trip starts from, of the memory the run starts from. -/
abbrev initState (m : (ℓ : Loc nD τ sig) → Buf (Elt F) ℓ) (c : Dev nD) : State F :=
  init (m ((c.tc : Thread nD τ).loc main_arg0))

variable (m : (ℓ : Loc nD τ sig) → Buf (Elt F) ℓ) (c : Dev nD)

set_option maxRecDepth 65536 in
set_option maxHeartbeats 300000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 8 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v10) = Cert.ReferenceIdeal.Step.R_main_v10 (it c 8)
      ∧ r.2.mem ((c.tc : Thread nD τ).loc main_v12) = Cert.ReferenceIdeal.Step.R_main_v12 (it c 8)
      ∧ r.2.mem ((c.tc : Thread nD τ).loc main_v13) = Cert.ReferenceIdeal.Step.R_main_v13 (it c 8)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    have hk := holds_iter m c (it c) (h0 c) (hs c) 8
    ⟨(h c).1.trans (out_main_v10_holds hk), (h c).2.1.trans (out_main_v12_holds hk), (h c).2.2.1.trans (out_main_v13_holds hk), (h c).2.2.2.1, (h c).2.2.2.2⟩) (Value.run m ρ)

end Cert.ReferenceIdeal.StepRun

end
-- ==== Proof.Finite.lean ====
/-
  What the precondition says: every element of the first argument is finite, so the argument is eight real pictures.
-/
module

public import proofs.«01_k».proof.Pre_finite
public import proofs.«01_k».proof.Proof.Math
public import Idealize.ShloMosaic.Lib.ReduceAll
public import Idealize.ShloMosaic.Lib.IdealHost
public import Idealize.ShloMosaic.Lib.Pointwise

@[expose] public section

noncomputable section

namespace Cert.Proof.Finite

open Cert.Pre_finite Cert.Proof.Math
open Cert.Proof.Sel (flat)
open Idealize.ShloMosaic

theorem facts : Cert.Pre_finite.Facts := ⟨by decide, by decide, by decide⟩

/-- The printed predicate at ones: no element is infinite. -/
theorem finite_of_pre [Cert.Pre_finite.Facts] (x : FVec Ideal S8x96x128x128 .f32) (y : IVec S_ 1) (h : Cert.Pre_finite.fn (F := Ideal) x y = fun _ => 1#1)
    (i : S8x96x128x128.Idx) : (x i : EReal) ≠ ⊥ ∧ (x i : EReal) ≠ ⊤ := by
  have : Subsingleton S_.Idx := ⟨fun a b => funext fun k => k.elim0⟩
  obtain ⟨h1, h2⟩ := IntOp.andi_eq_one.1 (Host.reduce_andi_all _ _ _ _ ix0 (congrFun h ix0) i)
  have e1 : Ideal.ofBits .f32 0xFF800000#32 = ⊥ := by simp [Ideal.ofBits, Ideal.ieee]
  have e2 : Ideal.ofBits .f32 0x7F800000#32 = ⊤ := by simp [Ideal.ofBits, Ideal.ieee]
  change Ideal.cmp .ogt (x i) (Ideal.ofBits .f32 0xFF800000#32) = 1#1 at h1
  change Ideal.cmp .olt (x i) (Ideal.ofBits .f32 0x7F800000#32) = 1#1 at h2
  rw [e1] at h1
  rw [e2] at h2
  simp only [Ideal.cmp] at h1 h2
  exact ⟨fun e => by simp [e] at h1, fun e => by simp [e] at h2⟩

/-- The pictures of an array. -/
def pics (x : FVec Ideal S8x96x128x128 .f32) (b : Fin 8) : Pic := fun c p =>
  (x (ix4 b c (⟨p.val / 128, by omega⟩ : Fin 128) (⟨p.val % 128, by omega⟩ : Fin 128)) : EReal).toReal

theorem pics_at [Cert.Pre_finite.Facts] (x : FVec Ideal S8x96x128x128 .f32) (y : IVec S_ 1) (h : Cert.Pre_finite.fn (F := Ideal) x y = fun _ => 1#1)
    (b : Fin 8) (c : Fin 96) (u v : Fin 128) : x (ix4 b c u v) = (pics x b c (flat u v) : EReal) := by
  obtain ⟨h1, h2⟩ := finite_of_pre x y h (ix4 b c u v)
  have eu : (⟨(flat u v).val / 128, by have := (flat u v).isLt; omega⟩ : Fin 128) = u := Fin.ext (by simp only [flat]; omega)
  have ev : (⟨(flat u v).val % 128, by omega⟩ : Fin 128) = v := Fin.ext (by simp only [flat]; omega)
  unfold pics
  rw [eu, ev, EReal.coe_toReal h2 h1]

end Cert.Proof.Finite

end
-- ==== Proof.lean ====
/-
  The proof of `Cert.Claim`. The kernel's run leaves what the recursion over the steps stores (Proof/KRun.lean), the
  reference's what eight trips of its loop make (Proof/RefStepRun.lean); over finite pictures each is the same function
  of them (Proof/KArr.lean, Proof/RVal.lean, stated in Proof/Math.lean).
-/
module

public import proofs.«01_k».proof.Defs
public import proofs.«01_k».proof.Proof.KArr
public import proofs.«01_k».proof.Proof.RVal
public import proofs.«01_k».proof.Proof.RefStepRun
public import proofs.«01_k».proof.Proof.Finite
public import Idealize.ShloMosaic.Lib.Quiescent

@[expose] public section

set_option maxRecDepth 16384

noncomputable section

namespace Cert.Proof

open Idealize.ShloMosaic Idealize.SL.Sem

/-! ## The reference's run -/

/-- The reference ends with its results at the eighth state and its arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v10) = Cert.ReferenceIdeal.Step.R_main_v10 (RVal.it (m ((c.tc : Thread Cert.ReferenceIdeal.nD Cert.ReferenceIdeal.τ).loc Cert.ReferenceIdeal.main_arg0)) 8)
        ∧ r.2.mem ((c.tc : Thread Cert.ReferenceIdeal.nD Cert.ReferenceIdeal.τ).loc Cert.ReferenceIdeal.main_v12) = Cert.ReferenceIdeal.Step.R_main_v12 (RVal.it (m ((c.tc : Thread Cert.ReferenceIdeal.nD Cert.ReferenceIdeal.τ).loc Cert.ReferenceIdeal.main_arg0)) 8)
        ∧ r.2.mem ((c.tc : Thread Cert.ReferenceIdeal.nD Cert.ReferenceIdeal.τ).loc Cert.ReferenceIdeal.main_v13) = Cert.ReferenceIdeal.Step.R_main_v13 (RVal.it (m ((c.tc : Thread Cert.ReferenceIdeal.nD Cert.ReferenceIdeal.τ).loc Cert.ReferenceIdeal.main_arg0)) 8)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) :=
  Cert.ReferenceIdeal.StepRun.run_iter m ρ
    (fun c n => RVal.it (m ((c.tc : Thread Cert.ReferenceIdeal.nD Cert.ReferenceIdeal.τ).loc Cert.ReferenceIdeal.main_arg0)) n)
    (fun _ => rfl) (fun _ _ => rfl)

theorem ref_frame : Cert.quiescent_ReferenceIdeal := fun m ρ _ =>
  (θ_run _ _ _).mono (fun r h => ⟨fun c => (h c).2.2.2, sem_eq_zero_of_no_sems (by decide) _⟩) (ref_run m ρ)

theorem kernel_frame : Cert.quiescent_KernelIdeal := fun m ρ _ => KRun.frame m ρ

/-! ## The values -/

theorem values [Cert.Pre_finite.Facts] : Cert.algebraic_KernelIdeal_ReferenceIdeal_pre_finite := by
  intro m g m' g' hpre hagree
  have hpic := fun c : Dev Cert.KernelIdeal.nD => Finite.pics_at _ _ (hpre c)
  have hK : ∀ c : Dev Cert.KernelIdeal.nD, KArr.Holds m c (Finite.pics (m ((c.tc : Thread Cert.KernelIdeal.nD Cert.KernelIdeal.τ).loc Cert.KernelIdeal.main_arg0))) :=
    fun c b d u v => hpic c b d u v
  have hR : ∀ c : Dev Cert.KernelIdeal.nD, RVal.Holds (m ((c.tc : Thread Cert.KernelIdeal.nD Cert.KernelIdeal.τ).loc Cert.KernelIdeal.main_arg0))
      (Finite.pics (m ((c.tc : Thread Cert.KernelIdeal.nD Cert.KernelIdeal.τ).loc Cert.KernelIdeal.main_arg0))) := fun c b d u v => hpic c b d u v
  refine ⟨fun c : Dev Cert.KernelIdeal.nD => Cert.ReferenceIdeal.Step.R_main_v10 (RVal.it (m ((c.tc : Thread Cert.KernelIdeal.nD Cert.KernelIdeal.τ).loc Cert.KernelIdeal.main_arg0)) 8),
    fun c : Dev Cert.KernelIdeal.nD => Cert.ReferenceIdeal.Step.R_main_v12 (RVal.it (m ((c.tc : Thread Cert.KernelIdeal.nD Cert.KernelIdeal.τ).loc Cert.KernelIdeal.main_arg0)) 8),
    fun c : Dev Cert.KernelIdeal.nD => Cert.ReferenceIdeal.Step.R_main_v13 (RVal.it (m ((c.tc : Thread Cert.KernelIdeal.nD Cert.KernelIdeal.τ).loc Cert.KernelIdeal.main_arg0)) 8), ?_, ?_⟩
  · refine θ_run_mono (θ_run_and (KRun.run_main m g) (KRun.frame m g)) ?_
    rintro r ⟨h, hf⟩ c
    exact ⟨((h c).1 1).trans (KArr.final1 (hK c) _ (RVal.res0 (hR c))), ((h c).1 2).trans (KArr.final2 (hK c) _ (RVal.res1 (hR c))),
      ((h c).1 3).trans (KArr.final3 (hK c) _ (RVal.res2 (hR c))), hf.1 c⟩
  · refine θ_run_mono (ref_run m' g') ?_
    intro r h c
    have hc := h c
    simp only [(hagree c).1, (hagree c).2] at hc ⊢
    exact hc

theorem claim : Cert.Claim :=
  ⟨Cert.KernelIdeal.Gen.facts, Cert.ReferenceIdeal.Gen.facts, Finite.facts, kernel_frame, fun m ρ _ => kernel_frame m ρ trivial,
    ref_frame, fun m ρ _ => ref_frame m ρ trivial,
    @values Finite.facts⟩

end Cert.Proof

end
